-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "ca" .f32 0x3D122279#32 ((80338380498831 / 2251799813685248 : ℝ) : EReal)
  ∧ IdealRules.named_const.Statement Cert.Kernel2Ideal.κ "ca3" .f32 0x3DDB33B6#32 ((241015141496493 / 2251799813685248 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v43_0)) (v1 : (c : Dev Cert.Kernel2Ideal.nD) → Buf (Elt Ideal) ((c.tc : Thread Cert.Kernel2Ideal.nD Cert.Kernel2Ideal.τ).loc Cert.Kernel2Ideal.main_v43_1)) (v2 : (c : Dev Cert.Kernel2Ideal.nD) → Buf (Elt Ideal) ((c.tc : Thread Cert.Kernel2Ideal.nD Cert.Kernel2Ideal.τ).loc Cert.Kernel2Ideal.main_v43_2)) (v3 : (c : Dev Cert.Kernel2Ideal.nD) → Buf (Elt Ideal) ((c.tc : Thread Cert.Kernel2Ideal.nD Cert.Kernel2Ideal.τ).loc Cert.Kernel2Ideal.main_v43_3)) (v4 : (c : Dev Cert.Kernel2Ideal.nD) → Buf (Elt Ideal) ((c.tc : Thread Cert.Kernel2Ideal.nD Cert.Kernel2Ideal.τ).loc Cert.Kernel2Ideal.main_v43_4)) (v5 : (c : Dev Cert.Kernel2Ideal.nD) → Buf (Elt Ideal) ((c.tc : Thread Cert.Kernel2Ideal.nD Cert.Kernel2Ideal.τ).loc Cert.Kernel2Ideal.main_v43_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43_0) = v0 c
          ∧ r.2.mem ((c.tc : Thread Cert.Kernel2Ideal.nD Cert.Kernel2Ideal.τ).loc Cert.Kernel2Ideal.main_v43_1) = v1 c
          ∧ r.2.mem ((c.tc : Thread Cert.Kernel2Ideal.nD Cert.Kernel2Ideal.τ).loc Cert.Kernel2Ideal.main_v43_2) = v2 c
          ∧ r.2.mem ((c.tc : Thread Cert.Kernel2Ideal.nD Cert.Kernel2Ideal.τ).loc Cert.Kernel2Ideal.main_v43_3) = v3 c
          ∧ r.2.mem ((c.tc : Thread Cert.Kernel2Ideal.nD Cert.Kernel2Ideal.τ).loc Cert.Kernel2Ideal.main_v43_4) = v4 c
          ∧ r.2.mem ((c.tc : Thread Cert.Kernel2Ideal.nD Cert.Kernel2Ideal.τ).loc Cert.Kernel2Ideal.main_v43_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v185) = v0 c
          ∧ r.2.mem ((c.tc : Thread Cert.Reference2Ideal.nD Cert.Reference2Ideal.τ).loc Cert.Reference2Ideal.main_v186) = v1 c
          ∧ r.2.mem ((c.tc : Thread Cert.Reference2Ideal.nD Cert.Reference2Ideal.τ).loc Cert.Reference2Ideal.main_v187) = v2 c
          ∧ r.2.mem ((c.tc : Thread Cert.Reference2Ideal.nD Cert.Reference2Ideal.τ).loc Cert.Reference2Ideal.main_v188) = v3 c
          ∧ r.2.mem ((c.tc : Thread Cert.Reference2Ideal.nD Cert.Reference2Ideal.τ).loc Cert.Reference2Ideal.main_v189) = v4 c
          ∧ r.2.mem ((c.tc : Thread Cert.Reference2Ideal.nD Cert.Reference2Ideal.τ).loc Cert.Reference2Ideal.main_v190) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  IdealRules.named_const.Statement Cert.Kernel12Ideal.κ "ca" .f32 0x3D122279#32 ((80338380498831 / 2251799813685248 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)) (v4 : (c : Dev Cert.Kernel12Ideal.nD) → Buf (Elt Ideal) ((c.tc : Thread Cert.Kernel12Ideal.nD Cert.Kernel12Ideal.τ).loc Cert.Kernel12Ideal.main_v1_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_v1_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v47) = v0 c
          ∧ r.2.mem ((c.tc : Thread Cert.Reference12Ideal.nD Cert.Reference12Ideal.τ).loc Cert.Reference12Ideal.main_v48) = v1 c
          ∧ r.2.mem ((c.tc : Thread Cert.Reference12Ideal.nD Cert.Reference12Ideal.τ).loc Cert.Reference12Ideal.main_v49) = v2 c
          ∧ r.2.mem ((c.tc : Thread Cert.Reference12Ideal.nD Cert.Reference12Ideal.τ).loc Cert.Reference12Ideal.main_v50) = v3 c
          ∧ r.2.mem ((c.tc : Thread Cert.Reference12Ideal.nD Cert.Reference12Ideal.τ).loc Cert.Reference12Ideal.main_v51) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts) (hPre_finite : Cert.Pre_finite.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x1024 : Shape := ⟨2, ![4096, 1024]⟩
abbrev S4096x4096 : Shape := ⟨2, ![4096, 4096]⟩
abbrev S3x8192 : Shape := ⟨2, ![3, 8192]⟩
abbrev S1x8192 : Shape := ⟨2, ![1, 8192]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S3x8192 : S_.BroadcastsInDim S3x8192 (![] : Fin 0 → Fin S3x8192.rank)
  reducesTo_S3x8192_S_d0_1 : S3x8192.ReducesTo [0, 1] S_
  bcast_S_S1x8192 : S_.BroadcastsInDim S1x8192 (![] : Fin 0 → Fin S1x8192.rank)
  reducesTo_S1x8192_S_d0_1 : S1x8192.ReducesTo [0, 1] S_

variable [Facts]

def fn_part1 {F : FTy → Type} [FloatOps F] (main_arg4 : FVec F S3x8192 .f32) (main_arg5 : FVec F S1x8192 .f32) (main_v16 : IVec S_ 1) (main_v17 : FVec F S4096x4096 .f32) : IVec S_ 1 :=
  let main_v18 : FVec F S4096x4096 .f32 := Host.absf main_v17
  let main_cst_4 : FVec F S_ .f32 := constant S_ .f32 0x7F800000#32
  let main_v19 : FVec F S4096x4096 .f32 := broadcastInDim S4096x4096 ![] bcast_S_S4096x4096 main_cst_4
  let main_v20 : IVec S4096x4096 1 := cmpf .olt main_v18 main_v19
  let main_c_5 : IVec S_ 1 := constantI S_ 1 1#1
  let main_v21 : IVec S_ 1 := (fun x v => Host.reduce IntOp.andi x v reducesTo_S4096x4096_S_d0_1 h_S_) main_v20 main_c_5
  let main_v22 : IVec S_ 1 := andi main_v16 main_v21
  let main_v23 : FVec F S3x8192 .f32 := Host.absf main_arg4
  let main_cst_6 : FVec F S_ .f32 := constant S_ .f32 0x7F800000#32
  let main_v24 : FVec F S3x8192 .f32 := broadcastInDim S3x8192 ![] bcast_S_S3x8192 main_cst_6
  let main_v25 : IVec S3x8192 1 := cmpf .olt main_v23 main_v24
  let main_c_7 : IVec S_ 1 := constantI S_ 1 1#1
  let main_v26 : IVec S_ 1 := (fun x v => Host.reduce IntOp.andi x v reducesTo_S3x8192_S_d0_1 h_S_) main_v25 main_c_7
  let main_v27 : IVec S_ 1 := andi main_v22 main_v26
  let main_v28 : FVec F S1x8192 .f32 := Host.absf main_arg5
  let main_cst_8 : FVec F S_ .f32 := constant S_ .f32 0x7F800000#32
  let main_v29 : FVec F S1x8192 .f32 := broadcastInDim S1x8192 ![] bcast_S_S1x8192 main_cst_8
  let main_v30 : IVec S1x8192 1 := cmpf .olt main_v28 main_v29
  let main_c_9 : IVec S_ 1 := constantI S_ 1 1#1
  let main_v31 : IVec S_ 1 := (fun x v => Host.reduce IntOp.andi x v reducesTo_S1x8192_S_d0_1 h_S_) main_v30 main_c_9
  let main_v32 : IVec S_ 1 := andi main_v27 main_v31
  main_v32

def fn {F : FTy → Type} [FloatOps F] (main_arg0 : FVec F S4096x1024 .bf16) (main_arg1 : FVec F S4096x1024 .bf16) (main_arg2 : FVec F S4096x4096 .bf16) (main_arg3 : FVec F S4096x4096 .bf16) (main_arg4 : FVec F S3x8192 .f32) (main_arg5 : FVec F S1x8192 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x4096 .f32 := (extf .f32 · bitsLt_bf16_f32) main_arg2
  let main_v12 : FVec F S4096x4096 .f32 := Host.absf main_v11
  let main_cst_2 : FVec F S_ .f32 := constant S_ .f32 0x7F800000#32
  let main_v13 : FVec F S4096x4096 .f32 := broadcastInDim S4096x4096 ![] bcast_S_S4096x4096 main_cst_2
  let main_v14 : IVec S4096x4096 1 := cmpf .olt main_v12 main_v13
  let main_c_3 : IVec S_ 1 := constantI S_ 1 1#1
  let main_v15 : IVec S_ 1 := (fun x v => Host.reduce IntOp.andi x v reducesTo_S4096x4096_S_d0_1 h_S_) main_v14 main_c_3
  let main_v16 : IVec S_ 1 := andi main_v10 main_v15
  let main_v17 : FVec F S4096x4096 .f32 := (extf .f32 · bitsLt_bf16_f32) main_arg3
  fn_part1 (F := F) main_arg4 main_arg5 main_v16 main_v17
-- ==== Pre_finite_scores.lean ====
abbrev S4096x1024 : Shape := ⟨2, ![4096, 1024]⟩
abbrev S256x2048 : Shape := ⟨2, ![256, 2048]⟩
abbrev S256x1024 : Shape := ⟨2, ![256, 1024]⟩
abbrev S_ : Shape := ⟨0, ![]⟩

class Facts : Prop where
  bitsLt_bf16_f32 : FTy.bits .bf16 < FTy.bits .f32
  slices_S256x2048_S256x1024_0_0 : S256x2048.Slices ![0, 0] S256x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S256x2048 .bf16) (main_arg2 : FVec F S4096x1024 .bf16) : IVec S_ 1 :=
  let main_v0 : FVec F S4096x1024 .f32 := (extf .f32 · bitsLt_bf16_f32) main_arg0
  let main_v1 : FVec F S256x1024 .bf16 := (extractStridedSlice S256x1024 ![0, 0] · slices_S256x2048_S256x1024_0_0) main_arg1
  let main_v2 : FVec F S256x1024 .f32 := (extf .f32 · bitsLt_bf16_f32) main_v1
  let main_v3 : FVec F S4096x1024 .f32 := Host.absf main_v0
  let main_cst : FVec F S_ .f32 := constant S_ .f32 0x7F800000#32
  let main_v4 : FVec F S4096x1024 .f32 := broadcastInDim S4096x1024 ![] bcast_S_S4096x1024 main_cst
  let main_v5 : IVec S4096x1024 1 := cmpf .olt main_v3 main_v4
  let main_c : IVec S_ 1 := constantI S_ 1 1#1
  let main_v6 : IVec S_ 1 := (fun x v => Host.reduce IntOp.andi x v reducesTo_S4096x1024_S_d0_1 h_S_) main_v5 main_c
  let main_v7 : FVec F S256x1024 .f32 := Host.absf main_v2
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v6 main_v10
  main_v11
-- ==== Kernel.lean ====
abbrev S4096x1024 : Shape := ⟨2, ![4096, 1024]⟩
abbrev S256x2048 : Shape := ⟨2, ![256, 2048]⟩
abbrev S512x1024 : Shape := ⟨2, ![512, 1024]⟩
abbrev S256x256 : Shape := ⟨2, ![256, 256]⟩
abbrev S512x256 : Shape := ⟨2, ![512, 256]⟩
abbrev S256x512 : Shape := ⟨2, ![256, 512]⟩
abbrev S512 : Shape := ⟨1, ![512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x1024, .f32⟩
  | .hbm, ⟨6, _⟩ => ⟨S4096x4x256, .f32⟩
  | .hbm, ⟨7, _⟩ => ⟨S256x1024, .f32⟩
  | .hbm, ⟨8, _⟩ => ⟨S256x4x256, .f32⟩
  | .hbm, ⟨9, _⟩ => ⟨S256x1024, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S_, .f32⟩
  | .hbm, ⟨84, _⟩ => ⟨S256x2048, .f32⟩
  | .hbm, ⟨85, _⟩ => ⟨S256x1024, .f32⟩
  | .hbm, ⟨86, _⟩ => ⟨S_, .f32⟩
  | .hbm, ⟨87, _⟩ => ⟨S256x2048, .f32⟩
  | .hbm, ⟨88, _⟩ => ⟨S256x2048, .f32⟩
  | .hbm, ⟨89, _⟩ => ⟨S4096x1024, .f32⟩
  | .hbm, ⟨90, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S3x8192 : Shape := ⟨2, ![3, 8192]⟩
abbrev S1x8192 : Shape := ⟨2, ![1, 8192]⟩
abbrev S3x4096 : Shape := ⟨2, ![3, 4096]⟩
abbrev S1x4096 : Shape := ⟨2, ![1, 4096]⟩
abbrev S_ : Shape := ⟨0, ![]⟩
abbrev S4098x4096 : Shape := ⟨2, ![4098, 4096]⟩
abbrev S8x8192 : Shape := ⟨2, ![8, 8192]⟩
abbrev S8x4096 : Shape := ⟨2, ![8, 4096]⟩
abbrev S512x1024 : Shape := ⟨2, ![512, 1024]⟩
abbrev S8x1024 : Shape := ⟨2, ![8, 1024]⟩
abbrev S1024x1024 : Shape := ⟨2, ![1024, 1024]⟩
abbrev S1x1024 : Shape := ⟨2, ![1, 1024]⟩
abbrev S256x1024 : Shape := ⟨2, ![256, 1024]⟩
abbrev S512x256 : Shape := ⟨2, ![512, 256]⟩
abbrev S8x256 : Shape := ⟨2, ![8, 256]⟩
abbrev S1x256 : Shape := ⟨2, ![1, 256]⟩
abbrev S256 : Shape := ⟨1, ![256]⟩

abbrev nBuf : Space → Nat
  | .hbm => 61
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .hbm, ⟨4, _⟩ => ⟨S3x8192, .f32⟩
  | .hbm, ⟨5, _⟩ => ⟨S1x8192, .f32⟩
  | .hbm, ⟨6, _⟩ => ⟨S3x4096, .f32⟩
  | .hbm, ⟨7, _⟩ => ⟨S1x4096, .f32⟩
  | .hbm, ⟨8, _⟩ => ⟨S4096x4096, .f32⟩
  | .hbm, ⟨9, _⟩ => ⟨S_, .i32⟩
  | .hbm, ⟨10, _⟩ => ⟨S_, .f32⟩
  | .hbm, ⟨11, _⟩ => ⟨S4098x4096, .f32⟩
  | .hbm, ⟨12, _⟩ => ⟨S4096x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .bf16⟩
  | .hbm, ⟨29, _⟩ => ⟨S3x4096, .f32⟩
  | .hbm, ⟨30, _⟩ => ⟨S1x4096, .f32⟩
  | .hbm, ⟨31, _⟩ => ⟨S4096x4096, .f32⟩
  | .hbm, ⟨32, _⟩ => ⟨S_, .i32⟩
  | .hbm, ⟨33, _⟩ => ⟨S_, .f32⟩
  | .hbm, ⟨34, _⟩ => ⟨S4098x4096, .f32⟩
  | .hbm, ⟨35, _⟩ => ⟨S4096x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .bf16⟩
  | .hbm, ⟨52, _⟩ => ⟨S_, .i32⟩
  | .hbm, ⟨53, _⟩ => ⟨S_, .f32⟩
  | .hbm, ⟨54, _⟩ => ⟨S8x8192, .f32⟩
  | .hbm, ⟨55, _⟩ => ⟨S4096x4096, .bf16⟩
  | .hbm, ⟨56, _⟩ => ⟨S4096x4096, .bf16⟩
  | .hbm, ⟨57, _⟩ => ⟨S8x4096, .f32⟩
  | .hbm, ⟨58, _⟩ => ⟨S8x4096, .f32⟩
  | .hbm, ⟨59, _⟩ => ⟨S1x4096, .f32⟩
  | .hbm, ⟨60, _⟩ => ⟨S1x4096, .f32⟩
  | .local _ .vmem, ⟨0, _⟩ => ⟨S512x1024, .bf16⟩
  | .local _ .vmem, ⟨1, _⟩ => ⟨S512x1024, .bf16⟩
  | .local _ .vmem, ⟨2, _⟩ => ⟨S8x1024, .bf16⟩
  | .local _ .vmem, ⟨3, _⟩ => ⟨S8x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x1024, .bf16⟩
  | .local _ .vmem, ⟨13, _⟩ => ⟨S8x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .bf16⟩
  | .local _ .vmem, ⟨17, _⟩ => ⟨S8x1024, .bf16⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S8x1024, .f32⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_0 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_1 : Ref sig .tc := ⟨.hbm, 52, rfl⟩
abbrev main_call2_v0 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v43_2 : Ref sig .tc := ⟨.hbm, 57, rfl⟩
abbrev main_v43_3 : Ref sig .tc := ⟨.hbm, 58, rfl⟩
abbrev main_v43_4 : Ref sig .tc := ⟨.hbm, 59, rfl⟩
abbrev main_v43_5 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Kernel2Ideal.lean ====
variable {F : FTy → Type} [FloatOps F] [Named F]
def κ : String → Option EReal := fun
  | "ca" => some ((80338380498831 / 2251799813685248 : ℝ) : EReal)
  | "ca3" => some ((241015141496493 / 2251799813685248 : ℝ) : EReal)
  | _ => none
-- ==== Reference2Ideal.lean ====
abbrev S4096x1024 : Shape := ⟨2, ![4096, 1024]⟩
abbrev S4096x4096 : Shape := ⟨2, ![4096, 4096]⟩
abbrev S3x8192 : Shape := ⟨2, ![3, 8192]⟩
abbrev S1x8192 : Shape := ⟨2, ![1, 8192]⟩
abbrev S3x4096 : Shape := ⟨2, ![3, 4096]⟩
abbrev S1x4096 : Shape := ⟨2, ![1, 4096]⟩
abbrev S4096 : Shape := ⟨1, ![4096]⟩
abbrev S_ : Shape := ⟨0, ![]⟩
abbrev S2x4096 : Shape := ⟨2, ![2, 4096]⟩
abbrev S4098x4096 : Shape := ⟨2, ![4098, 4096]⟩
abbrev S8x8192 : Shape := ⟨2, ![8, 8192]⟩
abbrev S8x4096 : Shape := ⟨2, ![8, 4096]⟩

abbrev nBuf : Space → Nat
  | .hbm => 247
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x4096, .bf16⟩
  | 3 => ⟨S4096x4096, .bf16⟩
  | 4 => ⟨S3x8192, .f32⟩
  | 5 => ⟨S1x8192, .f32⟩
  | 6 => ⟨S4096x4096, .f32⟩
  | 7 => ⟨S4096x4096, .f32⟩
  | 8 => ⟨S4096x1024, .f32⟩
  | 9 => ⟨S3x4096, .f32⟩
  | 10 => ⟨S1x4096, .f32⟩
  | 11 => ⟨S4096, .f32⟩
  | 12 => ⟨S_, .f32⟩
  | 13 => ⟨S2x4096, .f32⟩
  | 14 => ⟨S4098x4096, .f32⟩
  | 15 => ⟨S_, .f32⟩
  | 16 => ⟨S2x4096, .f32⟩
  | 17 => ⟨S4096x4096, .f32⟩
  | 18 => ⟨S1x4096, .f32⟩
  | 19 => ⟨S4096, .f32⟩
  | 20 => ⟨S1x4096, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | 26 => ⟨S4096x4096, .f32⟩
  | 27 => ⟨S1x4096, .f32⟩
  | 28 => ⟨S4096, .f32⟩
  | 29 => ⟨S1x4096, .f32⟩
  | 30 => ⟨S4096x4096, .f32⟩
  | 31 => ⟨S4096x4096, .f32⟩
  | 32 => ⟨S4096x4096, .f32⟩
  | 33 => ⟨S4096x4096, .f32⟩
  | 34 => ⟨S1x4096, .f32⟩
  | 35 => ⟨S4096, .f32⟩
  | 36 => ⟨S1x4096, .f32⟩
  | 37 => ⟨S4096x4096, .f32⟩
  | 38 => ⟨S4096x4096, .f32⟩
  | 39 => ⟨S4096x4096, .f32⟩
  | 40 => ⟨S1x4096, .f32⟩
  | 41 => ⟨S4096x4096, .f32⟩
  | 42 => ⟨S4096x4096, .f32⟩
  | 43 => ⟨S3x4096, .f32⟩
  | 44 => ⟨S1x4096, .f32⟩
  | 45 => ⟨S4096, .f32⟩
  | 46 => ⟨S_, .f32⟩
  | 47 => ⟨S2x4096, .f32⟩
  | 48 => ⟨S4098x4096, .f32⟩
  | 49 => ⟨S_, .f32⟩
  | 50 => ⟨S2x4096, .f32⟩
  | 51 => ⟨S4096x4096, .f32⟩
  | 52 => ⟨S1x4096, .f32⟩
  | 53 => ⟨S4096, .f32⟩
  | 54 => ⟨S1x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S1x4096, .f32⟩
  | 62 => ⟨S4096, .f32⟩
  | 63 => ⟨S1x4096, .f32⟩
  | 64 => ⟨S4096x4096, .f32⟩
  | 65 => ⟨S4096x4096, .f32⟩
  | 66 => ⟨S4096x4096, .f32⟩
  | 67 => ⟨S4096x4096, .f32⟩
  | 68 => ⟨S1x4096, .f32⟩
  | 69 => ⟨S4096, .f32⟩
  | 70 => ⟨S1x4096, .f32⟩
  | 71 => ⟨S4096x4096, .f32⟩
  | 72 => ⟨S4096x4096, .f32⟩
  | 73 => ⟨S4096x4096, .f32⟩
  | 74 => ⟨S1x4096, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S_, .f32⟩
  | 84 => ⟨S4096x4096, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S_, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S4096x4096, .f32⟩
  | 106 => ⟨S4096x1024, .f32⟩
  | 107 => ⟨S4096x1024, .f32⟩
  | 108 => ⟨S4096x4096, .f32⟩
  | 109 => ⟨S4096x4096, .f32⟩
  | 110 => ⟨S4096x4096, .f32⟩
  | 111 => ⟨S4096x4096, .f32⟩
  | 112 => ⟨S4096x4096, .f32⟩
  | 113 => ⟨S_, .f32⟩
  | 114 => ⟨S4096x4096, .f32⟩
  | 115 => ⟨S4096x4096, .f32⟩
  | 116 => ⟨S4096x4096, .f32⟩
  | 117 => ⟨S_, .f32⟩
  | 118 => ⟨S4096x4096, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S4096x4096, .f32⟩
  | 125 => ⟨S4096x4096, .f32⟩
  | 126 => ⟨S_, .f32⟩
  | 127 => ⟨S4096, .f32⟩
  | _ => ⟨S4096x1024, .bf16⟩

abbrev hbmTy0_1 (i : Nat) : BufTy := match i % 128 with
  | 0 => ⟨S1x4096, .f32⟩
  | 1 => ⟨S_, .f32⟩
  | 2 => ⟨S4096, .f32⟩
  | 3 => ⟨S4096x4096, .f32⟩
  | 4 => ⟨S_, .f32⟩
  | 5 => ⟨S4096, .f32⟩
  | 6 => ⟨S1x4096, .f32⟩
  | 7 => ⟨S4096x4096, .f32⟩
  | 8 => ⟨S4096x4096, .f32⟩
  | 9 => ⟨S_, .f32⟩
  | 10 => ⟨S4096, .f32⟩
  | 11 => ⟨S1x4096, .f32⟩
  | 12 => ⟨S_, .f32⟩
  | 13 => ⟨S3x4096, .f32⟩
  | 14 => ⟨S_, .f32⟩
  | 15 => ⟨S4098x4096, .f32⟩
  | 16 => ⟨S4096x4096, .f32⟩
  | 17 => ⟨S_, .f32⟩
  | 18 => ⟨S4096, .f32⟩
  | 19 => ⟨S1x4096, .f32⟩
  | 20 => ⟨S4096x4096, .f32⟩
  | 21 => ⟨S4096x4096, .f32⟩
  | 22 => ⟨S_, .f32⟩
  | 23 => ⟨S4096, .f32⟩
  | 24 => ⟨S1x4096, .f32⟩
  | 25 => ⟨S_, .f32⟩
  | 26 => ⟨S3x4096, .f32⟩
  | 27 => ⟨S3x4096, .f32⟩
  | 28 => ⟨S_, .f32⟩
  | 29 => ⟨S4098x4096, .f32⟩
  | 30 => ⟨S4098x4096, .f32⟩
  | 31 => ⟨S4096x4096, .f32⟩
  | 32 => ⟨S_, .f32⟩
  | 33 => ⟨S4096, .f32⟩
  | 34 => ⟨S1x4096, .f32⟩
  | 35 => ⟨S4096x4096, .f32⟩
  | 36 => ⟨S4096x4096, .f32⟩
  | 37 => ⟨S_, .f32⟩
  | 38 => ⟨S4096, .f32⟩
  | 39 => ⟨S1x4096, .f32⟩
  | 40 => ⟨S_, .f32⟩
  | 41 => ⟨S3x4096, .f32⟩
  | 42 => ⟨S3x4096, .f32⟩
  | 43 => ⟨S_, .f32⟩
  | 44 => ⟨S4098x4096, .f32⟩
  | 45 => ⟨S4098x4096, .f32⟩
  | 46 => ⟨S2x4096, .f32⟩
  | 47 => ⟨S4096x4096, .f32⟩
  | 48 => ⟨S1x4096, .f32⟩
  | 49 => ⟨S_, .f32⟩
  | 50 => ⟨S1x8192, .f32⟩
  | 51 => ⟨S_, .f32⟩
  | 52 => ⟨S3x8192, .f32⟩
  | 53 => ⟨S_, .f32⟩
  | 54 => ⟨S4096, .f32⟩
  | 55 => ⟨S1x4096, .f32⟩
  | 56 => ⟨S_, .f32⟩
  | 57 => ⟨S4096, .f32⟩
  | 58 => ⟨S4096x4096, .f32⟩
  | 59 => ⟨S_, .f32⟩
  | 60 => ⟨S4096, .f32⟩
  | 61 => ⟨S1x4096, .f32⟩
  | 62 => ⟨S4096x4096, .f32⟩
  | 63 => ⟨S4096x4096, .f32⟩
  | 64 => ⟨S_, .f32⟩
  | 65 => ⟨S4096, .f32⟩
  | 66 => ⟨S1x4096, .f32⟩
  | 67 => ⟨S_, .f32⟩
  | 68 => ⟨S3x4096, .f32⟩
  | 69 => ⟨S_, .f32⟩
  | 70 => ⟨S4098x4096, .f32⟩
  | 71 => ⟨S4096x4096, .f32⟩
  | 72 => ⟨S_, .f32⟩
  | 73 => ⟨S4096, .f32⟩
  | 74 => ⟨S1x4096, .f32⟩
  | 75 => ⟨S4096x4096, .f32⟩
  | 76 => ⟨S4096x4096, .f32⟩
  | 77 => ⟨S_, .f32⟩
  | 78 => ⟨S4096, .f32⟩
  | 79 => ⟨S1x4096, .f32⟩
  | 80 => ⟨S_, .f32⟩
  | 81 => ⟨S3x4096, .f32⟩
  | 82 => ⟨S3x4096, .f32⟩
  | 83 => ⟨S_, .f32⟩
  | 84 => ⟨S4098x4096, .f32⟩
  | 85 => ⟨S4098x4096, .f32⟩
  | 86 => ⟨S4096x4096, .f32⟩
  | 87 => ⟨S_, .f32⟩
  | 88 => ⟨S4096, .f32⟩
  | 89 => ⟨S1x4096, .f32⟩
  | 90 => ⟨S4096x4096, .f32⟩
  | 91 => ⟨S4096x4096, .f32⟩
  | 92 => ⟨S_, .f32⟩
  | 93 => ⟨S4096, .f32⟩
  | 94 => ⟨S1x4096, .f32⟩
  | 95 => ⟨S_, .f32⟩
  | 96 => ⟨S3x4096, .f32⟩
  | 97 => ⟨S3x4096, .f32⟩
  | 98 => ⟨S_, .f32⟩
  | 99 => ⟨S4098x4096, .f32⟩
  | 100 => ⟨S4098x4096, .f32⟩
  | 101 => ⟨S2x4096, .f32⟩
  | 102 => ⟨S4096x4096, .f32⟩
  | 103 => ⟨S1x4096, .f32⟩
  | 104 => ⟨S_, .f32⟩
  | 105 => ⟨S1x8192, .f32⟩
  | 106 => ⟨S1x8192, .f32⟩
  | 107 => ⟨S_, .f32⟩
  | 108 => ⟨S3x8192, .f32⟩
  | 109 => ⟨S3x8192, .f32⟩
  | 110 => ⟨S_, .i32⟩
  | 111 => ⟨S_, .f32⟩
  | 112 => ⟨S8x8192, .f32⟩
  | 113 => ⟨S4096x4096, .bf16⟩
  | 114 => ⟨S4096x4096, .bf16⟩
  | 115 => ⟨S8x4096, .f32⟩
  | 116 => ⟨S8x4096, .f32⟩
  | 117 => ⟨S1x4096, .f32⟩
  | 118 => ⟨S1x4096, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_5 : Ref sig .tc := ⟨.hbm, 80, rfl⟩
abbrev main_v68 : Ref sig .tc := ⟨.hbm, 81, rfl⟩
abbrev main_v69 : Ref sig .tc := ⟨.hbm, 82, rfl⟩
abbrev main_cst_6 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_13 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_14 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_15 : Ref sig .tc := ⟨.hbm, 126, rfl⟩
abbrev main_v104 : Ref sig .tc := ⟨.hbm, 127, rfl⟩
abbrev main_v105 : Ref sig .tc := ⟨.hbm, 128, rfl⟩
abbrev main_cst_16 : Ref sig .tc := ⟨.hbm, 129, rfl⟩
abbrev main_v106 : Ref sig .tc := ⟨.hbm, 130, rfl⟩
abbrev main_v107 : Ref sig .tc := ⟨.hbm, 131, rfl⟩
abbrev main_cst_17 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_18 : Ref sig .tc := ⟨.hbm, 137, rfl⟩
abbrev main_v112 : Ref sig .tc := ⟨.hbm, 138, rfl⟩
abbrev main_v113 : Ref sig .tc := ⟨.hbm, 139, rfl⟩
abbrev main_cst_19 : Ref sig .tc := ⟨.hbm, 140, rfl⟩
abbrev main_v114 : Ref sig .tc := ⟨.hbm, 141, rfl⟩
abbrev main_cst_20 : Ref sig .tc := ⟨.hbm, 142, rfl⟩
abbrev main_v115 : Ref sig .tc := ⟨.hbm, 143, rfl⟩
abbrev main_v116 : Ref sig .tc := ⟨.hbm, 144, rfl⟩
abbrev main_cst_21 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_22 : Ref sig .tc := ⟨.hbm, 150, rfl⟩
abbrev main_v121 : Ref sig .tc := ⟨.hbm, 151, rfl⟩
abbrev main_v122 : Ref sig .tc := ⟨.hbm, 152, rfl⟩
abbrev main_cst_23 : Ref sig .tc := ⟨.hbm, 153, rfl⟩
abbrev main_v123 : Ref sig .tc := ⟨.hbm, 154, rfl⟩
abbrev main_v124 : Ref sig .tc := ⟨.hbm, 155, rfl⟩
abbrev main_cst_24 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_25 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_26 : Ref sig .tc := ⟨.hbm, 165, rfl⟩
abbrev main_v132 : Ref sig .tc := ⟨.hbm, 166, rfl⟩
abbrev main_v133 : Ref sig .tc := ⟨.hbm, 167, rfl⟩
abbrev main_cst_27 : Ref sig .tc := ⟨.hbm, 168, rfl⟩
abbrev main_v134 : Ref sig .tc := ⟨.hbm, 169, rfl⟩
abbrev main_v135 : Ref sig .tc := ⟨.hbm, 170, rfl⟩
abbrev main_cst_28 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_29 : Ref sig .tc := ⟨.hbm, 177, rfl⟩
abbrev main_v141 : Ref sig .tc := ⟨.hbm, 178, rfl⟩
abbrev main_cst_30 : Ref sig .tc := ⟨.hbm, 179, rfl⟩
abbrev main_v142 : Ref sig .tc := ⟨.hbm, 180, rfl⟩
abbrev main_cst_31 : Ref sig .tc := ⟨.hbm, 181, rfl⟩
abbrev main_v143 : Ref sig .tc := ⟨.hbm, 182, rfl⟩
abbrev main_v144 : Ref sig .tc := ⟨.hbm, 183, rfl⟩
abbrev main_cst_32 : Ref sig .tc := ⟨.hbm, 184, rfl⟩
abbrev main_v145 : Ref sig .tc := ⟨.hbm, 185, rfl⟩
abbrev main_v146 : Ref sig .tc := ⟨.hbm, 186, rfl⟩
abbrev main_cst_33 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_34 : Ref sig .tc := ⟨.hbm, 192, rfl⟩
abbrev main_v151 : Ref sig .tc := ⟨.hbm, 193, rfl⟩
abbrev main_v152 : Ref sig .tc := ⟨.hbm, 194, rfl⟩
abbrev main_cst_35 : Ref sig .tc := ⟨.hbm, 195, rfl⟩
abbrev main_v153 : Ref sig .tc := ⟨.hbm, 196, rfl⟩
abbrev main_cst_36 : Ref sig .tc := ⟨.hbm, 197, rfl⟩
abbrev main_v154 : Ref sig .tc := ⟨.hbm, 198, rfl⟩
abbrev main_v155 : Ref sig .tc := ⟨.hbm, 199, rfl⟩
abbrev main_cst_37 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_38 : Ref sig .tc := ⟨.hbm, 205, rfl⟩
abbrev main_v160 : Ref sig .tc := ⟨.hbm, 206, rfl⟩
abbrev main_v161 : Ref sig .tc := ⟨.hbm, 207, rfl⟩
abbrev main_cst_39 : Ref sig .tc := ⟨.hbm, 208, rfl⟩
abbrev main_v162 : Ref sig .tc := ⟨.hbm, 209, rfl⟩
abbrev main_v163 : Ref sig .tc := ⟨.hbm, 210, rfl⟩
abbrev main_cst_40 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_41 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_42 : Ref sig .tc := ⟨.hbm, 220, rfl⟩
abbrev main_v171 : Ref sig .tc := ⟨.hbm, 221, rfl⟩
abbrev main_v172 : Ref sig .tc := ⟨.hbm, 222, rfl⟩
abbrev main_cst_43 : Ref sig .tc := ⟨.hbm, 223, rfl⟩
abbrev main_v173 : Ref sig .tc := ⟨.hbm, 224, rfl⟩
abbrev main_v174 : Ref sig .tc := ⟨.hbm, 225, rfl⟩
abbrev main_cst_44 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_45 : Ref sig .tc := ⟨.hbm, 232, rfl⟩
abbrev main_v180 : Ref sig .tc := ⟨.hbm, 233, rfl⟩
abbrev main_v181 : Ref sig .tc := ⟨.hbm, 234, rfl⟩
abbrev main_cst_46 : Ref sig .tc := ⟨.hbm, 235, rfl⟩
abbrev main_v182 : Ref sig .tc := ⟨.hbm, 236, rfl⟩
abbrev main_v183 : Ref sig .tc := ⟨.hbm, 237, rfl⟩
abbrev main_c : Ref sig .tc := ⟨.hbm, 238, rfl⟩
abbrev main_call0_v0 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x1024 : Shape := ⟨3, ![8, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x4096, .bf16⟩
  | .hbm, ⟨3, _⟩ => ⟨S8x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

def k0_cond4 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S4096x4096 : Shape := ⟨2, ![4096, 4096]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x8x1024 : Shape := ⟨3, ![1024, 8, 1024]⟩
abbrev S8x1024x1024 : Shape := ⟨3, ![8, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x4096, .bf16⟩
  | .hbm, ⟨3, _⟩ => ⟨S4096x1024, .f32⟩
  | .hbm, ⟨4, _⟩ => ⟨S4096x8192, .bf16⟩
  | .hbm, ⟨5, _⟩ => ⟨S4096x8192, .f32⟩
  | .hbm, ⟨6, _⟩ => ⟨S_, .f32⟩
  | .hbm, ⟨7, _⟩ => ⟨S1024x8192, .f32⟩
  | .hbm, ⟨8, _⟩ => ⟨S4096x8192, .f32⟩
  | .hbm, ⟨9, _⟩ => ⟨S8192x1024, .f32⟩
  | .hbm, ⟨10, _⟩ => ⟨S1024x8192, .f32⟩
  | .hbm, ⟨11, _⟩ => ⟨S1024x8x1024, .f32⟩
  | .hbm, ⟨12, _⟩ => ⟨S8x1024x1024, .f32⟩
  | .hbm, ⟨13, _⟩ => ⟨S8x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S4096x4096 : Shape := ⟨2, ![4096, 4096]⟩
abbrev S8x1024x1024 : Shape := ⟨3, ![8, 1024, 1024]⟩
abbrev S4096x1024 : Shape := ⟨2, ![4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x4096 : Shape := ⟨2, ![4096, 4096]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4096x8192 : Shape := ⟨2, ![4096, 8192]⟩
abbrev S_ : Shape := ⟨0, ![]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x1024x1024, .bf16⟩
  | .hbm, ⟨3, _⟩ => ⟨S8x1024x1024, .f32⟩
  | .hbm, ⟨4, _⟩ => ⟨S1024x8x1024, .f32⟩
  | .hbm, ⟨5, _⟩ => ⟨S1024x8192, .f32⟩
  | .hbm, ⟨6, _⟩ => ⟨S4096x8192, .bf16⟩
  | .hbm, ⟨7, _⟩ => ⟨S4096x8192, .f32⟩
  | .hbm, ⟨8, _⟩ => ⟨S_, .f32⟩
  | .hbm, ⟨9, _⟩ => ⟨S4096x1024, .f32⟩
  | .hbm, ⟨10, _⟩ => ⟨S4096x8192, .f32⟩
  | .hbm, ⟨11, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S256x2048 : Shape := ⟨2, ![256, 2048]⟩
abbrev S8x1024x256 : Shape := ⟨3, ![8, 1024, 256]⟩
abbrev S256x1024 : Shape := ⟨2, ![256, 1024]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S8x1024x256, .bf16⟩
  | .hbm, ⟨2, _⟩ => ⟨S256x1024, .f32⟩
  | .local _ .vmem, ⟨0, _⟩ => ⟨S256x256, .bf16⟩
  | .local _ .vmem, ⟨1, _⟩ => ⟨S256x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S256x1024, .f32⟩
  | .local _ .vmem, ⟨5, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S256x2048 : Shape := ⟨2, ![256, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S_, .f32⟩
  | .hbm, ⟨6, _⟩ => ⟨S256x1024, .f32⟩
  | .hbm, ⟨7, _⟩ => ⟨S256x2048, .f32⟩
  | .hbm, ⟨8, _⟩ => ⟨S256x2048, .f32⟩
  | .hbm, ⟨9, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S8x1024x256, .bf16⟩
  | .local _ .vmem, ⟨0, _⟩ => ⟨S256x1024, .bf16⟩
  | .local _ .vmem, ⟨1, _⟩ => ⟨S256x256, .bf16⟩
  | .local _ .vmem, ⟨2, _⟩ => ⟨S256x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1024x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S256x1024, .f32⟩
  | .hbm, ⟨3, _⟩ => ⟨S256x2048, .f32⟩
  | .hbm, ⟨4, _⟩ => ⟨S_, .f32⟩
  | .hbm, ⟨5, _⟩ => ⟨S1024x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S256x1024 : Shape := ⟨2, ![256, 1024]⟩
abbrev S8x1024x256 : Shape := ⟨3, ![8, 1024, 256]⟩
abbrev S256x2048 : Shape := ⟨2, ![256, 2048]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S256x2048, .bf16⟩
  | .local _ .vmem, ⟨0, _⟩ => ⟨S256x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S256x256, .bf16⟩
  | .local _ .vmem, ⟨4, _⟩ => ⟨S256x256, .bf16⟩
  | .local _ .vmem, ⟨5, _⟩ => ⟨S256x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S256x1024 : Shape := ⟨2, ![256, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S1024x8x256, .bf16⟩
  | .hbm, ⟨3, _⟩ => ⟨S1024x2048, .bf16⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S8x1024x1024 : Shape := ⟨3, ![8, 1024, 1024]⟩
abbrev S3x8192 : Shape := ⟨2, ![3, 8192]⟩
abbrev S1x8192 : Shape := ⟨2, ![1, 8192]⟩
abbrev S1x1024 : Shape := ⟨2, ![1, 1024]⟩
abbrev S_ : Shape := ⟨0, ![]⟩
abbrev S8x8192 : Shape := ⟨2, ![8, 8192]⟩
abbrev S4096x4096 : Shape := ⟨2, ![4096, 4096]⟩
abbrev S1x128 : Shape := ⟨2, ![1, 128]⟩
abbrev S512x1024 : Shape := ⟨2, ![512, 1024]⟩
abbrev S8x1024 : Shape := ⟨2, ![8, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 20
  | .vmem => 40
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S3x8192, .f32⟩
  | .hbm, ⟨3, _⟩ => ⟨S1x8192, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S8x8192, .f32⟩
  | .hbm, ⟨11, _⟩ => ⟨S4096x4096, .bf16⟩
  | .hbm, ⟨12, _⟩ => ⟨S4096x4096, .bf16⟩
  | .hbm, ⟨13, _⟩ => ⟨S4096x4096, .bf16⟩
  | .hbm, ⟨14, _⟩ => ⟨S4096x4096, .bf16⟩
  | .hbm, ⟨15, _⟩ => ⟨S4096x4096, .bf16⟩
  | .hbm, ⟨16, _⟩ => ⟨S1x128, .f32⟩
  | .hbm, ⟨17, _⟩ => ⟨S4096x1024, .f32⟩
  | .hbm, ⟨18, _⟩ => ⟨S4096x1024, .bf16⟩
  | .hbm, ⟨19, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024, .bf16⟩
  | .local _ .vmem, ⟨3, _⟩ => ⟨S8x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S1x128, .f32⟩
  | .local _ .vmem, ⟨34, _⟩ => ⟨S512x1024, .f32⟩
  | .local _ .vmem, ⟨35, _⟩ => ⟨S512x1024, .f32⟩
  | .local _ .vmem, ⟨36, _⟩ => ⟨S512x1024, .bf16⟩
  | .local _ .vmem, ⟨37, _⟩ => ⟨S512x1024, .bf16⟩
  | .local _ .vmem, ⟨38, _⟩ => ⟨S1x1024, .f32⟩
  | .local _ .vmem, ⟨39, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev main_v1_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v126 : BitVec 1 := Scalar.cmpi .eq arg1 c3_i32
  let v127 : BitVec 32 := Scalar.extui v126
  let c0_i32_64 : BitVec 32 := 0#32
  let v128 : BitVec 1 := Scalar.cmpi .ne v127 c0_i32_64
  v128

def k0_cond3 (i : grid0.Coords) : BitVec 1 :=
  let arg0 : BitVec 32 := BitVec.ofNat 32 (i 0).val
  let c0_i32_90 : BitVec 32 := 0#32
  let v179 : BitVec 1 := Scalar.cmpi .eq arg0 c0_i32_90
  let v180 : BitVec 32 := Scalar.extui v179
  let c0_i32_91 : BitVec 32 := 0#32
  let v181 : BitVec 1 := Scalar.cmpi .ne v180 c0_i32_91
  v181

def k0_cond4 (i : grid0.Coords) : BitVec 1 :=
  let arg0 : BitVec 32 := BitVec.ofNat 32 (i 0).val
  let c0_i32_92 : BitVec 32 := 0#32
  let v182 : BitVec 1 := Scalar.cmpi .sgt arg0 c0_i32_92
  let v183 : BitVec 32 := Scalar.extui v182
  let c0_i32_93 : BitVec 32 := 0#32
  let v184 : BitVec 1 := Scalar.cmpi .ne v183 c0_i32_93
  v184

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Kernel12Ideal.lean ====
variable {F : FTy → Type} [FloatOps F] [Named F]
def κ : String → Option EReal := fun
  | "ca" => some ((80338380498831 / 2251799813685248 : ℝ) : EReal)
  | _ => none
-- ==== Reference12Ideal.lean ====
abbrev S4096x1024 : Shape := ⟨2, ![4096, 1024]⟩
abbrev S8x1024x1024 : Shape := ⟨3, ![8, 1024, 1024]⟩
abbrev S3x8192 : Shape := ⟨2, ![3, 8192]⟩
abbrev S1x8192 : Shape := ⟨2, ![1, 8192]⟩
abbrev S1x1024 : Shape := ⟨2, ![1, 1024]⟩
abbrev S1024x8x1024 : Shape := ⟨3, ![1024, 8, 1024]⟩
abbrev S1024x8192 : Shape := ⟨2, ![1024, 8192]⟩
abbrev S4096x8192 : Shape := ⟨2, ![4096, 8192]⟩
abbrev S_ : Shape := ⟨0, ![]⟩
abbrev S2x8192 : Shape := ⟨2, ![2, 8192]⟩
abbrev S4098x8192 : Shape := ⟨2, ![4098, 8192]⟩
abbrev S8192 : Shape := ⟨1, ![8192]⟩
abbrev S4096x4096 : Shape := ⟨2, ![4096, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S3x8192, .f32⟩
  | .hbm, ⟨3, _⟩ => ⟨S1x8192, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x8x1024, .bf16⟩
  | .hbm, ⟨9, _⟩ => ⟨S1024x8192, .bf16⟩
  | .hbm, ⟨10, _⟩ => ⟨S4096x8192, .f32⟩
  | .hbm, ⟨11, _⟩ => ⟨S_, .f32⟩
  | .hbm, ⟨12, _⟩ => ⟨S2x8192, .f32⟩
  | .hbm, ⟨13, _⟩ => ⟨S4098x8192, .f32⟩
  | .hbm, ⟨14, _⟩ => ⟨S4096x8192, .f32⟩
  | .hbm, ⟨15, _⟩ => ⟨S1x8192, .f32⟩
  | .hbm, ⟨16, _⟩ => ⟨S8192, .f32⟩
  | .hbm, ⟨17, _⟩ => ⟨S1x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S1x8192, .f32⟩
  | .hbm, ⟨25, _⟩ => ⟨S8192, .f32⟩
  | .hbm, ⟨26, _⟩ => ⟨S1x8192, .f32⟩
  | .hbm, ⟨27, _⟩ => ⟨S4096x8192, .f32⟩
  | .hbm, ⟨28, _⟩ => ⟨S4096x8192, .f32⟩
  | .hbm, ⟨29, _⟩ => ⟨S4096x8192, .f32⟩
  | .hbm, ⟨30, _⟩ => ⟨S4096x8192, .f32⟩
  | .hbm, ⟨31, _⟩ => ⟨S1x8192, .f32⟩
  | .hbm, ⟨32, _⟩ => ⟨S8192, .f32⟩
  | .hbm, ⟨33, _⟩ => ⟨S1x8192, .f32⟩
  | .hbm, ⟨34, _⟩ => ⟨S4096x8192, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S4096x8192, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .bf16⟩
  | .hbm, ⟨62, _⟩ => ⟨S4096x4096, .bf16⟩
  | .hbm, ⟨63, _⟩ => ⟨S4096x4096, .bf16⟩
  | .hbm, ⟨64, _⟩ => ⟨S4096x4096, .bf16⟩
  | .hbm, ⟨65, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Proof.XaPay.lean ====
/- What one head of the kernel's body computes, element by element: the softmax of a column of scores, its gradient,
   and the three products that follow.  The four heads print as separate payloads; each is head 0's at its own operands. -/
module

public import proofs.«01_k».proof.Proof.Gen.KernelIdeal.Value
public import Idealize.ShloMosaic.Lib.Pointwise

@[expose] public section

set_option maxRecDepth 16384

noncomputable section

namespace Cert.Proof.Xa

open Idealize.ShloMosaic Cert.KernelIdeal Cert.KernelIdeal.Gen

/-- The scale of the scores, `1/16` as the program writes it. -/
def scale : EReal := Ideal.ofBits .f32 0x3D800000#32

/-- The greatest scaled score of a row of 256. -/
def top (x : Fin 256 → EReal) : EReal :=
  Finset.univ.fold max (Ideal.ofBits .f32 0xFF800000#32) (fun k => x k * scale)

/-- The exponential of a scaled score less the greatest. -/
def expo (x : Fin 256 → EReal) (k : Fin 256) : EReal := Ideal.exp (x k * scale - top x)

/-- The sum of these over the row. -/
def mass (x : Fin 256 → EReal) : EReal := ∑ k, expo x k

/-- The softmax of the scaled scores. -/
def prob (x : Fin 256 → EReal) (k : Fin 256) : EReal := Ideal.div (expo x k) (mass x)

/-- The gradient of the scores, from the gradient `y` of the probabilities. -/
def dscore (x y : Fin 256 → EReal) (k : Fin 256) : EReal :=
  prob x k * (y k - ∑ l, prob x l * y l) * scale

theorem pay5_apply (v3 : Vec Ideal S256x256 .bf16) (v4 : Vec Ideal S512x256 .bf16) (k : Fin 256) (s : Fin 512) :
    k0_pay5 (F := Ideal) v3 v4 (ix2 k s) = ∑ d : Fin 256, v3 (ix2 k d) * v4 (ix2 s d) := by
  pointwise [k0_pay5]

theorem pay13_apply (v5 : FVec Ideal S256x512 .f32) (k : Fin 256) (s : Fin 512) :
    k0_pay13 v5 (ix2 k s) = prob (fun l => v5 (ix2 l s)) k := by
  pointwise [k0_pay13]
  rfl

theorem pay14_apply (v5 v17 : FVec Ideal S256x512 .f32) (k : Fin 256) (s : Fin 512) :
    k0_pay14 v5 v17 (ix2 k s) = dscore (fun l => v5 (ix2 l s)) (fun l => v17 (ix2 l s)) k := by
  pointwise [k0_pay14]
  simp only [pay13_apply]
  rfl

theorem pay15_apply (v5 v17 : FVec Ideal S256x512 .f32) (v28 : Vec Ideal S256x256 .bf16) (s : Fin 512) (d : Fin 256) :
    k0_pay15 v5 v17 v28 (ix2 s d)
      = ∑ k : Fin 256, v28 (ix2 k d) * dscore (fun l => v5 (ix2 l s)) (fun l => v17 (ix2 l s)) k := by
  pointwise [k0_pay15]
  simp only [pay14_apply]

theorem pay16_apply (v5 v17 : FVec Ideal S256x512 .f32) (v27 : Vec Ideal S512x256 .bf16) (v54 : Vec Ideal S256x256 .f32)
    (k d : Fin 256) :
    k0_pay16 v5 v17 v27 v54 (ix2 k d)
      = v54 (ix2 k d) + ∑ s : Fin 512, dscore (fun l => v5 (ix2 l s)) (fun l => v17 (ix2 l s)) k * v27 (ix2 s d) := by
  pointwise [k0_pay16]
  simp only [pay14_apply]

theorem pay17_apply (v29 : Vec Ideal S512x256 .bf16) (v5 : FVec Ideal S256x512 .f32) (v59 : Vec Ideal S256x256 .f32)
    (k d : Fin 256) :
    k0_pay17 v29 (k0_pay13 v5) v59 (ix2 k d)
      = v59 (ix2 k d) + ∑ s : Fin 512, prob (fun l => v5 (ix2 l s)) k * v29 (ix2 s d) := by
  pointwise [k0_pay17]
  simp only [pay13_apply]

/-- A load of a block of columns, at an index. -/
theorem ld_cols {e : EltTy} {a b n w : ℕ} (X : (⟨2, ![a, b]⟩ : Shape).Idx → Elt Ideal e) (o : ℕ)
    (inb : ∀ i, (![0, o] : Fin 2 → ℕ) i + (![n, w] : Fin 2 → ℕ) i ≤ (⟨2, ![a, b]⟩ : Shape).size i)
    (r : Fin n) (c : Fin w) (hr : r.val < a) (hc : o + c.val < b) :
    View.ld X (Rect.unit ![0, o] ![n, w] inb) (ix2 r c) = X (ix2 ⟨r.val, hr⟩ ⟨o + c.val, hc⟩) := by
  refine congrArg X (funext fun i => Fin.ext ?_)
  match i with
  | ⟨0, _⟩ => exact (congrArg (0 + ·) (Nat.one_mul r.val)).trans (Nat.zero_add _)
  | ⟨1, _⟩ => exact congrArg (o + ·) (Nat.one_mul c.val)

/-! ## The heads' columns, and the whole gradient of an array of rows -/

/-- Column `d` of head `h` among the queries' 1024. -/
def col (h : Fin 4) (d : Fin 256) : Fin 1024 := ⟨256 * h.val + d.val, by omega⟩
/-- Column `d` of head `h` among the keys, the left half of 2048. -/
def colK (h : Fin 4) (d : Fin 256) : Fin 2048 := ⟨256 * h.val + d.val, by omega⟩
/-- Column `d` of head `h` among the values, the right half. -/
def colV (h : Fin 4) (d : Fin 256) : Fin 2048 := ⟨1024 + 256 * h.val + d.val, by omega⟩

section
variable {n : ℕ} (q g : (⟨2, ![n, 1024]⟩ : Shape).Idx → EReal) (kv : S256x2048.Idx → EReal)

/-- The score of query `s` against key `k` in head `h`. -/
def sc (h : Fin 4) (s : Fin n) (k : Fin 256) : EReal := ∑ d : Fin 256, kv (ix2 k (colK h d)) * q (ix2 s (col h d))
/-- The gradient of the probability of key `k` at query `s`. -/
def dp (h : Fin 4) (s : Fin n) (k : Fin 256) : EReal := ∑ d : Fin 256, kv (ix2 k (colV h d)) * g (ix2 s (col h d))

/-- The gradient of a query. -/
def dQ (h : Fin 4) (s : Fin n) (d : Fin 256) : EReal :=
  ∑ k : Fin 256, kv (ix2 k (colK h d)) * dscore (sc q kv h s) (dp g kv h s) k
/-- The gradient of a key. -/
def dK (h : Fin 4) (k d : Fin 256) : EReal :=
  ∑ s : Fin n, dscore (sc q kv h s) (dp g kv h s) k * q (ix2 s (col h d))
/-- The gradient of a value. -/
def dV (h : Fin 4) (k d : Fin 256) : EReal :=
  ∑ s : Fin n, prob (sc q kv h s) k * g (ix2 s (col h d))

/-- The gradient of keys and values side by side, by row and column. -/
def dKVat (k : Fin 256) (c : Fin 2048) : EReal :=
  if h : c.val < 1024 then dK q g kv ⟨c.val / 256, by omega⟩ k ⟨c.val % 256, by omega⟩
  else dV q g kv ⟨(c.val - 1024) / 256, by omega⟩ k ⟨(c.val - 1024) % 256, by omega⟩
/-- The same as an array. -/
def dKV : S256x2048.Idx → EReal := fun i => dKVat q g kv (i 0) (i 1)
/-- The gradient of the queries, the heads side by side, by row and column. -/
def dQat (s : Fin n) (c : Fin 1024) : EReal := dQ q g kv ⟨c.val / 256, by omega⟩ s ⟨c.val % 256, by omega⟩
/-- The same as an array. -/
def dQs : (⟨2, ![n, 1024]⟩ : Shape).Idx → EReal := fun i => dQat q g kv (i 0) (i 1)

theorem dKV_colK (h : Fin 4) (k d : Fin 256) : dKV q g kv (ix2 k (colK h d)) = dK q g kv h k d := by
  have e1 : (256 * h.val + d.val) / 256 = h.val := by omega
  have e2 : (256 * h.val + d.val) % 256 = d.val := by omega
  have e0 : 256 * h.val + d.val < 1024 := by omega
  show dKVat q g kv k (colK h d) = _
  simp only [dKVat, colK, e0, dite_true, e1, e2]

theorem dKV_colV (h : Fin 4) (k d : Fin 256) : dKV q g kv (ix2 k (colV h d)) = dV q g kv h k d := by
  have e1 : (1024 + 256 * h.val + d.val - 1024) / 256 = h.val := by omega
  have e2 : (1024 + 256 * h.val + d.val - 1024) % 256 = d.val := by omega
  have e0 : ¬ 1024 + 256 * h.val + d.val < 1024 := by omega
  show dKVat q g kv k (colV h d) = _
  simp only [dKVat, colV, e0, dite_false, e1, e2]

theorem dQs_col (h : Fin 4) (s : Fin n) (d : Fin 256) : dQs q g kv (ix2 s (col h d)) = dQ q g kv h s d := by
  have e1 : (256 * h.val + d.val) / 256 = h.val := by omega
  have e2 : (256 * h.val + d.val) % 256 = d.val := by omega
  show dQat q g kv s (col h d) = _
  simp only [dQat, col, e1, e2]

/-- Every column of the keys' and values' array is a head's. -/
theorem col_cases (P : Fin 2048 → Prop) (hK : ∀ h d, P (colK h d)) (hV : ∀ h d, P (colV h d)) (c : Fin 2048) : P c := by
  by_cases h : c.val < 1024
  · have e : colK ⟨c.val / 256, by omega⟩ ⟨c.val % 256, by omega⟩ = c := Fin.ext (by simp only [colK]; omega)
    rw [← e]; exact hK _ _
  · have e : colV ⟨(c.val - 1024) / 256, by omega⟩ ⟨(c.val - 1024) % 256, by omega⟩ = c := Fin.ext (by simp only [colV]; omega)
    rw [← e]; exact hV _ _
end

/-! ## A head's payloads at the loaded blocks -/

section
variable (x0 x2 : Vec Ideal S512x1024 .bf16) (x1 : Vec Ideal S256x2048 .bf16)

/-- The scores of a block, head `h`, as the kernel loads its operands. -/
theorem score_ld (h : Fin 4) (iK) (iQ) (k : Fin 256) (s : Fin 512) :
    k0_pay5 (F := Ideal) (View.ld x1 (Rect.unit ![0, 256 * h.val] ![256, 256] iK)) (View.ld x0 (Rect.unit ![0, 256 * h.val] ![512, 256] iQ)) (ix2 k s)
      = sc x0 x1 h s k := by
  rw [pay5_apply]
  refine Finset.sum_congr rfl fun d _ => ?_
  rw [ld_cols x1 _ iK k d k.isLt (by omega), ld_cols x0 _ iQ s d s.isLt (by omega)]
  rfl

/-- The gradients of the probabilities of a block. -/
theorem dprob_ld (h : Fin 4) (iV) (iQ) (k : Fin 256) (s : Fin 512) :
    k0_pay5 (F := Ideal) (View.ld x1 (Rect.unit ![0, 1024 + 256 * h.val] ![256, 256] iV)) (View.ld x2 (Rect.unit ![0, 256 * h.val] ![512, 256] iQ)) (ix2 k s)
      = dp x2 x1 h s k := by
  rw [pay5_apply]
  refine Finset.sum_congr rfl fun d _ => ?_
  rw [ld_cols x1 _ iV k d k.isLt (by omega), ld_cols x2 _ iQ s d s.isLt (by omega)]
  rfl

/-- What a head adds to the keys' gradient. -/
theorem head_dK (h : Fin 4) (xo : Vec Ideal S256x2048 .f32) (iK iK' iV) (iQ iQ' iQ'') (k d : Fin 256) :
    k0_pay16 (F := Ideal)
        (k0_pay5 (View.ld x1 (Rect.unit ![0, 256 * h.val] ![256, 256] iK)) (View.ld x0 (Rect.unit ![0, 256 * h.val] ![512, 256] iQ)))
        (k0_pay5 (View.ld x1 (Rect.unit ![0, 1024 + 256 * h.val] ![256, 256] iV)) (View.ld x2 (Rect.unit ![0, 256 * h.val] ![512, 256] iQ')))
        (View.ld x0 (Rect.unit ![0, 256 * h.val] ![512, 256] iQ''))
        (View.ld xo (Rect.unit ![0, 256 * h.val] ![256, 256] iK')) (ix2 k d)
      = xo (ix2 k (colK h d)) + dK x0 x2 x1 h k d := by
  rw [pay16_apply, ld_cols xo _ iK' k d k.isLt (by omega)]
  simp only [score_ld, dprob_ld]
  refine congrArg (_ + ·) (Finset.sum_congr rfl fun s _ => ?_)
  rw [ld_cols x0 _ iQ'' s d s.isLt (by omega)]
  rfl

/-- What a head adds to the values' gradient. -/
theorem head_dV (h : Fin 4) (xo : Vec Ideal S256x2048 .f32) (iK iV) (iQ iQ') (k d : Fin 256) :
    k0_pay17 (F := Ideal) (View.ld x2 (Rect.unit ![0, 256 * h.val] ![512, 256] iQ'))
        (k0_pay13 (k0_pay5 (View.ld x1 (Rect.unit ![0, 256 * h.val] ![256, 256] iK)) (View.ld x0 (Rect.unit ![0, 256 * h.val] ![512, 256] iQ))))
        (View.ld xo (Rect.unit ![0, 1024 + 256 * h.val] ![256, 256] iV)) (ix2 k d)
      = xo (ix2 k (colV h d)) + dV x0 x2 x1 h k d := by
  rw [pay17_apply, ld_cols xo _ iV k d k.isLt (by omega)]
  simp only [score_ld]
  refine congrArg (_ + ·) (Finset.sum_congr rfl fun s _ => ?_)
  rw [ld_cols x2 _ iQ' s d s.isLt (by omega)]
  rfl

/-- A head's block of the queries' gradient. -/
theorem head_dQ (h : Fin 4) (iK iK' iV) (iQ iQ') (s : Fin 512) (d : Fin 256) :
    k0_pay15 (F := Ideal)
        (k0_pay5 (View.ld x1 (Rect.unit ![0, 256 * h.val] ![256, 256] iK)) (View.ld x0 (Rect.unit ![0, 256 * h.val] ![512, 256] iQ)))
        (k0_pay5 (View.ld x1 (Rect.unit ![0, 1024 + 256 * h.val] ![256, 256] iV)) (View.ld x2 (Rect.unit ![0, 256 * h.val] ![512, 256] iQ')))
        (View.ld x1 (Rect.unit ![0, 256 * h.val] ![256, 256] iK')) (ix2 s d)
      = dQ x0 x2 x1 h s d := by
  rw [pay15_apply]
  simp only [score_ld, dprob_ld]
  refine Finset.sum_congr rfl fun k _ => ?_
  rw [ld_cols x1 _ iK' k d k.isLt (by omega)]
  rfl

end

end Cert.Proof.Xa

end
-- ==== Proof.XaBlock.lean ====
/- What the body leaves in its two output blocks at a point: the queries' gradient of its rows, and the running gradient
   of keys and values with these rows' part added (from zero at the first point). -/
module

public import proofs.«01_k».proof.Proof.XaPay
public import Idealize.ShloMosaic.Lib.Pipeline.ReadBack

@[expose] public section

set_option maxRecDepth 16384

noncomputable section

namespace Cert.Proof.Xa

open Idealize.ShloMosaic Cert.KernelIdeal Cert.KernelIdeal.Gen

variable (x0 x2 : Vec Ideal S512x1024 .bf16) (x1 : Vec Ideal S256x2048 .bf16)

theorem emb_K (h : Fin 4) (inb) (k d : Fin 256) :
    (Rect.unit (s := S256x2048) ![0, 256 * h.val] ![256, 256] inb).emb (ix2 k d) = ix2 k (colK h d) := by
  funext i; apply Fin.ext
  match i with
  | ⟨0, _⟩ => exact (congrArg (0 + ·) (Nat.one_mul k.val)).trans (Nat.zero_add _)
  | ⟨1, _⟩ => exact congrArg (256 * h.val + ·) (Nat.one_mul d.val)

theorem emb_V (h : Fin 4) (inb) (k d : Fin 256) :
    (Rect.unit (s := S256x2048) ![0, 1024 + 256 * h.val] ![256, 256] inb).emb (ix2 k d) = ix2 k (colV h d) := by
  funext i; apply Fin.ext
  match i with
  | ⟨0, _⟩ => exact (congrArg (0 + ·) (Nat.one_mul k.val)).trans (Nat.zero_add _)
  | ⟨1, _⟩ => exact congrArg (1024 + 256 * h.val + ·) (Nat.one_mul d.val)

theorem emb_Q (h : Fin 4) (inb) (s : Fin 512) (d : Fin 256) :
    (Rect.unit (s := S512x1024) ![0, 256 * h.val] ![512, 256] inb).emb (ix2 s d) = ix2 s (col h d) := by
  funext i; apply Fin.ext
  match i with
  | ⟨0, _⟩ => exact (congrArg (0 + ·) (Nat.one_mul s.val)).trans (Nat.zero_add _)
  | ⟨1, _⟩ => exact congrArg (256 * h.val + ·) (Nat.one_mul d.val)

/-- The running gradient of keys and values with a block's part added. -/
def added (xo : Vec Ideal S256x2048 .f32) : S256x2048.Idx → EReal := fun y => xo y + dKV x0 x2 x1 y

/-- A head's store into the keys' half is a block of `added`. -/
theorem piece_K (h : Fin 4) (xo : Vec Ideal S256x2048 .f32) (iW iK iK' iV) (iQ iQ' iQ'')
    (x : (Rect.unit (s := S256x2048) ![0, 256 * h.val] ![256, 256] iW).shape.Idx) :
    k0_pay16 (F := Ideal)
        (k0_pay5 (View.ld x1 (Rect.unit ![0, 256 * h.val] ![256, 256] iK)) (View.ld x0 (Rect.unit ![0, 256 * h.val] ![512, 256] iQ)))
        (k0_pay5 (View.ld x1 (Rect.unit ![0, 1024 + 256 * h.val] ![256, 256] iV)) (View.ld x2 (Rect.unit ![0, 256 * h.val] ![512, 256] iQ')))
        (View.ld x0 (Rect.unit ![0, 256 * h.val] ![512, 256] iQ''))
        (View.ld xo (Rect.unit ![0, 256 * h.val] ![256, 256] iK')) x
      = added x0 x2 x1 xo ((Rect.unit (s := S256x2048) ![0, 256 * h.val] ![256, 256] iW).emb x) := by
  obtain ⟨k, d, rfl⟩ : ∃ k d, x = (ix2 k d : S256x256.Idx) := ⟨_, _, eq_ix2 (n0 := 256) (n1 := 256) x⟩
  rw [head_dK, emb_K, added, dKV_colK]

/-- A head's store into the values' half is a block of `added`. -/
theorem piece_V (h : Fin 4) (xo : Vec Ideal S256x2048 .f32) (iW iK iV) (iQ iQ')
    (x : (Rect.unit (s := S256x2048) ![0, 1024 + 256 * h.val] ![256, 256] iW).shape.Idx) :
    k0_pay17 (F := Ideal) (View.ld x2 (Rect.unit ![0, 256 * h.val] ![512, 256] iQ'))
        (k0_pay13 (k0_pay5 (View.ld x1 (Rect.unit ![0, 256 * h.val] ![256, 256] iK)) (View.ld x0 (Rect.unit ![0, 256 * h.val] ![512, 256] iQ))))
        (View.ld xo (Rect.unit ![0, 1024 + 256 * h.val] ![256, 256] iV)) x
      = added x0 x2 x1 xo ((Rect.unit (s := S256x2048) ![0, 1024 + 256 * h.val] ![256, 256] iW).emb x) := by
  obtain ⟨k, d, rfl⟩ : ∃ k d, x = (ix2 k d : S256x256.Idx) := ⟨_, _, eq_ix2 (n0 := 256) (n1 := 256) x⟩
  rw [head_dV, emb_V, added, dKV_colV]

/-- A head's store of the queries' gradient is a block of it. -/
theorem piece_Q (h : Fin 4) (iW iK iK' iV) (iQ iQ')
    (x : (Rect.unit (s := S512x1024) ![0, 256 * h.val] ![512, 256] iW).shape.Idx) :
    k0_pay15 (F := Ideal)
        (k0_pay5 (View.ld x1 (Rect.unit ![0, 256 * h.val] ![256, 256] iK)) (View.ld x0 (Rect.unit ![0, 256 * h.val] ![512, 256] iQ)))
        (k0_pay5 (View.ld x1 (Rect.unit ![0, 1024 + 256 * h.val] ![256, 256] iV)) (View.ld x2 (Rect.unit ![0, 256 * h.val] ![512, 256] iQ')))
        (View.ld x1 (Rect.unit ![0, 256 * h.val] ![256, 256] iK')) x
      = dQs x0 x2 x1 ((Rect.unit (s := S512x1024) ![0, 256 * h.val] ![512, 256] iW).emb x) := by
  obtain ⟨s, d, rfl⟩ : ∃ s d, x = (ix2 s d : S512x256.Idx) := ⟨_, _, eq_ix2 (n0 := 512) (n1 := 256) x⟩
  rw [head_dQ, emb_Q, dQs_col]

theorem mem_K (h : Fin 4) (inb) (k d : Fin 256) :
    (ix2 k (colK h d) : S256x2048.Idx) ∈ (Rect.unit (s := S256x2048) ![0, 256 * h.val] ![256, 256] inb).set := by
  rw [← emb_K h inb k d]; exact (Rect.unit (s := S256x2048) ![0, 256 * h.val] ![256, 256] inb).idx_mem _

theorem mem_V (h : Fin 4) (inb) (k d : Fin 256) :
    (ix2 k (colV h d) : S256x2048.Idx) ∈ (Rect.unit (s := S256x2048) ![0, 1024 + 256 * h.val] ![256, 256] inb).set := by
  rw [← emb_V h inb k d]; exact (Rect.unit (s := S256x2048) ![0, 1024 + 256 * h.val] ![256, 256] inb).idx_mem _

/-- The eight heads' blocks of columns cover the array, whatever they hold. -/
theorem heads_cover
    (w1792 : (Rect.unit (s := S256x2048) ![0, 1792] ![256, 256] inb_S256x2048_S256x256_0_1792).shape.Idx → Elt Ideal .f32)
    (w768 : (Rect.unit (s := S256x2048) ![0, 768] ![256, 256] inb_S256x2048_S256x256_0_768).shape.Idx → Elt Ideal .f32)
    (w1536 : (Rect.unit (s := S256x2048) ![0, 1536] ![256, 256] inb_S256x2048_S256x256_0_1536).shape.Idx → Elt Ideal .f32)
    (w512 : (Rect.unit (s := S256x2048) ![0, 512] ![256, 256] inb_S256x2048_S256x256_0_512).shape.Idx → Elt Ideal .f32)
    (w1280 : (Rect.unit (s := S256x2048) ![0, 1280] ![256, 256] inb_S256x2048_S256x256_0_1280).shape.Idx → Elt Ideal .f32)
    (w256 : (Rect.unit (s := S256x2048) ![0, 256] ![256, 256] inb_S256x2048_S256x256_0_256).shape.Idx → Elt Ideal .f32)
    (w1024 : (Rect.unit (s := S256x2048) ![0, 1024] ![256, 256] inb_S256x2048_S256x256_0_1024).shape.Idx → Elt Ideal .f32)
    (w0 : (Rect.unit (s := S256x2048) ![0, 0] ![256, 256] inb_S256x2048_S256x256_0_0).shape.Idx → Elt Ideal .f32)
    (y : S256x2048.Idx) :
    ∃ p ∈ ([⟨Rect.unit ![0, 1792] ![256, 256] inb_S256x2048_S256x256_0_1792, w1792⟩, ⟨Rect.unit ![0, 768] ![256, 256] inb_S256x2048_S256x256_0_768, w768⟩, ⟨Rect.unit ![0, 1536] ![256, 256] inb_S256x2048_S256x256_0_1536, w1536⟩, ⟨Rect.unit ![0, 512] ![256, 256] inb_S256x2048_S256x256_0_512, w512⟩, ⟨Rect.unit ![0, 1280] ![256, 256] inb_S256x2048_S256x256_0_1280, w1280⟩, ⟨Rect.unit ![0, 256] ![256, 256] inb_S256x2048_S256x256_0_256, w256⟩, ⟨Rect.unit ![0, 1024] ![256, 256] inb_S256x2048_S256x256_0_1024, w1024⟩, ⟨Rect.unit ![0, 0] ![256, 256] inb_S256x2048_S256x256_0_0, w0⟩] : List (View.Piece (Elt Ideal) S256x2048 .f32)), y ∈ p.1.set := by
  obtain ⟨k, c, rfl⟩ : ∃ k c, y = (ix2 k c : S256x2048.Idx) := ⟨_, _, eq_ix2 (n0 := 256) (n1 := 2048) y⟩
  refine col_cases (fun c => ∃ p ∈ ([⟨Rect.unit ![0, 1792] ![256, 256] inb_S256x2048_S256x256_0_1792, w1792⟩, ⟨Rect.unit ![0, 768] ![256, 256] inb_S256x2048_S256x256_0_768, w768⟩, ⟨Rect.unit ![0, 1536] ![256, 256] inb_S256x2048_S256x256_0_1536, w1536⟩, ⟨Rect.unit ![0, 512] ![256, 256] inb_S256x2048_S256x256_0_512, w512⟩, ⟨Rect.unit ![0, 1280] ![256, 256] inb_S256x2048_S256x256_0_1280, w1280⟩, ⟨Rect.unit ![0, 256] ![256, 256] inb_S256x2048_S256x256_0_256, w256⟩, ⟨Rect.unit ![0, 1024] ![256, 256] inb_S256x2048_S256x256_0_1024, w1024⟩, ⟨Rect.unit ![0, 0] ![256, 256] inb_S256x2048_S256x256_0_0, w0⟩] : List (View.Piece (Elt Ideal) S256x2048 .f32)), (ix2 k c : S256x2048.Idx) ∈ p.1.set) (fun h d => ?_) (fun h d => ?_) c
  · match h with
    | ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_K ⟨0, by omega⟩ inb_S256x2048_S256x256_0_0 k d⟩
    | ⟨1, _⟩ => exact ⟨_, List.mem_cons_of_mem _ (List.mem_cons_of_mem _ (List.mem_cons_of_mem _ (List.mem_cons_of_mem _ (List.mem_cons_of_mem _ (List.mem_cons_self))))), mem_K ⟨1, by omega⟩ inb_S256x2048_S256x256_0_256 k d⟩
    | ⟨2, _⟩ => exact ⟨_, List.mem_cons_of_mem _ (List.mem_cons_of_mem _ (List.mem_cons_of_mem _ (List.mem_cons_self))), mem_K ⟨2, by omega⟩ inb_S256x2048_S256x256_0_512 k d⟩
    | ⟨3, _⟩ => exact ⟨_, List.mem_cons_of_mem _ (List.mem_cons_self), mem_K ⟨3, by omega⟩ inb_S256x2048_S256x256_0_768 k d⟩
  · match h with
    | ⟨0, _⟩ => exact ⟨_, List.mem_cons_of_mem _ (List.mem_cons_of_mem _ (List.mem_cons_of_mem _ (List.mem_cons_of_mem _ (List.mem_cons_of_mem _ (List.mem_cons_of_mem _ (List.mem_cons_self)))))), mem_V ⟨0, by omega⟩ inb_S256x2048_S256x256_0_1024 k d⟩
    | ⟨1, _⟩ => exact ⟨_, List.mem_cons_of_mem _ (List.mem_cons_of_mem _ (List.mem_cons_of_mem _ (List.mem_cons_of_mem _ (List.mem_cons_self)))), mem_V ⟨1, by omega⟩ inb_S256x2048_S256x256_0_1280 k d⟩
    | ⟨2, _⟩ => exact ⟨_, List.mem_cons_of_mem _ (List.mem_cons_of_mem _ (List.mem_cons_self)), mem_V ⟨2, by omega⟩ inb_S256x2048_S256x256_0_1536 k d⟩
    | ⟨3, _⟩ => exact ⟨_, List.mem_cons_self, mem_V ⟨3, by omega⟩ inb_S256x2048_S256x256_0_1792 k d⟩

/-- Eight stores that are blocks of one array, over a fill of the whole, leave that array. -/
theorem heads_canon (G Z : S256x2048.Idx → Elt Ideal .f32)
    (w1792 : (Rect.unit (s := S256x2048) ![0, 1792] ![256, 256] inb_S256x2048_S256x256_0_1792).shape.Idx → Elt Ideal .f32)
    (w768 : (Rect.unit (s := S256x2048) ![0, 768] ![256, 256] inb_S256x2048_S256x256_0_768).shape.Idx → Elt Ideal .f32)
    (w1536 : (Rect.unit (s := S256x2048) ![0, 1536] ![256, 256] inb_S256x2048_S256x256_0_1536).shape.Idx → Elt Ideal .f32)
    (w512 : (Rect.unit (s := S256x2048) ![0, 512] ![256, 256] inb_S256x2048_S256x256_0_512).shape.Idx → Elt Ideal .f32)
    (w1280 : (Rect.unit (s := S256x2048) ![0, 1280] ![256, 256] inb_S256x2048_S256x256_0_1280).shape.Idx → Elt Ideal .f32)
    (w256 : (Rect.unit (s := S256x2048) ![0, 256] ![256, 256] inb_S256x2048_S256x256_0_256).shape.Idx → Elt Ideal .f32)
    (w1024 : (Rect.unit (s := S256x2048) ![0, 1024] ![256, 256] inb_S256x2048_S256x256_0_1024).shape.Idx → Elt Ideal .f32)
    (w0 : (Rect.unit (s := S256x2048) ![0, 0] ![256, 256] inb_S256x2048_S256x256_0_0).shape.Idx → Elt Ideal .f32)
    (e1792 : ∀ x, w1792 x = G ((Rect.unit (s := S256x2048) ![0, 1792] ![256, 256] inb_S256x2048_S256x256_0_1792).emb x))
    (e768 : ∀ x, w768 x = G ((Rect.unit (s := S256x2048) ![0, 768] ![256, 256] inb_S256x2048_S256x256_0_768).emb x))
    (e1536 : ∀ x, w1536 x = G ((Rect.unit (s := S256x2048) ![0, 1536] ![256, 256] inb_S256x2048_S256x256_0_1536).emb x))
    (e512 : ∀ x, w512 x = G ((Rect.unit (s := S256x2048) ![0, 512] ![256, 256] inb_S256x2048_S256x256_0_512).emb x))
    (e1280 : ∀ x, w1280 x = G ((Rect.unit (s := S256x2048) ![0, 1280] ![256, 256] inb_S256x2048_S256x256_0_1280).emb x))
    (e256 : ∀ x, w256 x = G ((Rect.unit (s := S256x2048) ![0, 256] ![256, 256] inb_S256x2048_S256x256_0_256).emb x))
    (e1024 : ∀ x, w1024 x = G ((Rect.unit (s := S256x2048) ![0, 1024] ![256, 256] inb_S256x2048_S256x256_0_1024).emb x))
    (e0 : ∀ x, w0 x = G ((Rect.unit (s := S256x2048) ![0, 0] ![256, 256] inb_S256x2048_S256x256_0_0).emb x))
    (y : S256x2048.Idx) :
    View.canon ([⟨Rect.unit ![0, 1792] ![256, 256] inb_S256x2048_S256x256_0_1792, w1792⟩, ⟨Rect.unit ![0, 768] ![256, 256] inb_S256x2048_S256x256_0_768, w768⟩, ⟨Rect.unit ![0, 1536] ![256, 256] inb_S256x2048_S256x256_0_1536, w1536⟩, ⟨Rect.unit ![0, 512] ![256, 256] inb_S256x2048_S256x256_0_512, w512⟩, ⟨Rect.unit ![0, 1280] ![256, 256] inb_S256x2048_S256x256_0_1280, w1280⟩, ⟨Rect.unit ![0, 256] ![256, 256] inb_S256x2048_S256x256_0_256, w256⟩, ⟨Rect.unit ![0, 1024] ![256, 256] inb_S256x2048_S256x256_0_1024, w1024⟩, ⟨Rect.unit ![0, 0] ![256, 256] inb_S256x2048_S256x256_0_0, w0⟩, ⟨Rect.unit ![0, 0] ![256, 2048] inb_S256x2048_S256x2048_0_0, Z⟩] : List (View.Piece (Elt Ideal) S256x2048 .f32)) y = G y :=
  View.canon_append_of_piecesOf G [⟨Rect.unit ![0, 0] ![256, 2048] inb_S256x2048_S256x2048_0_0, Z⟩] [⟨Rect.unit ![0, 1792] ![256, 256] inb_S256x2048_S256x256_0_1792, w1792⟩, ⟨Rect.unit ![0, 768] ![256, 256] inb_S256x2048_S256x256_0_768, w768⟩, ⟨Rect.unit ![0, 1536] ![256, 256] inb_S256x2048_S256x256_0_1536, w1536⟩, ⟨Rect.unit ![0, 512] ![256, 256] inb_S256x2048_S256x256_0_512, w512⟩, ⟨Rect.unit ![0, 1280] ![256, 256] inb_S256x2048_S256x256_0_1280, w1280⟩, ⟨Rect.unit ![0, 256] ![256, 256] inb_S256x2048_S256x256_0_256, w256⟩, ⟨Rect.unit ![0, 1024] ![256, 256] inb_S256x2048_S256x256_0_1024, w1024⟩, ⟨Rect.unit ![0, 0] ![256, 256] inb_S256x2048_S256x256_0_0, w0⟩]
    ⟨e1792, e768, e1536, e512, e1280, e256, e1024, e0, trivial⟩ y (heads_cover w1792 w768 w1536 w512 w1280 w256 w1024 w0 y)

section
variable (c : Dev nD) (t : Fin cfg0.N)

abbrev h0' : Fin 4 := ⟨0, by omega⟩
abbrev h1' : Fin 4 := ⟨1, by omega⟩
abbrev h2' : Fin 4 := ⟨2, by omega⟩
abbrev h3' : Fin 4 := ⟨3, by omega⟩

theorem block_B4 (h0 : ¬ cond0_0 (grid0.coords t)) (xo : Vec Ideal S256x2048 .f32) :
    out0_B_4 (F := Ideal) c (grid0.coords t) (ms0_0 t) (hs0_0 t) (ms0_1 t) (hs0_1 t) (ms0_2 t) (hs0_2 t) (ms0_3 t) (hs0_3 t) (ms0_4 t) (hs0_4 t) h0 x0 x1 x2 xo
      = added x0 x2 x1 xo := by
  have hcov := cover0_B_4 (F := Ideal) c (grid0.coords t) (ms0_0 t) (hs0_0 t) (ms0_1 t) (hs0_1 t) (ms0_2 t) (hs0_2 t) (ms0_3 t) (hs0_3 t) (ms0_4 t) (hs0_4 t) h0 x0 x1 x2 xo
  unfold out0_B_4
  rw [View.read_writes_eq_canon _ _ _ hcov]
  funext y
  refine View.canon_apply_of_pieces (added x0 x2 x1 xo) _ ?_ y (hcov y)
  refine View.PiecesOf.mem ?_
  unfold kernelRun0_B
  dsimp only
  sl_unfold_words
  simp only [↓View.readCov_skip, View.readAt_eq_ld, (hs0_0 t).read_unread, (hs0_1 t).read_unread, (hs0_2 t).read_unread, (hs0_4 t).read_unread]
  exact ⟨piece_V x0 x2 x1 h3' xo inb_S256x2048_S256x256_0_1792 _ _ _ _, piece_K x0 x2 x1 h3' xo inb_S256x2048_S256x256_0_768 _ _ _ _ _ _,
    piece_V x0 x2 x1 h2' xo inb_S256x2048_S256x256_0_1536 _ _ _ _, piece_K x0 x2 x1 h2' xo inb_S256x2048_S256x256_0_512 _ _ _ _ _ _,
    piece_V x0 x2 x1 h1' xo inb_S256x2048_S256x256_0_1280 _ _ _ _, piece_K x0 x2 x1 h1' xo inb_S256x2048_S256x256_0_256 _ _ _ _ _ _,
    piece_V x0 x2 x1 h0' xo inb_S256x2048_S256x256_0_1024 _ _ _ _, piece_K x0 x2 x1 h0' xo inb_S256x2048_S256x256_0_0 _ _ _ _ _ _, trivial⟩

theorem block_B3 (h0 : ¬ cond0_0 (grid0.coords t)) (xo : Vec Ideal S256x2048 .f32) :
    out0_B_3 (F := Ideal) c (grid0.coords t) (ms0_0 t) (hs0_0 t) (ms0_1 t) (hs0_1 t) (ms0_2 t) (hs0_2 t) (ms0_3 t) (hs0_3 t) (ms0_4 t) (hs0_4 t) h0 x0 x1 x2 xo
      = dQs x0 x2 x1 := by
  have hcov := cover0_B_3 (F := Ideal) c (grid0.coords t) (ms0_0 t) (hs0_0 t) (ms0_1 t) (hs0_1 t) (ms0_2 t) (hs0_2 t) (ms0_3 t) (hs0_3 t) (ms0_4 t) (hs0_4 t) h0 x0 x1 x2 xo
  unfold out0_B_3
  rw [View.read_writes_eq_canon _ _ _ hcov]
  funext y
  refine View.canon_apply_of_pieces (dQs x0 x2 x1) _ ?_ y (hcov y)
  refine View.PiecesOf.mem ?_
  unfold kernelRun0_B
  dsimp only
  sl_unfold_words
  simp only [↓View.readCov_skip, View.readAt_eq_ld, (hs0_0 t).read_unread, (hs0_1 t).read_unread, (hs0_2 t).read_unread, (hs0_4 t).read_unread]
  exact ⟨piece_Q x0 x2 x1 h3' inb_S512x1024_S512x256_0_768 _ _ _ _ _, piece_Q x0 x2 x1 h2' inb_S512x1024_S512x256_0_512 _ _ _ _ _,
    piece_Q x0 x2 x1 h1' inb_S512x1024_S512x256_0_256 _ _ _ _ _, piece_Q x0 x2 x1 h0' inb_S512x1024_S512x256_0_0 _ _ _ _ _, trivial⟩

theorem block_A3 (h0 : cond0_0 (grid0.coords t)) :
    out0_A_3 (F := Ideal) c (grid0.coords t) (ms0_0 t) (hs0_0 t) (ms0_1 t) (hs0_1 t) (ms0_2 t) (hs0_2 t) (ms0_3 t) (hs0_3 t) (ms0_4 t) (hs0_4 t) h0 x0 x1 x2
      = dQs x0 x2 x1 := by
  have hcov := cover0_A_3 (F := Ideal) c (grid0.coords t) (ms0_0 t) (hs0_0 t) (ms0_1 t) (hs0_1 t) (ms0_2 t) (hs0_2 t) (ms0_3 t) (hs0_3 t) (ms0_4 t) (hs0_4 t) h0 x0 x1 x2
  unfold out0_A_3
  rw [View.read_writes_eq_canon _ _ _ hcov]
  funext y
  refine View.canon_apply_of_pieces (dQs x0 x2 x1) _ ?_ y (hcov y)
  refine View.PiecesOf.mem ?_
  unfold kernelRun0_A
  dsimp only
  sl_unfold_words
  simp only [↓View.readCov_skip, View.readAt_eq_ld, (hs0_0 t).read_unread, (hs0_1 t).read_unread, (hs0_2 t).read_unread, (hs0_4 t).read_unread]
  exact ⟨piece_Q x0 x2 x1 h3' inb_S512x1024_S512x256_0_768 _ _ _ _ _, piece_Q x0 x2 x1 h2' inb_S512x1024_S512x256_0_512 _ _ _ _ _,
    piece_Q x0 x2 x1 h1' inb_S512x1024_S512x256_0_256 _ _ _ _ _, piece_Q x0 x2 x1 h0' inb_S512x1024_S512x256_0_0 _ _ _ _ _, trivial⟩

theorem block_A4 (h0 : cond0_0 (grid0.coords t)) :
    out0_A_4 (F := Ideal) c (grid0.coords t) (ms0_0 t) (hs0_0 t) (ms0_1 t) (hs0_1 t) (ms0_2 t) (hs0_2 t) (ms0_3 t) (hs0_3 t) (ms0_4 t) (hs0_4 t) h0 x0 x1 x2
      = added x0 x2 x1 (k0_pay4 (F := Ideal)) := by
  have hcov := cover0_A_4 (F := Ideal) c (grid0.coords t) (ms0_0 t) (hs0_0 t) (ms0_1 t) (hs0_1 t) (ms0_2 t) (hs0_2 t) (ms0_3 t) (hs0_3 t) (ms0_4 t) (hs0_4 t) h0 x0 x1 x2
  unfold out0_A_4
  rw [View.read_writes_eq_canon _ _ _ hcov]
  clear hcov
  funext y
  unfold kernelRun0_A
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_4 t).read_unread]
  exact heads_canon (added x0 x2 x1 (k0_pay4 (F := Ideal))) (k0_pay4 (F := Ideal)) _ _ _ _ _ _ _ _
    (piece_V x0 x2 x1 h3' _ inb_S256x2048_S256x256_0_1792 _ _ _ _) (piece_K x0 x2 x1 h3' _ inb_S256x2048_S256x256_0_768 _ _ _ _ _ _)
    (piece_V x0 x2 x1 h2' _ inb_S256x2048_S256x256_0_1536 _ _ _ _) (piece_K x0 x2 x1 h2' _ inb_S256x2048_S256x256_0_512 _ _ _ _ _ _)
    (piece_V x0 x2 x1 h1' _ inb_S256x2048_S256x256_0_1280 _ _ _ _) (piece_K x0 x2 x1 h1' _ inb_S256x2048_S256x256_0_256 _ _ _ _ _ _)
    (piece_V x0 x2 x1 h0' _ inb_S256x2048_S256x256_0_1024 _ _ _ _) (piece_K x0 x2 x1 h0' _ inb_S256x2048_S256x256_0_0 _ _ _ _ _ _) y
end

end Cert.Proof.Xa

end
-- ==== Proof.XaArray.lean ====
/- The two result arrays after the last point: each block of rows of the queries' gradient is the rows of one array
   function of the arguments, and the running sum over the eight blocks of rows is the sum over all 4096 rows. -/
module

public import proofs.«01_k».proof.Proof.XaBlock
public import proofs.«01_k».proof.Proof.Gen.KernelIdeal.Value
public import Idealize.ShloMosaic.Lib.Pipeline.ValueKit

@[expose] public section

set_option maxRecDepth 16384

noncomputable section

namespace Cert.Proof.Xa

open Idealize.ShloMosaic Idealize.ShloMosaic.TcCoe Cert.KernelIdeal Cert.KernelIdeal.Gen Cert.KernelIdeal.Value
open Idealize.SL Idealize.SL.Sem

/-- The 512 rows of block `t` of an array of 4096 rows. -/
def rows (Q : S4096x1024.Idx → EReal) (t : Fin 8) : S512x1024.Idx → EReal :=
  fun i => Q (ix2 ⟨512 * t.val + (i 0).val, by have : (i 0).val < 512 := (i 0).isLt; omega⟩ (i 1))

section
variable (Q G : S4096x1024.Idx → EReal) (kv : S256x2048.Idx → EReal)

/-- Row `s` of block `t` as a row of the array. -/
def row (t : Fin 8) (s : Fin 512) : Fin 4096 := ⟨512 * t.val + s.val, by omega⟩

theorem sc_rows (t : Fin 8) (h : Fin 4) (s : Fin 512) : sc (rows Q t) kv h s = sc Q kv h (row t s) := rfl
theorem dp_rows (t : Fin 8) (h : Fin 4) (s : Fin 512) : dp (rows G t) kv h s = dp G kv h (row t s) := rfl

theorem dQs_rows (t : Fin 8) : dQs (rows Q t) (rows G t) kv = rows (dQs Q G kv) t := rfl

/-- A sum over the blocks of rows and the rows of a block is the sum over all rows. -/
theorem sum_rows (f : Fin 4096 → EReal) : ∑ t : Fin 8, ∑ s : Fin 512, f (row t s) = ∑ s : Fin 4096, f s := by
  rw [← Fintype.sum_prod_type']
  refine Equiv.sum_comp (finProdFinEquiv (m := 8) (n := 512)) f |>.symm.trans ?_ |>.symm
  refine Finset.sum_congr rfl fun p _ => congrArg f (Fin.ext ?_)
  simp only [finProdFinEquiv_apply_val, row]; omega

theorem sum_dKV (i : S256x2048.Idx) : ∑ t : Fin 8, dKV (rows Q t) (rows G t) kv i = dKV Q G kv i := by
  rw [eq_ix2 (n0 := 256) (n1 := 2048) i]
  generalize i 0 = k
  generalize i 1 = c
  revert c
  refine col_cases _ (fun h d => ?_) (fun h d => ?_)
  · refine (Finset.sum_congr rfl fun t _ => dKV_colK (rows Q t) (rows G t) kv h k d).trans ?_
    refine Eq.trans ?_ (dKV_colK Q G kv h k d).symm
    exact sum_rows fun s => dscore (sc Q kv h s) (dp G kv h s) k * Q (ix2 s (col h d))
  · refine (Finset.sum_congr rfl fun t _ => dKV_colV (rows Q t) (rows G t) kv h k d).trans ?_
    refine Eq.trans ?_ (dKV_colV Q G kv h k d).symm
    exact sum_rows fun s => prob (sc Q kv h s) k * G (ix2 s (col h d))

end

variable (m : (ℓ : Loc nD τ sig) → Buf (Elt Ideal) ℓ)

/-- The queries, the keys and values, the incoming gradient of a device, as arrays of numbers. -/
abbrev qA (c : Dev nD) : S4096x1024.Idx → EReal := m ((c : Thread nD τ).loc main_arg0)
abbrev kvA (c : Dev nD) : S256x2048.Idx → EReal := m ((c : Thread nD τ).loc main_arg1)
abbrev gA (c : Dev nD) : S4096x1024.Idx → EReal := m ((c : Thread nD τ).loc main_arg2)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- A point's number. -/
def pt (t : Fin cfg0.N) : Fin 8 := ⟨t.val, Nat.lt_of_lt_of_eq t.isLt N_0⟩

theorem iblk0 (c : Dev nD) (t : Fin cfg0.N) : iblk m c 0 t = rows (qA m c) (pt t) := by
  funext y
  blk_simp [iblk]
  rw [V_main_arg0]
  refine congrArg (qA m c) ?_
  blk_ext [idx0, pt]

theorem iblk2 (c : Dev nD) (t : Fin cfg0.N) : iblk m c 2 t = rows (gA m c) (pt t) := by
  funext y
  blk_simp [iblk]
  rw [V_main_arg2]
  refine congrArg (gA m c) ?_
  blk_ext [idx2, pt]

theorem iblk1 (c : Dev nD) (t : Fin cfg0.N) : iblk m c 1 t = kvA m c := by
  funext y
  blk_simp [iblk]
  rw [V_main_arg1]
  refine congrArg (kvA m c) ?_
  blk_ext [idx1]

/-- What every point leaves in the block of the queries' gradient. -/
theorem outs_1 (c : Dev nD) (t : Fin cfg0.N) :
    (outsAt0 m c t.val t.isLt).1 = rows (dQs (qA m c) (gA m c) (kvA m c)) (pt t) := by
  rw [← dQs_rows]
  by_cases h0 : t.val % 8 = 0
  · refine (congrArg Prod.fst (outsAt0_A m c t h0)).trans ?_
    dsimp only
    refine (block_A3 (iblk m c 0 t) (iblk m c 2 t) (iblk m c 1 t) c t ((hcond0_0 t).mpr h0)).trans ?_
    rw [iblk0, iblk1, iblk2]
  · refine (congrArg Prod.fst (outsAt0_B m c t h0)).trans ?_
    dsimp only
    refine (block_B3 (iblk m c 0 t) (iblk m c 2 t) (iblk m c 1 t) c t (fun h => h0 ((hcond0_0 t).mp h)) (outsAt0 m c (t.val - 1) (Nat.lt_of_le_of_lt (Nat.sub_le _ _) t.isLt)).2).trans ?_
    rw [iblk0, iblk1, iblk2]

/-- What the last point leaves in the block of the keys' and values' gradient. -/
theorem outs_2 (c : Dev nD) (t : Fin cfg0.N) (ht : t.val % 8 = 7) :
    (outsAt0 m c t.val t.isLt).2 = dKV (qA m c) (gA m c) (kvA m c) := by
  have key := Pipeline.eq_sum_fin_of_reset_step_of_flush (fun n hn => (outsAt0 m c n hn).2) 8 (0 : S256x2048.Idx → EReal)
    (fun t => dKV (rows (qA m c) (pt t)) (rows (gA m c) (pt t)) (kvA m c))
    (fun t h0 => ?_) (fun t h0 => ?_) t ht
  · refine key.trans ?_
    rw [zero_add]
    funext i
    rw [Finset.sum_apply, ← sum_dKV]
    refine Finset.sum_congr rfl fun s _ => ?_
    have e : pt ⟨8 * (t.val / 8) + s.val, Pipeline.run_point_lt_of_flush t ht s⟩ = s := by
      have : t.val < 8 := Nat.lt_of_lt_of_eq t.isLt N_0
      apply Fin.ext; show 8 * (t.val / 8) + s.val = s.val; omega
    rw [e]
  · show (outsAt0 m c t.val t.isLt).2 = _
    refine (congrArg Prod.snd (outsAt0_A m c t h0)).trans ?_
    dsimp only
    refine (block_A4 (iblk m c 0 t) (iblk m c 2 t) (iblk m c 1 t) c t ((hcond0_0 t).mpr h0)).trans ?_
    rw [iblk0, iblk1, iblk2]
    funext y
    exact congrArg (· + _) (Ideal.ofBits_zero_f32)
  · show (outsAt0 m c t.val t.isLt).2 = _
    refine (congrArg Prod.snd (outsAt0_B m c t h0)).trans ?_
    dsimp only
    refine (block_B4 (iblk m c 0 t) (iblk m c 2 t) (iblk m c 1 t) c t (fun h => h0 ((hcond0_0 t).mp h)) (outsAt0 m c (t.val - 1) (Nat.lt_of_le_of_lt (Nat.sub_le _ _) t.isLt)).2).trans ?_
    rw [iblk0, iblk1, iblk2]
    rfl

theorem final3 (c : Dev nD) : (dats m 0 c).arrAt 3 cfg0.N = dQs (qA m c) (gA m c) (kvA m c) := by
  refine (dats m 0 c).arrAt_eq_of_covers 3 _ (by decide +kernel) fun t hf y => ?_
  blk_simp
  rw [after0_3, outs_1]
  refine congrArg (dQs (qA m c) (gA m c) (kvA m c)) ?_
  blk_ext [idx3, pt]

theorem final4 (c : Dev nD) : (dats m 0 c).arrAt 4 cfg0.N = dKV (qA m c) (gA m c) (kvA m c) := by
  refine (dats m 0 c).arrAt_eq_of_covers 4 _ (by decide +kernel) fun t hf y => ?_
  blk_simp
  rw [after0_4, outs_2 m c t ((flush0_4 t).mp hf)]
  refine congrArg (dKV (qA m c) (gA m c) (kvA m c)) ?_
  blk_ext [idx4]

end Cert.Proof.Xa

end
-- ==== Proof.XaRef.lean ====
/- The reference's two results at an index: the same sums over keys, queries and columns, with the gradient of the scores
   in the form the plain gradient gives (`plain`): the incoming gradient over the mass, less one term common to a row,
   times the exponential. -/
module

public import proofs.«01_k».proof.Proof.XaPay
public import proofs.«01_k».proof.Proof.Gen.ReferenceIdeal.Read
public import Idealize.ShloMosaic.Lib.KernelVsHost

@[expose] public section

set_option maxRecDepth 16384

noncomputable section

namespace Cert.Proof.Xa

open Idealize.ShloMosaic Cert.ReferenceIdeal Cert.ReferenceIdeal.Gen Cert.ReferenceIdeal.Read

/-- The plain gradient of the scores, from the gradient `y` of the probabilities. -/
def plain (x y : Fin 256 → EReal) (k : Fin 256) : EReal :=
  (Ideal.div (y k) (mass x) + -(∑ l, y l * Ideal.div 1 (mass x * mass x) * expo x l)) * expo x k * scale

/-- A greatest value folded from `b` is at least `b`. -/
theorem max_fold {n : ℕ} (b : EReal) (f : Fin n → EReal) : max b (Finset.univ.fold max b f) = Finset.univ.fold max b f :=
  max_eq_right ((Finset.le_fold_max b).mpr (Or.inl le_rfl))

variable (x0 x2 : S4096x1024.Idx → EReal) (x1 : S256x2048.Idx → EReal)

theorem r3 (s : Fin 4096) (h : Fin 4) (d : Fin 256) : val_main_v3 (F := Ideal) x0 (ix3 s h d) = x0 (ix2 s (col h d)) := by
  refine (val_main_v3_apply (F := Ideal) x0 _).trans (congrArg x0 (funext fun a => Fin.ext ?_))
  match a with
  | ⟨0, _⟩ => show ((s.val * 4 + h.val) * 256 + d.val) / 1024 = s.val; omega
  | ⟨1, _⟩ => show ((s.val * 4 + h.val) * 256 + d.val) % 1024 = 256 * h.val + d.val; omega

theorem r42 (s : Fin 4096) (h : Fin 4) (d : Fin 256) : val_main_v42 (F := Ideal) x2 (ix3 s h d) = x2 (ix2 s (col h d)) := by
  refine (val_main_v42_apply (F := Ideal) x2 _).trans (congrArg x2 (funext fun a => Fin.ext ?_))
  match a with
  | ⟨0, _⟩ => show ((s.val * 4 + h.val) * 256 + d.val) / 1024 = s.val; omega
  | ⟨1, _⟩ => show ((s.val * 4 + h.val) * 256 + d.val) % 1024 = 256 * h.val + d.val; omega

theorem r43 (h : Fin 4) (d : Fin 256) (s : Fin 4096) : val_main_v43 (F := Ideal) x2 (ix3 h d s) = x2 (ix2 s (col h d)) := by
  refine (val_main_v43_apply (F := Ideal) x2 _).trans (Eq.trans (congrArg _ (funext fun a => ?_)) (r42 x2 s h d))
  match a with
  | ⟨0, _⟩ => rfl
  | ⟨1, _⟩ => rfl
  | ⟨2, _⟩ => rfl

theorem r5 (k : Fin 256) (h : Fin 4) (d : Fin 256) : val_main_v5 (F := Ideal) x1 (ix3 k h d) = x1 (ix2 k (colK h d)) := by
  refine (val_main_v5_apply (F := Ideal) x1 _).trans ((val_main_v4_apply (F := Ideal) x1 _).trans (congrArg x1 (funext fun a => Fin.ext ?_)))
  match a with
  | ⟨0, _⟩ => show ((k.val * 4 + h.val) * 256 + d.val) / 1024 = k.val; omega
  | ⟨1, _⟩ => show ((k.val * 4 + h.val) * 256 + d.val) % 1024 = 256 * h.val + d.val; omega

theorem r7 (k : Fin 256) (h : Fin 4) (d : Fin 256) : val_main_v7 (F := Ideal) x1 (ix3 k h d) = x1 (ix2 k (colV h d)) := by
  refine (val_main_v7_apply (F := Ideal) x1 _).trans ((val_main_v6_apply (F := Ideal) x1 _).trans (congrArg x1 (funext fun a => Fin.ext ?_)))
  match a with
  | ⟨0, _⟩ => show ((k.val * 4 + h.val) * 256 + d.val) / 1024 = k.val; omega
  | ⟨1, _⟩ => show 1024 + ((k.val * 4 + h.val) * 256 + d.val) % 1024 = 1024 + 256 * h.val + d.val; omega

/-- The scores. -/
theorem r8 (h : Fin 4) (s : Fin 4096) (k : Fin 256) : val_main_v8 (F := Ideal) x0 x1 (ix3 h s k) = sc x0 x1 h s k := by
  refine (val_main_v8_apply x0 x1 _).trans (Finset.sum_congr rfl fun d _ => ?_)
  rw [mul_comm]
  refine congrArg₂ (· * ·) (Eq.trans (congrArg _ (funext fun a => ?_)) (r5 x1 k h d)) (Eq.trans (congrArg _ (funext fun a => ?_)) (r3 x0 s h d)) <;>
  match a with
  | ⟨0, _⟩ => rfl
  | ⟨1, _⟩ => rfl
  | ⟨2, _⟩ => rfl

/-- The gradient of the probabilities. -/
theorem r44 (h : Fin 4) (s : Fin 4096) (k : Fin 256) : val_main_v44 (F := Ideal) x1 x2 (ix3 h s k) = dp x2 x1 h s k := by
  refine (val_main_v44_apply x1 x2 _).trans (Finset.sum_congr rfl fun d _ => ?_)
  rw [mul_comm]
  refine congrArg₂ (· * ·) (Eq.trans (congrArg _ (funext fun a => ?_)) (r7 x1 k h d)) (Eq.trans (congrArg _ (funext fun a => ?_)) (r43 x2 h d s)) <;>
  match a with
  | ⟨0, _⟩ => rfl
  | ⟨1, _⟩ => rfl
  | ⟨2, _⟩ => rfl

theorem r10 (h : Fin 4) (s : Fin 4096) (k : Fin 256) :
    val_main_v10 (F := Ideal) x0 x1 (ix3 h s k) = sc x0 x1 h s k * scale :=
  congrArg₂ (· * ·) (r8 x0 x1 h s k) (val_main_v9_apply (F := Ideal) _)

theorem r11 (h : Fin 4) (s : Fin 4096) : val_main_v11 (F := Ideal) x0 x1 (ix2 h s) = top (sc x0 x1 h s) := by
  unfold val_main_v11
  pointwise
  simp only [r10]
  rfl

theorem r18 (h : Fin 4) (s : Fin 4096) : val_main_v18 (F := Ideal) x0 x1 (ix2 h s) = top (sc x0 x1 h s) := by
  refine (val_main_v18_apply (F := Ideal) x0 x1 _).trans ?_
  rw [val_main_v17_apply, r11]
  exact max_fold _ _

theorem r29 (h : Fin 4) (s : Fin 4096) (k : Fin 256) : val_main_v29 (F := Ideal) x0 x1 (ix3 h s k) = top (sc x0 x1 h s) := by
  refine (val_main_v29_apply (F := Ideal) x0 x1 _).trans ((val_main_v28_apply (F := Ideal) x0 x1 _).trans (Eq.trans (congrArg _ (funext fun a => ?_)) (r18 x0 x1 h s)))
  match a with
  | ⟨0, _⟩ => rfl
  | ⟨1, _⟩ => rfl

theorem r31 (h : Fin 4) (s : Fin 4096) (k : Fin 256) : val_main_v31 (F := Ideal) x0 x1 (ix3 h s k) = expo (sc x0 x1 h s) k := by
  refine (val_main_v31_apply (F := Ideal) x0 x1 _).trans (congrArg Ideal.exp ?_)
  exact (val_main_v30_apply (F := Ideal) x0 x1 _).trans (congrArg₂ (· - ·) (r10 x0 x1 h s k) (r29 x0 x1 h s k))

theorem r32 (h : Fin 4) (s : Fin 4096) : val_main_v32 (F := Ideal) x0 x1 (ix2 h s) = mass (sc x0 x1 h s) := by
  refine (val_main_v32_apply x0 x1 _).trans (Eq.trans (congrArg₂ (· + ·) Ideal.ofBits_zero_f32 (Finset.sum_congr rfl fun k _ => ?_)) (zero_add _))
  refine Eq.trans (congrArg _ (funext fun a => ?_)) (r31 x0 x1 h s k)
  match a with
  | ⟨0, _⟩ => rfl
  | ⟨1, _⟩ => rfl
  | ⟨2, _⟩ => rfl

theorem r33 (h : Fin 4) (s : Fin 4096) (j : Fin 1) : val_main_v33 (F := Ideal) x0 x1 (ix3 h s j) = mass (sc x0 x1 h s) := by
  refine (val_main_v33_apply (F := Ideal) x0 x1 _).trans (Eq.trans (congrArg _ (funext fun a => ?_)) (r32 x0 x1 h s))
  match a with
  | ⟨0, _⟩ => rfl
  | ⟨1, _⟩ => rfl

theorem r34 (h : Fin 4) (s : Fin 4096) (k : Fin 256) : val_main_v34 (F := Ideal) x0 x1 (ix3 h s k) = mass (sc x0 x1 h s) := by
  refine (val_main_v34_apply (F := Ideal) x0 x1 _).trans (Eq.trans (congrArg _ (funext fun a => ?_)) (r33 x0 x1 h s 0))
  match a with
  | ⟨0, _⟩ => rfl
  | ⟨1, _⟩ => rfl
  | ⟨2, _⟩ => rfl

theorem r53 (h : Fin 4) (s : Fin 4096) (k : Fin 256) : val_main_v53 (F := Ideal) x0 x1 (ix3 h s k) = mass (sc x0 x1 h s) := by
  refine (val_main_v53_apply (F := Ideal) x0 x1 _).trans (Eq.trans (congrArg _ (funext fun a => ?_)) (r33 x0 x1 h s 0))
  match a with
  | ⟨0, _⟩ => rfl
  | ⟨1, _⟩ => rfl
  | ⟨2, _⟩ => rfl

/-- The probabilities. -/
theorem r35 (h : Fin 4) (s : Fin 4096) (k : Fin 256) : val_main_v35 (F := Ideal) x0 x1 (ix3 h s k) = prob (sc x0 x1 h s) k :=
  (val_main_v35_apply (F := Ideal) x0 x1 _).trans (congrArg₂ Ideal.div (r31 x0 x1 h s k) (r34 x0 x1 h s k))

theorem r38 (h : Fin 4) (s : Fin 4096) (j : Fin 1) :
    val_main_v38 (F := Ideal) x0 x1 (ix3 h s j) = Ideal.div 1 (mass (sc x0 x1 h s) * mass (sc x0 x1 h s)) := by
  refine (val_main_v38_apply (F := Ideal) x0 x1 _).trans (congrArg₂ Ideal.div ?_ ?_)
  · exact (val_main_v37_apply (F := Ideal) _).trans Ideal.ofBits_one_f32
  · exact (val_main_v36_apply (F := Ideal) x0 x1 _).trans (congrArg₂ (· * ·) (r33 x0 x1 h s j) (r33 x0 x1 h s j))

theorem r47 (h : Fin 4) (s : Fin 4096) (k : Fin 256) :
    val_main_v47 (F := Ideal) x0 x1 (ix3 h s k) = Ideal.div 1 (mass (sc x0 x1 h s) * mass (sc x0 x1 h s)) := by
  refine (val_main_v47_apply (F := Ideal) x0 x1 _).trans (Eq.trans (congrArg _ (funext fun a => ?_)) (r38 x0 x1 h s 0))
  match a with
  | ⟨0, _⟩ => rfl
  | ⟨1, _⟩ => rfl
  | ⟨2, _⟩ => rfl

theorem r49 (h : Fin 4) (s : Fin 4096) (k : Fin 256) : val_main_v49 (F := Ideal) x0 x1 x2 (ix3 h s k)
    = dp x2 x1 h s k * Ideal.div 1 (mass (sc x0 x1 h s) * mass (sc x0 x1 h s)) * expo (sc x0 x1 h s) k :=
  (val_main_v49_apply (F := Ideal) x0 x1 x2 _).trans (congrArg₂ (· * ·)
    ((val_main_v48_apply (F := Ideal) x0 x1 x2 _).trans (congrArg₂ (· * ·) (r44 x2 x1 h s k) (r47 x0 x1 h s k))) (r31 x0 x1 h s k))

theorem r50 (h : Fin 4) (s : Fin 4096) : val_main_v50 (F := Ideal) x0 x1 x2 (ix2 h s)
    = ∑ l, dp x2 x1 h s l * Ideal.div 1 (mass (sc x0 x1 h s) * mass (sc x0 x1 h s)) * expo (sc x0 x1 h s) l := by
  refine (val_main_v50_apply x0 x1 x2 _).trans (Eq.trans (congrArg₂ (· + ·) Ideal.ofBits_zero_f32 (Finset.sum_congr rfl fun k _ => ?_)) (zero_add _))
  refine Eq.trans (congrArg _ (funext fun a => ?_)) (r49 x0 x2 x1 h s k)
  match a with
  | ⟨0, _⟩ => rfl
  | ⟨1, _⟩ => rfl
  | ⟨2, _⟩ => rfl

theorem r52 (h : Fin 4) (s : Fin 4096) (j : Fin 1) : val_main_v52 (F := Ideal) x0 x1 x2 (ix3 h s j)
    = -∑ l, dp x2 x1 h s l * Ideal.div 1 (mass (sc x0 x1 h s) * mass (sc x0 x1 h s)) * expo (sc x0 x1 h s) l := by
  refine (val_main_v52_apply (F := Ideal) x0 x1 x2 _).trans (congrArg Neg.neg ?_)
  refine (val_main_v51_apply (F := Ideal) x0 x1 x2 _).trans (Eq.trans (congrArg _ (funext fun a => Fin.ext ?_)) (r50 x0 x2 x1 h s))
  match a with
  | ⟨0, _⟩ => show ((h.val * 4096 + s.val) * 1 + j.val) / 4096 = h.val; omega
  | ⟨1, _⟩ => show ((h.val * 4096 + s.val) * 1 + j.val) % 4096 = s.val; omega

theorem r55 (h : Fin 4) (s : Fin 4096) : val_main_v55 (F := Ideal) x0 x1 x2 (ix2 h s)
    = -∑ l, dp x2 x1 h s l * Ideal.div 1 (mass (sc x0 x1 h s) * mass (sc x0 x1 h s)) * expo (sc x0 x1 h s) l := by
  refine (val_main_v55_apply x0 x1 x2 _).trans (Eq.trans (congrArg₂ (· + ·) Ideal.ofBits_zero_f32 (Fin.sum_univ_one _)) ((zero_add _).trans ?_))
  refine Eq.trans (congrArg _ (funext fun a => ?_)) (r52 x0 x2 x1 h s 0)
  match a with
  | ⟨0, _⟩ => rfl
  | ⟨1, _⟩ => rfl
  | ⟨2, _⟩ => rfl

/-- The gradient of the scores. -/
theorem r60 (h : Fin 4) (s : Fin 4096) (k : Fin 256) :
    val_main_v60 (F := Ideal) x0 x1 x2 (ix3 h s k) = plain (sc x0 x1 h s) (dp x2 x1 h s) k := by
  refine (val_main_v60_apply (F := Ideal) x0 x1 x2 _).trans (congrArg₂ (· * ·) ?_ (val_main_v59_apply (F := Ideal) _))
  refine (val_main_v58_apply (F := Ideal) x0 x1 x2 _).trans (congrArg₂ (· * ·) ?_ (r31 x0 x1 h s k))
  refine (val_main_v57_apply (F := Ideal) x0 x1 x2 _).trans (congrArg₂ (· + ·) ?_ ?_)
  · exact (val_main_v54_apply (F := Ideal) x0 x1 x2 _).trans (congrArg₂ Ideal.div (r44 x2 x1 h s k) (r53 x0 x1 h s k))
  · refine (val_main_v56_apply (F := Ideal) x0 x1 x2 _).trans (Eq.trans (congrArg _ (funext fun a => ?_)) (r55 x0 x2 x1 h s))
    match a with
    | ⟨0, _⟩ => rfl
    | ⟨1, _⟩ => rfl

/-- The gradient of a query. -/
theorem r63 (h : Fin 4) (s : Fin 4096) (d : Fin 256) : val_main_v63 (F := Ideal) x0 x1 x2 (ix3 h s d)
    = ∑ k : Fin 256, x1 (ix2 k (colK h d)) * plain (sc x0 x1 h s) (dp x2 x1 h s) k := by
  refine (val_main_v63_apply x0 x1 x2 _).trans (Finset.sum_congr rfl fun k _ => ?_)
  rw [mul_comm]
  refine congrArg₂ (· * ·) (Eq.trans (congrArg _ (funext fun a => ?_)) (r5 x1 k h d)) (Eq.trans (congrArg _ (funext fun a => ?_)) (r60 x0 x2 x1 h s k)) <;>
  match a with
  | ⟨0, _⟩ => rfl
  | ⟨1, _⟩ => rfl
  | ⟨2, _⟩ => rfl

/-- The gradient of a key. -/
theorem r61 (h : Fin 4) (k d : Fin 256) : val_main_v61 (F := Ideal) x0 x1 x2 (ix3 h k d)
    = ∑ s : Fin 4096, plain (sc x0 x1 h s) (dp x2 x1 h s) k * x0 (ix2 s (col h d)) := by
  refine (val_main_v61_apply x0 x1 x2 _).trans (Finset.sum_congr rfl fun s _ => ?_)
  refine congrArg₂ (· * ·) (Eq.trans (congrArg _ (funext fun a => ?_)) (r60 x0 x2 x1 h s k)) (Eq.trans (congrArg _ (funext fun a => ?_)) (r3 x0 s h d)) <;>
  match a with
  | ⟨0, _⟩ => rfl
  | ⟨1, _⟩ => rfl
  | ⟨2, _⟩ => rfl

/-- The gradient of a value. -/
theorem r45 (h : Fin 4) (d k : Fin 256) : val_main_v45 (F := Ideal) x0 x1 x2 (ix3 h d k)
    = ∑ s : Fin 4096, prob (sc x0 x1 h s) k * x2 (ix2 s (col h d)) := by
  refine (val_main_v45_apply x0 x1 x2 _).trans (Finset.sum_congr rfl fun s _ => ?_)
  rw [mul_comm]
  refine congrArg₂ (· * ·) (Eq.trans (congrArg _ (funext fun a => ?_)) (r35 x0 x1 h s k)) (Eq.trans (congrArg _ (funext fun a => ?_)) (r43 x2 h d s)) <;>
  match a with
  | ⟨0, _⟩ => rfl
  | ⟨1, _⟩ => rfl
  | ⟨2, _⟩ => rfl

/-- The first result at row `s`, column `d` of head `h`. -/
theorem r71 (s : Fin 4096) (h : Fin 4) (d : Fin 256) : val_main_v71 (F := Ideal) x0 x1 x2 (ix2 s (col h d))
    = ∑ k : Fin 256, x1 (ix2 k (colK h d)) * plain (sc x0 x1 h s) (dp x2 x1 h s) k := by
  refine (val_main_v71_apply (F := Ideal) x0 x1 x2 _).trans ((val_main_v70_apply (F := Ideal) x0 x1 x2 _).trans
    ((val_main_v64_apply (F := Ideal) x0 x1 x2 _).trans (Eq.trans (congrArg _ (funext fun a => Fin.ext ?_)) (r63 x0 x2 x1 h s d))))
  match a with
  | ⟨0, _⟩ => show (s.val * 1024 + (256 * h.val + d.val)) / 256 % 4 = h.val; omega
  | ⟨1, _⟩ => show (s.val * 1024 + (256 * h.val + d.val)) / 1024 = s.val; omega
  | ⟨2, _⟩ => show (s.val * 1024 + (256 * h.val + d.val)) % 256 = d.val; omega

theorem r65 (k : Fin 256) (h : Fin 4) (d : Fin 256) : val_main_v65 (F := Ideal) x0 x1 x2 (ix2 k (col h d))
    = ∑ s : Fin 4096, prob (sc x0 x1 h s) k * x2 (ix2 s (col h d)) := by
  refine (val_main_v65_apply (F := Ideal) x0 x1 x2 _).trans
    ((val_main_v46_apply (F := Ideal) x0 x1 x2 _).trans (Eq.trans (congrArg _ (funext fun a => Fin.ext ?_)) (r45 x0 x2 x1 h d k)))
  match a with
  | ⟨0, _⟩ => show (k.val * 1024 + (256 * h.val + d.val)) / 256 % 4 = h.val; omega
  | ⟨1, _⟩ => show (k.val * 1024 + (256 * h.val + d.val)) % 256 = d.val; omega
  | ⟨2, _⟩ => show (k.val * 1024 + (256 * h.val + d.val)) / 1024 = k.val; omega

theorem r67 (k : Fin 256) (h : Fin 4) (d : Fin 256) : val_main_v67 (F := Ideal) x0 x1 x2 (ix2 k (col h d))
    = ∑ s : Fin 4096, plain (sc x0 x1 h s) (dp x2 x1 h s) k * x0 (ix2 s (col h d)) := by
  refine (val_main_v67_apply (F := Ideal) x0 x1 x2 _).trans
    ((val_main_v62_apply (F := Ideal) x0 x1 x2 _).trans (Eq.trans (congrArg _ (funext fun a => Fin.ext ?_)) (r61 x0 x2 x1 h k d)))
  match a with
  | ⟨0, _⟩ => show (k.val * 1024 + (256 * h.val + d.val)) / 256 % 4 = h.val; omega
  | ⟨1, _⟩ => show (k.val * 1024 + (256 * h.val + d.val)) / 1024 = k.val; omega
  | ⟨2, _⟩ => show (k.val * 1024 + (256 * h.val + d.val)) % 256 = d.val; omega

/-- The second result among the keys' columns. -/
theorem r69_K (k : Fin 256) (h : Fin 4) (d : Fin 256) : val_main_v69 (F := Ideal) x0 x1 x2 (ix2 k (colK h d))
    = ∑ s : Fin 4096, plain (sc x0 x1 h s) (dp x2 x1 h s) k * x0 (ix2 s (col h d)) := by
  refine (val_main_v69_apply (F := Ideal) x0 x1 x2 _).trans (Eq.trans (congrArg₂ (· + ·) ?_ ?_) (zero_add _))
  · unfold val_main_v66
    refine (pad_apply_of_not_inside _ _ _ _ _ _ _ _ (1 : Fin 2) fun hin => ?_).trans Ideal.ofBits_zero_f32
    have : 1024 ≤ 256 * h.val + d.val := hin.1
    omega
  · unfold val_main_v68
    refine (pad_apply_of_inside _ _ _ _ _ _ _ _ (ix2 k (col h d)) fun a => ?_).trans (r67 x0 x2 x1 k h d)
    match a with
    | ⟨0, _⟩ => show k.val = 0 + k.val * 1; omega
    | ⟨1, _⟩ => show 256 * h.val + d.val = 0 + (256 * h.val + d.val) * 1; omega

/-- The second result among the values' columns. -/
theorem r69_V (k : Fin 256) (h : Fin 4) (d : Fin 256) : val_main_v69 (F := Ideal) x0 x1 x2 (ix2 k (colV h d))
    = ∑ s : Fin 4096, prob (sc x0 x1 h s) k * x2 (ix2 s (col h d)) := by
  refine (val_main_v69_apply (F := Ideal) x0 x1 x2 _).trans (Eq.trans (congrArg₂ (· + ·) ?_ ?_) (add_zero _))
  · unfold val_main_v66
    refine (pad_apply_of_inside _ _ _ _ _ _ _ _ (ix2 k (col h d)) fun a => ?_).trans (r65 x0 x2 x1 k h d)
    match a with
    | ⟨0, _⟩ => show k.val = 0 + k.val * 1; omega
    | ⟨1, _⟩ => show 1024 + 256 * h.val + d.val = 1024 + (256 * h.val + d.val) * 1; omega
  · unfold val_main_v68
    refine (pad_apply_of_not_inside _ _ _ _ _ _ _ _ (1 : Fin 2) fun hin => ?_).trans Ideal.ofBits_zero_f32
    have : (1024 + 256 * h.val + d.val - 0) / 1 < 1024 := hin.2.2
    omega

end Cert.Proof.Xa

end
-- ==== Proof.XaEq.lean ====
/- The gradient of the scores as the body computes it is the plain gradient, when every score is a finite number: the
   exponentials and their sum are then positive reals, and a product with a positive real passes through every sum. The
   incoming gradient may be anything. -/
module

public import proofs.«01_k».proof.Proof.XaPay

@[expose] public section

noncomputable section

namespace Cert.Proof.Xa

open Idealize.ShloMosaic

theorem scale_real : ∃ r : ℝ, scale = (r : EReal) := by
  refine ⟨8388608 * (2 ^ 27)⁻¹, ?_⟩
  unfold scale
  simp [Ideal.ofBits, Ideal.ieee]

theorem low_bot : Ideal.ofBits .f32 0xFF800000#32 = (⊥ : EReal) := by
  simp [Ideal.ofBits, Ideal.ieee]

/-- A product with a real that is not negative passes through a sum. -/
theorem coe_mul_sum {n : ℕ} (r : ℝ) (hr : 0 ≤ r) (f : Fin n → EReal) : (r : EReal) * ∑ l, f l = ∑ l, (r : EReal) * f l := by
  classical
  have hr' : (0 : EReal) ≤ (r : EReal) := EReal.coe_nonneg.mpr hr
  induction (Finset.univ : Finset (Fin n)) using Finset.induction_on with
  | empty => simp
  | insert a s ha ih =>
    rw [Finset.sum_insert ha, Finset.sum_insert ha, EReal.left_distrib_of_nonneg_of_ne_top hr' (EReal.coe_ne_top r), ih]

/-- A sum of reals is a real. -/
theorem sum_coe {n : ℕ} (f : Fin n → ℝ) : ∑ l, (f l : EReal) = ((∑ l, f l : ℝ) : EReal) := by
  classical
  induction (Finset.univ : Finset (Fin n)) using Finset.induction_on with
  | empty => simp
  | insert a s ha ih => rw [Finset.sum_insert ha, Finset.sum_insert ha, ih, EReal.coe_add]

theorem div_coe (a : EReal) (r : ℝ) (hr : r ≠ 0) : Ideal.div a (r : EReal) = a * ((r⁻¹ : ℝ) : EReal) := by
  unfold Ideal.div
  rw [if_neg (by exact_mod_cast hr), EReal.coe_inv]

/-- The greatest of finitely many finite scaled scores is finite. -/
theorem top_real (x : Fin 256 → EReal) (hx : ∀ k, ∃ r : ℝ, x k = (r : EReal)) : ∃ r : ℝ, top x = (r : EReal) := by
  obtain ⟨c, hc⟩ := scale_real
  have hs : ∀ k, ∃ r : ℝ, x k * scale = (r : EReal) := fun k => by
    obtain ⟨r, hr⟩ := hx k
    exact ⟨r * c, by rw [hr, hc, EReal.coe_mul]⟩
  have h1 : top x < ⊤ := by
    unfold top
    rw [Finset.fold_max_lt, low_bot]
    refine ⟨bot_lt_top, fun k _ => ?_⟩
    obtain ⟨r, hr⟩ := hs k
    rw [hr]; exact EReal.coe_lt_top r
  have h2 : ⊥ < top x := by
    unfold top
    rw [Finset.lt_fold_max]
    refine Or.inr ⟨0, Finset.mem_univ _, ?_⟩
    obtain ⟨r, hr⟩ := hs 0
    rw [hr]; exact EReal.bot_lt_coe r
  exact ⟨(top x).toReal, (EReal.coe_toReal h1.ne h2.ne').symm⟩

/-- Every exponential is a positive real. -/
theorem expo_real (x : Fin 256 → EReal) (hx : ∀ k, ∃ r : ℝ, x k = (r : EReal)) :
    ∃ e : Fin 256 → ℝ, (∀ k, 0 < e k) ∧ ∀ k, expo x k = (e k : EReal) := by
  obtain ⟨c, hc⟩ := scale_real
  obtain ⟨u, hu⟩ := top_real x hx
  choose r hr using hx
  refine ⟨fun k => Real.exp (r k * c - u), fun k => Real.exp_pos _, fun k => ?_⟩
  unfold expo
  rw [hr, hc, hu, ← EReal.coe_mul, ← EReal.coe_sub]
  rfl

theorem plain_eq (x y : Fin 256 → EReal) (hx : ∀ k, ∃ r : ℝ, x k = (r : EReal)) (k : Fin 256) :
    (Ideal.div (y k) (mass x) + -(∑ l, y l * Ideal.div 1 (mass x * mass x) * expo x l)) * expo x k * scale = dscore x y k := by
  obtain ⟨e, he, hexp⟩ := expo_real x hx
  have hm : mass x = ((∑ l, e l : ℝ) : EReal) := by
    unfold mass
    rw [← sum_coe]
    exact Finset.sum_congr rfl fun l _ => hexp l
  set S : ℝ := ∑ l, e l with hS
  have hSpos : 0 < S := Finset.sum_pos (fun l _ => he l) ⟨0, Finset.mem_univ _⟩
  have hp : ∀ l, prob x l = ((S⁻¹ * e l : ℝ) : EReal) := fun l => by
    unfold prob
    rw [hm, hexp, div_coe _ _ hSpos.ne', ← EReal.coe_mul, mul_comm]
  have hterm : ∀ l, y l * Ideal.div 1 (mass x * mass x) * expo x l = ((S⁻¹ : ℝ) : EReal) * (prob x l * y l) := fun l => by
    rw [hm, ← EReal.coe_mul, div_coe _ _ (mul_pos hSpos hSpos).ne', one_mul, hexp, hp, mul_assoc, ← EReal.coe_mul,
      ← mul_assoc, ← EReal.coe_mul, mul_comm]
    congr 2
    rw [mul_inv]; ring
  unfold dscore
  simp only [hterm]
  rw [← coe_mul_sum _ (inv_pos.mpr hSpos).le, hm, div_coe _ _ hSpos.ne', hexp, hp k]
  congr 1
  rw [mul_comm (y k), ← sub_eq_add_neg,
    ← EReal.mul_sub_of_nonneg_of_ne_top (EReal.coe_nonneg.mpr (inv_pos.mpr hSpos).le) (EReal.coe_ne_top _),
    mul_right_comm, ← EReal.coe_mul]

end Cert.Proof.Xa

end
-- ==== Proof.XaPre.lean ====
/- What the precondition says: every query and every key is a finite number, so every score is one. -/
module

public import proofs.«01_k».proof.Proof.XaPay
public import proofs.«01_k».proof.Proof.Gen.Pre_finite_scores
public import Idealize.ShloMosaic.Lib.ReduceAll

@[expose] public section

set_option maxRecDepth 16384

noncomputable section

namespace Cert.Proof.Xa

open Idealize.ShloMosaic Cert.Pre_finite_scores

theorem high_top : Ideal.ofBits .f32 0x7F800000#32 = (⊤ : EReal) := by
  simp [Ideal.ofBits, Ideal.ieee]

/-- A number whose absolute value is less than infinity is a real. -/
theorem real_of_abs (x : EReal) (h : max x (-x) < ⊤) : ∃ r : ℝ, x = (r : EReal) := by
  refine ⟨x.toReal, (EReal.coe_toReal ?_ ?_).symm⟩
  · rintro rfl; simp at h
  · rintro rfl; simp at h

/-- The comparison that the precondition makes, at an element. -/
theorem real_of_cmp (x : EReal) (h : Ideal.cmp .olt (max x (-x)) (Ideal.ofBits .f32 0x7F800000#32) = 1#1) :
    ∃ r : ℝ, x = (r : EReal) := by
  refine real_of_abs x ?_
  rw [high_top] at h
  by_contra hn
  simp [Ideal.cmp, hn] at h

instance : Subsingleton S_.Idx := ⟨fun a b => funext fun i => i.elim0⟩

variable (q : S4096x1024.Idx → EReal) (kv : S256x2048.Idx → EReal) (g : S4096x1024.Idx → EReal)

theorem finite_qk (h : fn (F := Ideal) q kv g = fun _ => 1#1) :
    (∀ i, ∃ r : ℝ, q i = (r : EReal)) ∧ ∀ (k : Fin 256) (c : Fin 2048), c.val < 1024 → ∃ r : ℝ, kv (ix2 k c) = (r : EReal) := by
  have h0 := congrFun h (fun i => i.elim0)
  obtain ⟨h1, h2⟩ := IntOp.andi_eq_one.1 h0
  refine ⟨fun i => real_of_cmp _ (Host.reduce_andi_all _ _ _ _ _ h1 i), fun k c hc => ?_⟩
  have h3 := Host.reduce_andi_all _ _ _ _ _ h2 (ix2 k ⟨c.val, hc⟩)
  obtain ⟨r, hr⟩ := real_of_cmp _ h3
  refine ⟨r, Eq.trans (congrArg kv (funext fun a => Fin.ext ?_)) hr⟩
  match a with
  | ⟨0, _⟩ => exact (Nat.zero_add k.val).symm
  | ⟨1, _⟩ => exact (Nat.zero_add c.val).symm

/-- So every score is a finite number. -/
theorem finite_sc (h : fn (F := Ideal) q kv g = fun _ => 1#1) (hd : Fin 4) (s : Fin 4096) (k : Fin 256) :
    ∃ r : ℝ, sc q kv hd s k = (r : EReal) := by
  obtain ⟨hq, hk⟩ := finite_qk q kv g h
  choose a ha using fun d : Fin 256 => hq (ix2 s (col hd d))
  choose b hb using fun d : Fin 256 => hk k (colK hd d) (show 256 * hd.val + d.val < 1024 by omega)
  refine ⟨∑ d : Fin 256, b d * a d, ?_⟩
  unfold sc
  have : ∀ d ∈ (Finset.univ : Finset (Fin 256)), kv (ix2 k (colK hd d)) * q (ix2 s (col hd d)) = ((b d * a d : ℝ) : EReal) :=
    fun d _ => by rw [ha, hb, EReal.coe_mul]
  rw [Finset.sum_congr rfl this]
  classical
  induction (Finset.univ : Finset (Fin 256)) using Finset.induction_on with
  | empty => simp
  | insert x t hx ih => rw [Finset.sum_insert hx, Finset.sum_insert hx, ih, EReal.coe_add]

end Cert.Proof.Xa

end
-- ==== Proof.XaClaim.lean ====
/- The value claim of the cross-attention's gradient: both programs end with the same two arrays. -/
module

public import proofs.«01_k».proof.Defs
public import proofs.«01_k».proof.Proof.XaArray
public import proofs.«01_k».proof.Proof.XaRef
public import proofs.«01_k».proof.Proof.XaEq
public import proofs.«01_k».proof.Proof.XaPre

@[expose] public section

set_option maxRecDepth 16384

noncomputable section

namespace Cert.Proof.Xa

open Idealize.ShloMosaic Idealize.ShloMosaic.TcCoe Idealize.SL.Sem Cert.ReferenceIdeal.Read

section
variable (q g : Cert.ReferenceIdeal.S4096x1024.Idx → EReal) (kv : Cert.ReferenceIdeal.S256x2048.Idx → EReal)
  (hsc : ∀ h s k, ∃ r : ℝ, sc q kv h s k = (r : EReal))

include hsc in
theorem plain_sc (h : Fin 4) (s : Fin 4096) (y : Fin 256 → EReal) (k : Fin 256) :
    plain (sc q kv h s) y k = dscore (sc q kv h s) y k := plain_eq _ _ (hsc h s) k

include hsc in
/-- The first results agree. -/
theorem first_eq : dQs q g kv = val_main_v71 (F := Ideal) q kv g := by
  suffices H : ∀ (s : Fin 4096) (c : Fin 1024), dQs q g kv (ix2 s c) = val_main_v71 (F := Ideal) q kv g (ix2 s c) from
    funext fun i => by rw [eq_ix2 (n0 := 4096) (n1 := 1024) i]; exact H _ _
  intro s c
  obtain ⟨h, d, rfl⟩ : ∃ h d, c = col h d :=
    ⟨⟨c.val / 256, by omega⟩, ⟨c.val % 256, by omega⟩, Fin.ext (by simp only [col]; omega)⟩
  refine (dQs_col q g kv h s d).trans (Eq.trans ?_ (r71 q g kv s h d).symm)
  exact Finset.sum_congr rfl fun k _ => congrArg (_ * ·) (plain_sc q kv hsc h s _ k).symm

include hsc in
/-- The second results agree. -/
theorem second_eq : dKV q g kv = val_main_v69 (F := Ideal) q kv g := by
  suffices H : ∀ (k : Fin 256) (c : Fin 2048), dKV q g kv (ix2 k c) = val_main_v69 (F := Ideal) q kv g (ix2 k c) from
    funext fun i => by rw [eq_ix2 (n0 := 256) (n1 := 2048) i]; exact H _ _
  intro k
  refine col_cases _ (fun h d => ?_) (fun h d => ?_)
  · refine (dKV_colK q g kv h k d).trans (Eq.trans ?_ (r69_K q g kv k h d).symm)
    exact Finset.sum_congr rfl fun s _ => congrArg (· * _) (plain_sc q kv hsc h s _ k).symm
  · exact (dKV_colV q g kv h k d).trans (r69_V q g kv k h d).symm
end

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ri_pre : Cert.quiescent_ReferenceIdeal_pre_finite_scores := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite_scores := by
  intro m g m' g' hpre hagree
  refine ⟨fun c => dQs (qA m c) (gA m c) (kvA m c), fun c => dKV (qA m c) (gA m c) (kvA m c), ?_, ?_⟩
  · refine (θ_run Cert.KernelIdeal.defs _ _).mono (fun r h c => ?_) (Cert.KernelIdeal.Value.run_blocks (F := Ideal) m g)
    obtain ⟨h3, h4, ha⟩ := h c
    exact ⟨h3.trans (final3 m c), h4.trans (final4 m c), ha⟩
  · refine (θ_run Cert.ReferenceIdeal.defs _ _).mono (fun r h c => ?_) (Cert.ReferenceIdeal.Value.run (F := Ideal) m' g')
    obtain ⟨h3, h4, ha⟩ := h c
    have hsc := finite_sc (qA m c) (kvA m c) (gA m c) (hpre c)
    refine ⟨h3.trans ?_, h4.trans ?_, ha⟩
    · rw [val_main_v71_eq, (hagree c).1, (hagree c).2.1, (hagree c).2.2]
      exact (first_eq (qA m c) (gA m c) (kvA m c) hsc).symm
    · rw [val_main_v69_eq, (hagree c).1, (hagree c).2.1, (hagree c).2.2]
      exact (second_eq (qA m c) (gA m c) (kvA m c) hsc).symm

end Cert.Proof.Xa

end
-- ==== Proof.FfnFrame.lean ====
/- The feed-forward gradient: its reference's frame, and that naming the constants of its activation keeps the kernel. -/
module

public import proofs.«01_k».proof.Defs
public import proofs.«01_k».proof.Proof.Gen.Reference2Ideal.Run

@[expose] public section

set_option maxRecDepth 16384

noncomputable section

namespace Cert.Proof.Ffn

open Idealize.ShloMosaic Idealize.ShloMosaic.TcCoe Idealize.SL.Sem

theorem frame_ri : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The two named constants are the products that the activation's formula means. -/
theorem preserves : Cert.preserves_Kernel2_Kernel2Ideal :=
  ⟨IdealRules.named_const.statement Cert.Kernel2Ideal.κ "ca" .f32 0x3D122279#32 ((80338380498831 / 2251799813685248 : ℝ) : EReal) rfl,
   IdealRules.named_const.statement Cert.Kernel2Ideal.κ "ca3" .f32 0x3DDB33B6#32 ((241015141496493 / 2251799813685248 : ℝ) : EReal) rfl⟩

end Cert.Proof.Ffn

end
-- ==== Proof.FfnPay.lean ====
/- What the gradient of the conv-gated MLP computes on a chunk of 256 columns of a block of 512 rows: the gradients of the
   two convolved values, these moved up by one and by two rows with the next block's first rows behind them, the gradients
   of the two halves of the hidden rows, and the block's parts of the gradients of the convolution's weights and biases.
   The body computes four chunks, each printed apart; here a chunk's computation is written once. -/
module

public import proofs.«01_k».proof.Proof.Gen.Kernel2Ideal.Skeleton
public import Idealize.ShloMosaic.Lib.Pointwise
public import Idealize.ShloMosaic.Lib.WordCmp

@[expose] public section

set_option maxRecDepth 16384

noncomputable section

namespace Cert.Proof.Ffn

open Idealize.ShloMosaic Cert.Kernel2Ideal Cert.Kernel2Ideal.Gen

/-! ## The scalars -/

/-- The constants as the kernel names them. -/
abbrev kc : EReal := Ideal.ofBits .f32 0x3F4C422A#32
abbrev kca : EReal := Named.named (F := Ideal) κ "ca" (φ := .f32) 0x3D122279#32
abbrev kca3 : EReal := Named.named (F := Ideal) κ "ca3" (φ := .f32) 0x3DDB33B6#32
abbrev one : EReal := Ideal.ofBits .f32 0x3F800000#32
abbrev two : EReal := Ideal.ofBits .f32 0x40000000#32
abbrev half : EReal := Ideal.ofBits .f32 0x3F000000#32

/-- One plus the gelu's hyperbolic tangent. -/
def soft (x : EReal) : EReal := one + Ideal.tanh (x * (kca * (x * x) + kc))

/-- The gelu as the kernel writes it. -/
def act (x : EReal) : EReal := half * x * soft x

/-- Its derivative as the kernel writes it. -/
def slope (x : EReal) : EReal := soft x * (half + half * x * (two - soft x) * (kca3 * (x * x) + kc))

/-! ## A chunk's vectors -/

section
variable {s : Shape}

def vsoft (x : FVec Ideal s .f32) : FVec Ideal s .f32 :=
  addf (broadcast s (Scalar.ofBits .f32 0x3F800000#32))
    (tanh (mulf x (addf (mulf (broadcast s (Named.named κ "ca" 0x3D122279#32)) (mulf x x)) (broadcast s (Scalar.ofBits .f32 0x3F4C422A#32)))))

def vhalf (x : FVec Ideal s .f32) : FVec Ideal s .f32 := mulf (broadcast s (Scalar.ofBits .f32 0x3F000000#32)) x

def vact (x : FVec Ideal s .f32) : FVec Ideal s .f32 := mulf (vhalf x) (vsoft x)

def vslope (x : FVec Ideal s .f32) : FVec Ideal s .f32 :=
  mulf (vsoft x) (addf (broadcast s (Scalar.ofBits .f32 0x3F000000#32))
    (mulf (mulf (vhalf x) (subf (broadcast s (Scalar.ofBits .f32 0x40000000#32)) (vsoft x)))
      (addf (mulf (broadcast s (Named.named κ "ca3" 0x3DDB33B6#32)) (mulf x x)) (broadcast s (Scalar.ofBits .f32 0x3F4C422A#32)))))

theorem vact_apply (x : FVec Ideal s .f32) (j : s.Idx) : vact x j = act (x j) := rfl
theorem vslope_apply (x : FVec Ideal s .f32) (j : s.Idx) : vslope x j = slope (x j) := rfl
end

/-- Convolved values of a block's rows, and of the next block's first eight, as numbers. -/
def wide (v : Vec Ideal S512x256 .bf16) : FVec Ideal S512x256 .f32 :=
  extf .f32 (shapeCast S512x256 v shapeCasts_S512x256_S512x256) bitsLt_bf16_f32
def wide8 (v : Vec Ideal S8x256 .bf16) : FVec Ideal S8x256 .f32 :=
  extf .f32 (shapeCast S8x256 v shapeCasts_S8x256_S8x256) bitsLt_bf16_f32

/-- The hidden rows as numbers. -/
def hid (v : Vec Ideal S512x256 .bf16) : FVec Ideal S512x256 .f32 := extf .f32 v bitsLt_bf16_f32

/-- The gradient of the activation: of the block's rows, and of the next block's first eight. -/
def dAct (y : Vec Ideal S512x1024 .bf16) (w : Vec Ideal S256x1024 .bf16) : FVec Ideal S512x256 .f32 :=
  matmul (φ₁ := .bf16) (φ₂ := .bf16) dot_S512x1024_S256x1024_S512x256_1_1_0_0_n_n none y w (constant S512x256 .f32 0x00000000#32)
def dAct8 (i : grid0.Coords) (y : Vec Ideal S8x1024 .bf16) (w : Vec Ideal S256x1024 .bf16) : FVec Ideal S8x256 .f32 :=
  matmul (φ₂ := .bf16) dot_S8x1024_S256x1024_S8x256_1_1_0_0_n_n none (k0_pay7 i y) w (constant S8x256 .f32 0x00000000#32)

section
variable (y : Vec Ideal S512x1024 .bf16) (i : grid0.Coords) (yn : Vec Ideal S8x1024 .bf16) (w wn : Vec Ideal S256x1024 .bf16)
variable (g u : Vec Ideal S512x256 .bf16) (gn un : Vec Ideal S8x256 .bf16)

/-- The gradients of the gate's and of the other half's convolved values. -/
def dG : FVec Ideal S512x256 .f32 := mulf (mulf (dAct y w) (wide u)) (vslope (wide g))
def dG8 : FVec Ideal S8x256 .f32 := mulf (mulf (dAct8 i yn wn) (wide8 un)) (vslope (wide8 gn))
def dU : FVec Ideal S512x256 .f32 := mulf (dAct y w) (vact (wide g))
def dU8 : FVec Ideal S8x256 .f32 := mulf (dAct8 i yn wn) (vact (wide8 gn))
end

section
variable (d : FVec Ideal S512x256 .f32) (n : FVec Ideal S8x256 .f32)

/-- A row of numbers in every one of 512, or of eight, rows. -/
def spread (r : FVec Ideal S1x256 .f32) : FVec Ideal S512x256 .f32 :=
  broadcastTo S512x256 (shapeCast S1x256 r shapeCasts_S1x256_S1x256) broadcasts_S1x256_S512x256
def spread8 (r : FVec Ideal S1x256 .f32) : FVec Ideal S8x256 .f32 :=
  broadcastTo S8x256 (shapeCast S1x256 r shapeCasts_S1x256_S1x256) broadcasts_S1x256_S8x256

/-- Which rows are the given one. -/
def isRow (k : BitVec 32) : IVec S512x256 1 := cmpi .eq (iota .tc S512x256 32 [0] iota_S512x256_d0_w32) (broadcast S512x256 k)
def isRow8 (k : BitVec 32) : IVec S8x256 1 := cmpi .eq (iota .tc S8x256 32 [0] iota_S8x256_d0_w32) (broadcast S8x256 k)

/-- The rows moved up by one, and by two, with the next rows behind them. -/
def up1 : FVec Ideal S512x256 .f32 :=
  select (isRow 511#32) (spread (extractStridedSlice S1x256 ![0, 0] n slices_S8x256_o0_0_S1x256))
    (dynamicRotate 0 511#32 none d rotates_S512x256_d0)
def up2 : FVec Ideal S512x256 .f32 :=
  select (isRow 510#32) (spread (extractStridedSlice S1x256 ![0, 0] n slices_S8x256_o0_0_S1x256))
    (select (isRow 511#32) (spread (extractStridedSlice S1x256 ![1, 0] n slices_S8x256_o1_0_S1x256))
      (dynamicRotate 0 510#32 none d rotates_S512x256_d0))

/-- The gradient of the hidden rows. -/
def dHid (w2 w1 w0 : Vec Ideal S1x256 .f32) : FVec Ideal S512x256 .bf16 :=
  truncf .bf16 (addf (addf (mulf (spread w2) d) (mulf (spread w1) (up1 d n))) (mulf (spread w0) (up2 d n))) bitsLt_bf16_f32

/-- The sums of a block's columns. -/
def colSums (e : FVec Ideal S512x256 .f32) : FVec Ideal S1x256 .f32 :=
  shapeCast S1x256 (multiReduction .add [0] S256 e 0x00000000#32 reduces_S512x256_S256 (.inl rfl) rfl) shapeCasts_S256_S1x256

/-- The weights' running gradient with the block's part added, and the biases'. -/
def dWgt (h : FVec Ideal S512x256 .f32) (o : Vec Ideal S8x256 .f32) : FVec Ideal S8x256 .f32 :=
  addf (shapeCast S8x256 o shapeCasts_S8x256_S8x256)
    (select (isRow8 0#32) (spread8 (colSums (mulf h (up2 d n))))
      (select (isRow8 1#32) (spread8 (colSums (mulf h (up1 d n))))
        (select (isRow8 2#32) (spread8 (colSums (mulf h d))) (broadcast S8x256 (Scalar.ofBits .f32 0x00000000#32)))))
def dBias (o : Vec Ideal S1x256 .f32) : FVec Ideal S1x256 .f32 :=
  addf (shapeCast S1x256 o shapeCasts_S1x256_S1x256) (colSums d)
end

/-! ## At an index -/

/-- A choice by the equality of two numbers' words. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  unfold Scalar.select
  by_cases h : a = b
  · rw [if_pos h]; exact if_pos ((WordCmp.cmpi_eq_ofNat_eq_one_iff ha hb).2 h)
  · rw [if_neg h]; exact if_neg fun e => h ((WordCmp.cmpi_eq_ofNat_eq_one_iff ha hb).1 e)

theorem wide_apply (v : Vec Ideal S512x256 .bf16) (r : Fin 512) (c : Fin 256) : wide v (ix2 r c) = v (ix2 r c) := by
  pointwise [wide]
theorem hid_apply (v : Vec Ideal S512x256 .bf16) (r : Fin 512) (c : Fin 256) : hid v (ix2 r c) = v (ix2 r c) := by
  pointwise [hid]
theorem wide8_apply (v : Vec Ideal S8x256 .bf16) (r : Fin 8) (c : Fin 256) : wide8 v (ix2 r c) = v (ix2 r c) := by
  pointwise [wide8]

theorem dAct_apply (y : Vec Ideal S512x1024 .bf16) (w : Vec Ideal S256x1024 .bf16) (r : Fin 512) (c : Fin 256) :
    dAct y w (ix2 r c) = ∑ k : Fin 1024, y (ix2 r k) * w (ix2 c k) := by
  pointwise [dAct]

/-- At the last block of rows the next rows are zero. -/
theorem dAct8_apply (i : grid0.Coords) (y : Vec Ideal S8x1024 .bf16) (w : Vec Ideal S256x1024 .bf16) (r : Fin 8) (c : Fin 256) :
    dAct8 i y w (ix2 r c) = if (i 1).val = 7 then 0 else ∑ k : Fin 1024, y (ix2 r k) * w (ix2 c k) := by
  have h7 : k0_pay7 i y = if (i 1).val = 7 then fun _ => (0 : EReal) else y := by
    unfold k0_pay7
    dsimp only
    refine (select_eq (i 1).val 7 (by have := (i 1).isLt; exact lt_trans this (by decide)) (by decide) _ _).trans ?_
    split
    · funext j; pointwise []
    · rfl
  unfold dAct8
  rw [h7]
  split
  · pointwise []
    simp only [zero_mul, Finset.sum_const_zero]
  · pointwise []

theorem spread_apply (v : FVec Ideal S1x256 .f32) (r : Fin 512) (c : Fin 256) : spread v (ix2 r c) = v (ix2 0 c) := by
  pointwise [spread]
theorem spread8_apply (v : FVec Ideal S1x256 .f32) (r : Fin 8) (c : Fin 256) : spread8 v (ix2 r c) = v (ix2 0 c) := by
  pointwise [spread8]

theorem up1_apply (d : FVec Ideal S512x256 .f32) (n : FVec Ideal S8x256 .f32) (r : Fin 512) (c : Fin 256) :
    up1 d n (ix2 r c) = if h : r.val + 1 < 512 then d (ix2 ⟨r.val + 1, h⟩ c) else n (ix2 0 c) := by
  pointwise [up1, isRow, spread]
  have := r.isLt
  refine (select_eq r.val 511 (by omega) (by decide) _ _).trans ?_
  by_cases h : r.val + 1 < 512
  · rw [dif_pos h, if_neg (by omega)]
    exact congrArg d (congrArg (ix2 · c) (Fin.ext (by show (r.val + 512 - 511) % 512 = r.val + 1; omega)))
  · rw [dif_neg h, if_pos (by omega)]

theorem up2_apply (d : FVec Ideal S512x256 .f32) (n : FVec Ideal S8x256 .f32) (r : Fin 512) (c : Fin 256) :
    up2 d n (ix2 r c) = if h : r.val + 2 < 512 then d (ix2 ⟨r.val + 2, h⟩ c) else n (ix2 ⟨r.val + 2 - 512, by omega⟩ c) := by
  pointwise [up2, isRow, spread]
  have := r.isLt
  refine (select_eq r.val 510 (by omega) (by decide) _ _).trans ?_
  by_cases h : r.val + 2 < 512
  · rw [dif_pos h, if_neg (by omega)]
    refine (select_eq r.val 511 (by omega) (by decide) _ _).trans ?_
    rw [if_neg (by omega)]
    exact congrArg d (congrArg (ix2 · c) (Fin.ext (by show (r.val + 512 - 510) % 512 = r.val + 2; omega)))
  · rw [dif_neg h]
    by_cases h' : r.val = 510
    · rw [if_pos h']
      exact congrArg n (congrArg (ix2 · c) (Fin.ext (by show 0 = r.val + 2 - 512; omega)))
    · rw [if_neg h']
      refine (select_eq r.val 511 (by omega) (by decide) _ _).trans ?_
      rw [if_pos (by omega)]
      exact congrArg n (congrArg (ix2 · c) (Fin.ext (by show 1 = r.val + 2 - 512; omega)))

theorem dHid_apply (d : FVec Ideal S512x256 .f32) (n : FVec Ideal S8x256 .f32) (w2 w1 w0 : Vec Ideal S1x256 .f32) (r : Fin 512) (c : Fin 256) :
    dHid d n w2 w1 w0 (ix2 r c)
      = w2 (ix2 0 c) * d (ix2 r c) + w1 (ix2 0 c) * up1 d n (ix2 r c) + w0 (ix2 0 c) * up2 d n (ix2 r c) := by
  pointwise [dHid, spread]

theorem dWgt_apply (d : FVec Ideal S512x256 .f32) (n : FVec Ideal S8x256 .f32) (h : FVec Ideal S512x256 .f32)
    (o : Vec Ideal S8x256 .f32) (r : Fin 8) (c : Fin 256) :
    dWgt d n h o (ix2 r c) = o (ix2 r c) +
      (if r.val = 0 then ∑ s : Fin 512, h (ix2 s c) * up2 d n (ix2 s c)
        else if r.val = 1 then ∑ s : Fin 512, h (ix2 s c) * up1 d n (ix2 s c)
        else if r.val = 2 then ∑ s : Fin 512, h (ix2 s c) * d (ix2 s c) else 0) := by
  pointwise [dWgt, isRow8, spread8, colSums]
  have := r.isLt
  refine congrArg (o (ix2 r c) + ·) ?_
  refine (select_eq r.val 0 (by omega) (by decide) _ _).trans ?_
  refine if_congr Iff.rfl rfl ((select_eq r.val 1 (by omega) (by decide) _ _).trans ?_)
  exact if_congr Iff.rfl rfl (select_eq r.val 2 (by omega) (by decide) _ _)

theorem dBias_apply (d : FVec Ideal S512x256 .f32) (o : Vec Ideal S1x256 .f32) (c : Fin 256) :
    dBias d o (ix2 0 c) = o (ix2 0 c) + ∑ s : Fin 512, d (ix2 s c) := by
  pointwise [dBias, colSums]

end Cert.Proof.Ffn
-- ==== Proof.FfnChunk.lean ====
/- What the body's stores hold at an index, as numbers of the blocks that the point reads: a chunk of 256 columns, at any
   offset, is the same computation on these columns. -/
module

public import proofs.«01_k».proof.Proof.FfnPay

@[expose] public section

set_option maxRecDepth 16384

noncomputable section

namespace Cert.Proof.Ffn

open Idealize.ShloMosaic Cert.Kernel2Ideal Cert.Kernel2Ideal.Gen

/-! ## A block's numbers -/

section
variable (x0 : Vec Ideal S512x1024 .bf16) (x1 : Vec Ideal S8x1024 .bf16) (x2 : Vec Ideal S1024x1024 .bf16)
variable (x5 x7 : Vec Ideal S512x1024 .bf16) (x6 x8 : Vec Ideal S8x1024 .bf16) (i : grid0.Coords)

/-- The gradient of the activation, of the block's rows and of the next eight (nothing after the last block). -/
def bA (r : Fin 512) (c : Fin 1024) : EReal := ∑ k : Fin 1024, x0 (ix2 r k) * x2 (ix2 c k)
def bA8 (q : Fin 8) (c : Fin 1024) : EReal := if (i 1).val = 7 then 0 else ∑ k : Fin 1024, x1 (ix2 q k) * x2 (ix2 c k)

/-- The gradients of the two convolved values. -/
def bG (r : Fin 512) (c : Fin 1024) : EReal := bA x0 x2 r c * x7 (ix2 r c) * slope (x5 (ix2 r c))
def bG8 (q : Fin 8) (c : Fin 1024) : EReal := bA8 x1 x2 i q c * x8 (ix2 q c) * slope (x6 (ix2 q c))
def bU (r : Fin 512) (c : Fin 1024) : EReal := bA x0 x2 r c * act (x5 (ix2 r c))
def bU8 (q : Fin 8) (c : Fin 1024) : EReal := bA8 x1 x2 i q c * act (x6 (ix2 q c))
end

section
variable (D : Fin 512 → Fin 1024 → EReal) (N : Fin 8 → Fin 1024 → EReal)

/-- The rows one and two further on. -/
def next1 (r : Fin 512) (c : Fin 1024) : EReal := if h : r.val + 1 < 512 then D ⟨r.val + 1, h⟩ c else N 0 c
def next2 (r : Fin 512) (c : Fin 1024) : EReal :=
  if h : r.val + 2 < 512 then D ⟨r.val + 2, h⟩ c else N ⟨r.val + 2 - 512, by omega⟩ c

/-- The hidden rows' gradient, from the weights' block. -/
def bHid (w : Vec Ideal S8x1024 .f32) (r : Fin 512) (c : Fin 1024) : EReal :=
  w (ix2 2 c) * D r c + w (ix2 1 c) * next1 D N r c + w (ix2 0 c) * next2 D N r c

/-- The block's part of the weights' gradient, from the hidden rows, and of the biases'. -/
def bWgt (h : Vec Ideal S512x1024 .bf16) (r : Fin 8) (c : Fin 1024) : EReal :=
  if r.val = 0 then ∑ s : Fin 512, h (ix2 s c) * next2 D N s c
  else if r.val = 1 then ∑ s : Fin 512, h (ix2 s c) * next1 D N s c
  else if r.val = 2 then ∑ s : Fin 512, h (ix2 s c) * D s c else 0
def bBias (c : Fin 1024) : EReal := ∑ s : Fin 512, D s c

variable {D N} {d : FVec Ideal S512x256 .f32} {n : FVec Ideal S8x256 .f32} {c : Fin 256} {C : Fin 1024}

theorem up1_chunk (hd : ∀ r, d (ix2 r c) = D r C) (hn : ∀ q, n (ix2 q c) = N q C) (r : Fin 512) :
    up1 d n (ix2 r c) = next1 D N r C := by
  rw [up1_apply, next1]; split
  · exact hd _
  · exact hn _

theorem up2_chunk (hd : ∀ r, d (ix2 r c) = D r C) (hn : ∀ q, n (ix2 q c) = N q C) (r : Fin 512) :
    up2 d n (ix2 r c) = next2 D N r C := by
  rw [up2_apply, next2]; split
  · exact hd _
  · exact hn _

theorem dHid_chunk (hd : ∀ r, d (ix2 r c) = D r C) (hn : ∀ q, n (ix2 q c) = N q C) {w : Vec Ideal S8x1024 .f32}
    {w2 w1 w0 : Vec Ideal S1x256 .f32} (h2 : w2 (ix2 0 c) = w (ix2 2 C)) (h1 : w1 (ix2 0 c) = w (ix2 1 C))
    (h0 : w0 (ix2 0 c) = w (ix2 0 C)) (r : Fin 512) :
    dHid d n w2 w1 w0 (ix2 r c) = bHid D N w r C := by
  rw [dHid_apply, bHid, hd, up1_chunk hd hn, up2_chunk hd hn, h2, h1, h0]

theorem dWgt_chunk (hd : ∀ r, d (ix2 r c) = D r C) (hn : ∀ q, n (ix2 q c) = N q C) {h : FVec Ideal S512x256 .f32}
    {H : Vec Ideal S512x1024 .bf16} (hh : ∀ r, h (ix2 r c) = H (ix2 r C)) {o : Vec Ideal S8x256 .f32} {O : Vec Ideal S8x1024 .f32}
    (r : Fin 8) (ho : o (ix2 r c) = O (ix2 r C)) :
    dWgt d n h o (ix2 r c) = O (ix2 r C) + bWgt D N H r C := by
  rw [dWgt_apply, bWgt, ho]
  simp only [hd, hh, up1_chunk hd hn, up2_chunk hd hn]

theorem dBias_chunk (hd : ∀ r, d (ix2 r c) = D r C) {o : Vec Ideal S1x256 .f32} {O : Vec Ideal S1x1024 .f32}
    (ho : o (ix2 0 c) = O (ix2 0 C)) :
    dBias d o (ix2 0 c) = O (ix2 0 C) + bBias D C := by
  rw [dBias_apply, bBias, ho]
  simp only [hd]
end

/-! ## The loads of a chunk -/

/-- A load of part of a block, at an index. -/
theorem ld_part {e : EltTy} {a b n w : ℕ} (X : (⟨2, ![a, b]⟩ : Shape).Idx → Elt Ideal e) (p o : ℕ)
    (inb : ∀ i, (![p, o] : Fin 2 → ℕ) i + (![n, w] : Fin 2 → ℕ) i ≤ (⟨2, ![a, b]⟩ : Shape).size i)
    (r : Fin n) (c : Fin w) (R : Fin a) (C : Fin b) (hr : R.val = p + r.val) (hc : C.val = o + c.val) :
    View.ld X (Rect.unit ![p, o] ![n, w] inb) (ix2 r c) = X (ix2 R C) := by
  refine congrArg X (funext fun i => Fin.ext ?_)
  match i with
  | ⟨0, _⟩ => exact (congrArg (p + ·) (Nat.one_mul r.val)).trans hr.symm
  | ⟨1, _⟩ => exact (congrArg (o + ·) (Nat.one_mul c.val)).trans hc.symm

section
variable (x0 : Vec Ideal S512x1024 .bf16) (x1 : Vec Ideal S8x1024 .bf16) (x2 : Vec Ideal S1024x1024 .bf16)
variable (x5 x7 : Vec Ideal S512x1024 .bf16) (x6 x8 : Vec Ideal S8x1024 .bf16) (i : grid0.Coords)
variable {w : Vec Ideal S256x1024 .bf16} {g u : Vec Ideal S512x256 .bf16} {gn un : Vec Ideal S8x256 .bf16} {c : Fin 256} {C : Fin 1024}

theorem dG_chunk (hw : ∀ k, w (ix2 c k) = x2 (ix2 C k)) (hg : ∀ r, g (ix2 r c) = x5 (ix2 r C)) (hu : ∀ r, u (ix2 r c) = x7 (ix2 r C))
    (r : Fin 512) : dG x0 w g u (ix2 r c) = bG x0 x2 x5 x7 r C := by
  show dAct x0 w (ix2 r c) * wide u (ix2 r c) * slope (wide g (ix2 r c)) = _
  rw [dAct_apply, wide_apply, wide_apply, hg, hu, bG, bA]
  simp only [hw]

theorem dG8_chunk (hw : ∀ k, w (ix2 c k) = x2 (ix2 C k)) (hg : ∀ r, gn (ix2 r c) = x6 (ix2 r C)) (hu : ∀ r, un (ix2 r c) = x8 (ix2 r C))
    (q : Fin 8) : dG8 i x1 w gn un (ix2 q c) = bG8 x1 x2 x6 x8 i q C := by
  show dAct8 i x1 w (ix2 q c) * wide8 un (ix2 q c) * slope (wide8 gn (ix2 q c)) = _
  rw [dAct8_apply, wide8_apply, wide8_apply, hg, hu, bG8, bA8]
  simp only [hw]

theorem dU_chunk (hw : ∀ k, w (ix2 c k) = x2 (ix2 C k)) (hg : ∀ r, g (ix2 r c) = x5 (ix2 r C))
    (r : Fin 512) : dU x0 w g (ix2 r c) = bU x0 x2 x5 r C := by
  show dAct x0 w (ix2 r c) * act (wide g (ix2 r c)) = _
  rw [dAct_apply, wide_apply, hg, bU, bA]
  simp only [hw]

theorem dU8_chunk (hw : ∀ k, w (ix2 c k) = x2 (ix2 C k)) (hg : ∀ r, gn (ix2 r c) = x6 (ix2 r C))
    (q : Fin 8) : dU8 i x1 w gn (ix2 q c) = bU8 x1 x2 x6 i q C := by
  show dAct8 i x1 w (ix2 q c) * act (wide8 gn (ix2 q c)) = _
  rw [dAct8_apply, wide8_apply, hg, bU8, bA8]
  simp only [hw]
end

end Cert.Proof.Ffn
-- ==== Proof.FfnPiece.lean ====
/- What a point leaves in each result's block, as numbers of the blocks that the point reads: each of four chunks of columns is
   stored apart, and all four are parts of one block. -/
module

public import proofs.«01_k».proof.Proof.FfnChunk
public import proofs.«01_k».proof.Proof.Gen.Kernel2Ideal.Frame.Runs
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Ffn

open Idealize.ShloMosaic Cert.Kernel2Ideal Cert.Kernel2Ideal.Gen
open Idealize.ShloMosaic.Tactic

variable (x0 : Vec Ideal S512x1024 .bf16) (x1 : Vec Ideal S8x1024 .bf16) (x2 : Vec Ideal S1024x1024 .bf16)
variable (x3 x4 x5 : Vec Ideal S512x1024 .bf16) (x6 : Vec Ideal S8x1024 .bf16) (x7 : Vec Ideal S512x1024 .bf16)
variable (x8 : Vec Ideal S8x1024 .bf16) (x9 x10 : Vec Ideal S8x1024 .f32) (i : grid0.Coords)

/-! ## The blocks -/

def hidG (y : S512x1024.Idx) : EReal := bHid (bG x0 x2 x5 x7) (bG8 x1 x2 x6 x8 i) x9 (y 0) (y 1)
def hidU (y : S512x1024.Idx) : EReal := bHid (bU x0 x2 x5) (bU8 x1 x2 x6 i) x10 (y 0) (y 1)
def wgtG (o : Vec Ideal S8x1024 .f32) (y : S8x1024.Idx) : EReal := o y + bWgt (bG x0 x2 x5 x7) (bG8 x1 x2 x6 x8 i) x3 (y 0) (y 1)
def wgtU (o : Vec Ideal S8x1024 .f32) (y : S8x1024.Idx) : EReal := o y + bWgt (bU x0 x2 x5) (bU8 x1 x2 x6 i) x4 (y 0) (y 1)
def biaG (o : Vec Ideal S1x1024 .f32) (y : S1x1024.Idx) : EReal := o y + bBias (bG x0 x2 x5 x7) (y 1)
def biaU (o : Vec Ideal S1x1024 .f32) (y : S1x1024.Idx) : EReal := o y + bBias (bU x0 x2 x5) (y 1)

/-! ## A chunk's stores are parts of the blocks -/

/-- A chunk's index in the block. -/
theorem emb_part {a b n w o : ℕ} (inb : ∀ i, (![0, o] : Fin 2 → ℕ) i + (![n, w] : Fin 2 → ℕ) i ≤ (⟨2, ![a, b]⟩ : Shape).size i)
    (r : Fin n) (c : Fin w) (R : Fin a) (C : Fin b) (hr : R.val = r.val) (hc : C.val = o + c.val) :
    (Rect.unit (s := ⟨2, ![a, b]⟩) ![0, o] ![n, w] inb).emb (ix2 r c) = ix2 R C := by
  refine funext fun i => Fin.ext ?_
  match i with
  | ⟨0, _⟩ => exact ((Nat.zero_add _).trans (Nat.one_mul r.val)).trans hr.symm
  | ⟨1, _⟩ => exact (congrArg (o + ·) (Nat.one_mul c.val)).trans hc.symm

section
variable (o : ℕ) (ho : o + 256 ≤ 1024)
variable (i2 : ∀ a, (![o, 0] : Fin 2 → ℕ) a + (![256, 1024] : Fin 2 → ℕ) a ≤ S1024x1024.size a)
variable (iB : ∀ a, (![0, o] : Fin 2 → ℕ) a + (![512, 256] : Fin 2 → ℕ) a ≤ S512x1024.size a)
variable (i8 : ∀ a, (![0, o] : Fin 2 → ℕ) a + (![8, 256] : Fin 2 → ℕ) a ≤ S8x1024.size a)
variable (i1 : ∀ a, (![0, o] : Fin 2 → ℕ) a + (![1, 256] : Fin 2 → ℕ) a ≤ S1x1024.size a)
variable (r2 : ∀ a, (![2, o] : Fin 2 → ℕ) a + (![1, 256] : Fin 2 → ℕ) a ≤ S8x1024.size a)
variable (r1 : ∀ a, (![1, o] : Fin 2 → ℕ) a + (![1, 256] : Fin 2 → ℕ) a ≤ S8x1024.size a)
variable (r0 : ∀ a, (![0, o] : Fin 2 → ℕ) a + (![1, 256] : Fin 2 → ℕ) a ≤ S8x1024.size a)

/-- A chunk's gradients of the two convolved values, of the block's rows and of the next eight. -/
abbrev chG := dG x0 (View.ld x2 (Rect.unit ![o, 0] ![256, 1024] i2)) (View.ld x5 (Rect.unit ![0, o] ![512, 256] iB)) (View.ld x7 (Rect.unit ![0, o] ![512, 256] iB))
abbrev chG8 := dG8 i x1 (View.ld x2 (Rect.unit ![o, 0] ![256, 1024] i2)) (View.ld x6 (Rect.unit ![0, o] ![8, 256] i8)) (View.ld x8 (Rect.unit ![0, o] ![8, 256] i8))
abbrev chU := dU x0 (View.ld x2 (Rect.unit ![o, 0] ![256, 1024] i2)) (View.ld x5 (Rect.unit ![0, o] ![512, 256] iB))
abbrev chU8 := dU8 i x1 (View.ld x2 (Rect.unit ![o, 0] ![256, 1024] i2)) (View.ld x6 (Rect.unit ![0, o] ![8, 256] i8))

include ho
theorem chG_at (r : Fin 512) (c : Fin 256) : chG x0 x2 x5 x7 o i2 iB (ix2 r c) = bG x0 x2 x5 x7 r ⟨o + c.val, by omega⟩ :=
  dG_chunk x0 x2 x5 x7 (fun k => ld_part x2 o 0 i2 c k _ _ rfl (Nat.zero_add _).symm) (fun r => ld_part x5 0 o iB r c _ _ (Nat.zero_add _).symm rfl)
    (fun r => ld_part x7 0 o iB r c _ _ (Nat.zero_add _).symm rfl) r
theorem chG8_at (q : Fin 8) (c : Fin 256) : chG8 x1 x2 x6 x8 i o i2 i8 (ix2 q c) = bG8 x1 x2 x6 x8 i q ⟨o + c.val, by omega⟩ :=
  dG8_chunk x1 x2 x6 x8 i (fun k => ld_part x2 o 0 i2 c k _ _ rfl (Nat.zero_add _).symm) (fun r => ld_part x6 0 o i8 r c _ _ (Nat.zero_add _).symm rfl)
    (fun r => ld_part x8 0 o i8 r c _ _ (Nat.zero_add _).symm rfl) q
theorem chU_at (r : Fin 512) (c : Fin 256) : chU x0 x2 x5 o i2 iB (ix2 r c) = bU x0 x2 x5 r ⟨o + c.val, by omega⟩ :=
  dU_chunk x0 x2 x5 (fun k => ld_part x2 o 0 i2 c k _ _ rfl (Nat.zero_add _).symm) (fun r => ld_part x5 0 o iB r c _ _ (Nat.zero_add _).symm rfl) r
theorem chU8_at (q : Fin 8) (c : Fin 256) : chU8 x1 x2 x6 i o i2 i8 (ix2 q c) = bU8 x1 x2 x6 i q ⟨o + c.val, by omega⟩ :=
  dU8_chunk x1 x2 x6 i (fun k => ld_part x2 o 0 i2 c k _ _ rfl (Nat.zero_add _).symm) (fun r => ld_part x6 0 o i8 r c _ _ (Nat.zero_add _).symm rfl) q

theorem piece_hidG (x : (Rect.unit (s := S512x1024) ![0, o] ![512, 256] iB).shape.Idx) :
    dHid (chG x0 x2 x5 x7 o i2 iB) (chG8 x1 x2 x6 x8 i o i2 i8) (View.ld x9 (Rect.unit ![2, o] ![1, 256] r2)) (View.ld x9 (Rect.unit ![1, o] ![1, 256] r1))
        (View.ld x9 (Rect.unit ![0, o] ![1, 256] r0)) x
      = hidG x0 x1 x2 x5 x6 x7 x8 x9 i ((Rect.unit (s := S512x1024) ![0, o] ![512, 256] iB).emb x) := by
  obtain ⟨r, c, rfl⟩ : ∃ r c, x = (ix2 r c : S512x256.Idx) := ⟨_, _, eq_ix2 (n0 := 512) (n1 := 256) x⟩
  rw [emb_part iB r c r ⟨o + c.val, by omega⟩ rfl rfl]
  exact dHid_chunk (fun r => chG_at x0 x2 x5 x7 o ho i2 iB r c) (fun q => chG8_at x1 x2 x6 x8 i o ho i2 i8 q c)
    (ld_part x9 2 o r2 0 c 2 _ rfl rfl) (ld_part x9 1 o r1 0 c 1 _ rfl rfl) (ld_part x9 0 o r0 0 c 0 _ rfl rfl) r

theorem piece_hidU (x : (Rect.unit (s := S512x1024) ![0, o] ![512, 256] iB).shape.Idx) :
    dHid (chU x0 x2 x5 o i2 iB) (chU8 x1 x2 x6 i o i2 i8) (View.ld x10 (Rect.unit ![2, o] ![1, 256] r2)) (View.ld x10 (Rect.unit ![1, o] ![1, 256] r1))
        (View.ld x10 (Rect.unit ![0, o] ![1, 256] r0)) x
      = hidU x0 x1 x2 x5 x6 x10 i ((Rect.unit (s := S512x1024) ![0, o] ![512, 256] iB).emb x) := by
  obtain ⟨r, c, rfl⟩ : ∃ r c, x = (ix2 r c : S512x256.Idx) := ⟨_, _, eq_ix2 (n0 := 512) (n1 := 256) x⟩
  rw [emb_part iB r c r ⟨o + c.val, by omega⟩ rfl rfl]
  exact dHid_chunk (fun r => chU_at x0 x2 x5 o ho i2 iB r c) (fun q => chU8_at x1 x2 x6 i o ho i2 i8 q c)
    (ld_part x10 2 o r2 0 c 2 _ rfl rfl) (ld_part x10 1 o r1 0 c 1 _ rfl rfl) (ld_part x10 0 o r0 0 c 0 _ rfl rfl) r

theorem piece_wgtG (xo : Vec Ideal S8x1024 .f32) (x : (Rect.unit (s := S8x1024) ![0, o] ![8, 256] i8).shape.Idx) :
    dWgt (chG x0 x2 x5 x7 o i2 iB) (chG8 x1 x2 x6 x8 i o i2 i8) (hid (View.ld x3 (Rect.unit ![0, o] ![512, 256] iB))) (View.ld xo (Rect.unit ![0, o] ![8, 256] i8)) x
      = wgtG x0 x1 x2 x3 x5 x6 x7 x8 i xo ((Rect.unit (s := S8x1024) ![0, o] ![8, 256] i8).emb x) := by
  obtain ⟨r, c, rfl⟩ : ∃ r c, x = (ix2 r c : S8x256.Idx) := ⟨_, _, eq_ix2 (n0 := 8) (n1 := 256) x⟩
  rw [emb_part i8 r c r ⟨o + c.val, by omega⟩ rfl rfl]
  exact dWgt_chunk (fun r => chG_at x0 x2 x5 x7 o ho i2 iB r c) (fun q => chG8_at x1 x2 x6 x8 i o ho i2 i8 q c)
    (fun s => (hid_apply _ s c).trans (ld_part x3 0 o iB s c _ _ (Nat.zero_add _).symm rfl)) r
    (ld_part xo 0 o i8 r c _ _ (Nat.zero_add _).symm rfl)

theorem piece_wgtU (xo : Vec Ideal S8x1024 .f32) (x : (Rect.unit (s := S8x1024) ![0, o] ![8, 256] i8).shape.Idx) :
    dWgt (chU x0 x2 x5 o i2 iB) (chU8 x1 x2 x6 i o i2 i8) (hid (View.ld x4 (Rect.unit ![0, o] ![512, 256] iB))) (View.ld xo (Rect.unit ![0, o] ![8, 256] i8)) x
      = wgtU x0 x1 x2 x4 x5 x6 i xo ((Rect.unit (s := S8x1024) ![0, o] ![8, 256] i8).emb x) := by
  obtain ⟨r, c, rfl⟩ : ∃ r c, x = (ix2 r c : S8x256.Idx) := ⟨_, _, eq_ix2 (n0 := 8) (n1 := 256) x⟩
  rw [emb_part i8 r c r ⟨o + c.val, by omega⟩ rfl rfl]
  exact dWgt_chunk (fun r => chU_at x0 x2 x5 o ho i2 iB r c) (fun q => chU8_at x1 x2 x6 i o ho i2 i8 q c)
    (fun s => (hid_apply _ s c).trans (ld_part x4 0 o iB s c _ _ (Nat.zero_add _).symm rfl)) r
    (ld_part xo 0 o i8 r c _ _ (Nat.zero_add _).symm rfl)

theorem piece_biaG (xo : Vec Ideal S1x1024 .f32) (x : (Rect.unit (s := S1x1024) ![0, o] ![1, 256] i1).shape.Idx) :
    dBias (chG x0 x2 x5 x7 o i2 iB) (View.ld xo (Rect.unit ![0, o] ![1, 256] i1)) x
      = biaG x0 x2 x5 x7 xo ((Rect.unit (s := S1x1024) ![0, o] ![1, 256] i1).emb x) := by
  obtain ⟨r, c, rfl⟩ : ∃ r c, x = (ix2 r c : S1x256.Idx) := ⟨_, _, eq_ix2 (n0 := 1) (n1 := 256) x⟩
  obtain rfl : r = 0 := Subsingleton.elim _ _
  rw [emb_part i1 0 c 0 ⟨o + c.val, by omega⟩ rfl rfl]
  exact dBias_chunk (fun r => chG_at x0 x2 x5 x7 o ho i2 iB r c) (ld_part xo 0 o i1 0 c _ _ (Nat.zero_add _).symm rfl)

theorem piece_biaU (xo : Vec Ideal S1x1024 .f32) (x : (Rect.unit (s := S1x1024) ![0, o] ![1, 256] i1).shape.Idx) :
    dBias (chU x0 x2 x5 o i2 iB) (View.ld xo (Rect.unit ![0, o] ![1, 256] i1)) x
      = biaU x0 x2 x5 xo ((Rect.unit (s := S1x1024) ![0, o] ![1, 256] i1).emb x) := by
  obtain ⟨r, c, rfl⟩ : ∃ r c, x = (ix2 r c : S1x256.Idx) := ⟨_, _, eq_ix2 (n0 := 1) (n1 := 256) x⟩
  obtain rfl : r = 0 := Subsingleton.elim _ _
  rw [emb_part i1 0 c 0 ⟨o + c.val, by omega⟩ rfl rfl]
  exact dBias_chunk (fun r => chU_at x0 x2 x5 o ho i2 iB r c) (ld_part xo 0 o i1 0 c _ _ (Nat.zero_add _).symm rfl)

end

/-! ## Four chunks make a block -/

section
variable {a : ℕ} {e : EltTy} (G : (⟨2, ![a, 1024]⟩ : Shape).Idx → Elt Ideal e)
variable (j768 : ∀ i, (![0, 768] : Fin 2 → ℕ) i + (![a, 256] : Fin 2 → ℕ) i ≤ (⟨2, ![a, 1024]⟩ : Shape).size i)
variable (j512 : ∀ i, (![0, 512] : Fin 2 → ℕ) i + (![a, 256] : Fin 2 → ℕ) i ≤ (⟨2, ![a, 1024]⟩ : Shape).size i)
variable (j256 : ∀ i, (![0, 256] : Fin 2 → ℕ) i + (![a, 256] : Fin 2 → ℕ) i ≤ (⟨2, ![a, 1024]⟩ : Shape).size i)
variable (j0 : ∀ i, (![0, 0] : Fin 2 → ℕ) i + (![a, 256] : Fin 2 → ℕ) i ≤ (⟨2, ![a, 1024]⟩ : Shape).size i)
variable (w768 : (Rect.unit (s := ⟨2, ![a, 1024]⟩) ![0, 768] ![a, 256] j768).shape.Idx → Elt Ideal e)
variable (w512 : (Rect.unit (s := ⟨2, ![a, 1024]⟩) ![0, 512] ![a, 256] j512).shape.Idx → Elt Ideal e)
variable (w256 : (Rect.unit (s := ⟨2, ![a, 1024]⟩) ![0, 256] ![a, 256] j256).shape.Idx → Elt Ideal e)
variable (w0 : (Rect.unit (s := ⟨2, ![a, 1024]⟩) ![0, 0] ![a, 256] j0).shape.Idx → Elt Ideal e)

/-- The four chunks' stores. -/
abbrev chunks : List (View.Piece (Elt Ideal) ⟨2, ![a, 1024]⟩ e) :=
  [⟨Rect.unit ![0, 768] ![a, 256] j768, w768⟩, ⟨Rect.unit ![0, 512] ![a, 256] j512, w512⟩,
   ⟨Rect.unit ![0, 256] ![a, 256] j256, w256⟩, ⟨Rect.unit ![0, 0] ![a, 256] j0, w0⟩]

theorem mem_part {o : ℕ} (inb : ∀ i, (![0, o] : Fin 2 → ℕ) i + (![a, 256] : Fin 2 → ℕ) i ≤ (⟨2, ![a, 1024]⟩ : Shape).size i)
    (r : Fin a) (C : Fin 1024) (h : o ≤ C.val) (h' : C.val < o + 256) :
    (ix2 r C : (⟨2, ![a, 1024]⟩ : Shape).Idx) ∈ (Rect.unit (s := ⟨2, ![a, 1024]⟩) ![0, o] ![a, 256] inb).set := by
  rw [← emb_part inb r (⟨C.val - o, by omega⟩ : Fin 256) r C rfl (by show C.val = o + (C.val - o); omega)]
  exact (Rect.unit (s := ⟨2, ![a, 1024]⟩) ![0, o] ![a, 256] inb).idx_mem _

theorem chunks_cover (y : (⟨2, ![a, 1024]⟩ : Shape).Idx) : ∃ p ∈ chunks j768 j512 j256 j0 w768 w512 w256 w0, y ∈ p.1.set := by
  obtain ⟨r, C, rfl⟩ : ∃ r C, y = (ix2 r C : (⟨2, ![a, 1024]⟩ : Shape).Idx) := ⟨_, _, eq_ix2 (n0 := a) (n1 := 1024) y⟩
  have hC := C.isLt
  by_cases h1 : 768 ≤ C.val
  · exact ⟨_, List.mem_cons_self, mem_part j768 r C h1 (by omega)⟩
  by_cases h2 : 512 ≤ C.val
  · exact ⟨_, List.mem_cons_of_mem _ List.mem_cons_self, mem_part j512 r C h2 (by omega)⟩
  by_cases h3 : 256 ≤ C.val
  · exact ⟨_, List.mem_cons_of_mem _ (List.mem_cons_of_mem _ List.mem_cons_self), mem_part j256 r C h3 (by omega)⟩
  · exact ⟨_, List.mem_cons_of_mem _ (List.mem_cons_of_mem _ (List.mem_cons_of_mem _ List.mem_cons_self)), mem_part j0 r C (Nat.zero_le _) (by omega)⟩

/-- Four chunks that are parts of one block, over anything stored before, leave that block. -/
theorem chunks_canon (L : List (View.Piece (Elt Ideal) ⟨2, ![a, 1024]⟩ e))
    (e768 : ∀ x, w768 x = G ((Rect.unit (s := ⟨2, ![a, 1024]⟩) ![0, 768] ![a, 256] j768).emb x))
    (e512 : ∀ x, w512 x = G ((Rect.unit (s := ⟨2, ![a, 1024]⟩) ![0, 512] ![a, 256] j512).emb x))
    (e256 : ∀ x, w256 x = G ((Rect.unit (s := ⟨2, ![a, 1024]⟩) ![0, 256] ![a, 256] j256).emb x))
    (e0 : ∀ x, w0 x = G ((Rect.unit (s := ⟨2, ![a, 1024]⟩) ![0, 0] ![a, 256] j0).emb x)) (y : (⟨2, ![a, 1024]⟩ : Shape).Idx) :
    View.canon (chunks j768 j512 j256 j0 w768 w512 w256 w0 ++ L) y = G y :=
  View.canon_append_of_piecesOf G L (chunks j768 j512 j256 j0 w768 w512 w256 w0) ⟨e768, e512, e256, e0, trivial⟩ y
    (chunks_cover j768 j512 j256 j0 w768 w512 w256 w0 y)
end

end Cert.Proof.Ffn

end
-- ==== Proof.FfnBlock.lean ====
/- What a point leaves in each result's block, as numbers of the blocks that the point reads, whether it starts a running sum
   or continues one. -/
module

public import proofs.«01_k».proof.Proof.FfnPiece
public import proofs.«01_k».proof.Proof.Gen.Kernel2Ideal.Frame
public import Idealize.ShloMosaic.Lib.Pipeline.ValueKit
public import Idealize.ShloMosaic.Lib.Pipeline.ReadBack
public import Idealize.ShloMosaic.Lib.Pointwise

@[expose] public section

set_option maxRecDepth 16384
set_option maxHeartbeats 4000000

noncomputable section

namespace Cert.Proof.Ffn

open Idealize.ShloMosaic Cert.Kernel2Ideal Cert.Kernel2Ideal.Gen
open Idealize.ShloMosaic.Tactic

variable (x0 : Vec Ideal S512x1024 .bf16) (x1 : Vec Ideal S8x1024 .bf16) (x2 : Vec Ideal S1024x1024 .bf16)
variable (x3 x4 x5 : Vec Ideal S512x1024 .bf16) (x6 : Vec Ideal S8x1024 .bf16) (x7 : Vec Ideal S512x1024 .bf16)
variable (x8 : Vec Ideal S8x1024 .bf16) (x9 x10 : Vec Ideal S8x1024 .f32) (i : grid0.Coords)

/-! ## The points' blocks -/

section
variable (c : Dev nD) (t : Fin cfg0.N)
variable (xo13 xo14 : Vec Ideal S8x1024 .f32) (xo15 xo16 : Vec Ideal S1x1024 .f32)

theorem block_A11 (h0 : cond0_0 (grid0.coords t)) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
      = hidG x0 x1 x2 x5 x6 x7 x8 x9 (grid0.coords t) := by
  have hcov := cover0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
  unfold out0_A_11
  rw [View.read_writes_eq_canon _ _ _ hcov]
  clear hcov
  funext y
  unfold kernelRun0_A
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    (Memref.isWhole_whole _).read_unread, View.ld_unit_lit]
  exact chunks_canon (a := 512) (e := .bf16) (hidG x0 x1 x2 x5 x6 x7 x8 x9 (grid0.coords t)) _ _ _ _ _ _ _ _ []
    (piece_hidG x0 x1 x2 x5 x6 x7 x8 x9 (grid0.coords t) 768 (by decide) inb_S1024x1024_S256x1024_768_0 inb_S512x1024_S512x256_0_768 inb_S8x1024_S8x256_0_768 _ _ _)
    (piece_hidG x0 x1 x2 x5 x6 x7 x8 x9 (grid0.coords t) 512 (by decide) inb_S1024x1024_S256x1024_512_0 inb_S512x1024_S512x256_0_512 inb_S8x1024_S8x256_0_512 _ _ _)
    (piece_hidG x0 x1 x2 x5 x6 x7 x8 x9 (grid0.coords t) 256 (by decide) inb_S1024x1024_S256x1024_256_0 inb_S512x1024_S512x256_0_256 inb_S8x1024_S8x256_0_256 _ _ _)
    (piece_hidG x0 x1 x2 x5 x6 x7 x8 x9 (grid0.coords t) 0 (by decide) inb_S1024x1024_S256x1024_0_0 inb_S512x1024_S512x256_0_0 inb_S8x1024_S8x256_0_0 _ _ _) y

theorem block_A12 (h0 : cond0_0 (grid0.coords t)) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
      = hidU x0 x1 x2 x5 x6 x10 (grid0.coords t) := by
  have hcov := cover0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
  unfold out0_A_12
  rw [View.read_writes_eq_canon _ _ _ hcov]
  clear hcov
  funext y
  unfold kernelRun0_A
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    (Memref.isWhole_whole _).read_unread, View.ld_unit_lit]
  exact chunks_canon (a := 512) (e := .bf16) (hidU x0 x1 x2 x5 x6 x10 (grid0.coords t)) _ _ _ _ _ _ _ _ []
    (piece_hidU x0 x1 x2 x5 x6 x10 (grid0.coords t) 768 (by decide) inb_S1024x1024_S256x1024_768_0 inb_S512x1024_S512x256_0_768 inb_S8x1024_S8x256_0_768 _ _ _)
    (piece_hidU x0 x1 x2 x5 x6 x10 (grid0.coords t) 512 (by decide) inb_S1024x1024_S256x1024_512_0 inb_S512x1024_S512x256_0_512 inb_S8x1024_S8x256_0_512 _ _ _)
    (piece_hidU x0 x1 x2 x5 x6 x10 (grid0.coords t) 256 (by decide) inb_S1024x1024_S256x1024_256_0 inb_S512x1024_S512x256_0_256 inb_S8x1024_S8x256_0_256 _ _ _)
    (piece_hidU x0 x1 x2 x5 x6 x10 (grid0.coords t) 0 (by decide) inb_S1024x1024_S256x1024_0_0 inb_S512x1024_S512x256_0_0 inb_S8x1024_S8x256_0_0 _ _ _) y

theorem block_A13 (h0 : cond0_0 (grid0.coords t)) :
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
      = wgtG x0 x1 x2 x3 x5 x6 x7 x8 (grid0.coords t) (k0_pay3 (F := Ideal)) := by
  have hcov := cover0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
  unfold out0_A_13
  rw [View.read_writes_eq_canon _ _ _ hcov]
  clear hcov
  funext y
  unfold kernelRun0_A
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    (Memref.isWhole_whole _).read_unread, View.ld_unit_lit]
  exact chunks_canon (a := 8) (e := .f32) (wgtG x0 x1 x2 x3 x5 x6 x7 x8 (grid0.coords t) (k0_pay3 (F := Ideal))) _ _ _ _ _ _ _ _ [_]
    (piece_wgtG x0 x1 x2 x3 x5 x6 x7 x8 (grid0.coords t) 768 (by decide) inb_S1024x1024_S256x1024_768_0 inb_S512x1024_S512x256_0_768 inb_S8x1024_S8x256_0_768 (k0_pay3 (F := Ideal)))
    (piece_wgtG x0 x1 x2 x3 x5 x6 x7 x8 (grid0.coords t) 512 (by decide) inb_S1024x1024_S256x1024_512_0 inb_S512x1024_S512x256_0_512 inb_S8x1024_S8x256_0_512 (k0_pay3 (F := Ideal)))
    (piece_wgtG x0 x1 x2 x3 x5 x6 x7 x8 (grid0.coords t) 256 (by decide) inb_S1024x1024_S256x1024_256_0 inb_S512x1024_S512x256_0_256 inb_S8x1024_S8x256_0_256 (k0_pay3 (F := Ideal)))
    (piece_wgtG x0 x1 x2 x3 x5 x6 x7 x8 (grid0.coords t) 0 (by decide) inb_S1024x1024_S256x1024_0_0 inb_S512x1024_S512x256_0_0 inb_S8x1024_S8x256_0_0 (k0_pay3 (F := Ideal))) y

theorem block_A14 (h0 : cond0_0 (grid0.coords t)) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
      = wgtU x0 x1 x2 x4 x5 x6 (grid0.coords t) (k0_pay4 (F := Ideal)) := by
  have hcov := cover0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
  unfold out0_A_14
  rw [View.read_writes_eq_canon _ _ _ hcov]
  clear hcov
  funext y
  unfold kernelRun0_A
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    (Memref.isWhole_whole _).read_unread, View.ld_unit_lit]
  exact chunks_canon (a := 8) (e := .f32) (wgtU x0 x1 x2 x4 x5 x6 (grid0.coords t) (k0_pay4 (F := Ideal))) _ _ _ _ _ _ _ _ [_]
    (piece_wgtU x0 x1 x2 x4 x5 x6 (grid0.coords t) 768 (by decide) inb_S1024x1024_S256x1024_768_0 inb_S512x1024_S512x256_0_768 inb_S8x1024_S8x256_0_768 (k0_pay4 (F := Ideal)))
    (piece_wgtU x0 x1 x2 x4 x5 x6 (grid0.coords t) 512 (by decide) inb_S1024x1024_S256x1024_512_0 inb_S512x1024_S512x256_0_512 inb_S8x1024_S8x256_0_512 (k0_pay4 (F := Ideal)))
    (piece_wgtU x0 x1 x2 x4 x5 x6 (grid0.coords t) 256 (by decide) inb_S1024x1024_S256x1024_256_0 inb_S512x1024_S512x256_0_256 inb_S8x1024_S8x256_0_256 (k0_pay4 (F := Ideal)))
    (piece_wgtU x0 x1 x2 x4 x5 x6 (grid0.coords t) 0 (by decide) inb_S1024x1024_S256x1024_0_0 inb_S512x1024_S512x256_0_0 inb_S8x1024_S8x256_0_0 (k0_pay4 (F := Ideal))) y

theorem block_A15 (h0 : cond0_0 (grid0.coords t)) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
      = biaG x0 x2 x5 x7 (k0_pay5 (F := Ideal)) := by
  have hcov := cover0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
  unfold out0_A_15
  rw [View.read_writes_eq_canon _ _ _ hcov]
  clear hcov
  funext y
  unfold kernelRun0_A
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    (Memref.isWhole_whole _).read_unread, View.ld_unit_lit]
  exact chunks_canon (a := 1) (e := .f32) (biaG x0 x2 x5 x7 (k0_pay5 (F := Ideal))) _ _ _ _ _ _ _ _ [_]
    (piece_biaG x0 x2 x5 x7 768 (by decide) inb_S1024x1024_S256x1024_768_0 inb_S512x1024_S512x256_0_768 inb_S1x1024_S1x256_0_768 (k0_pay5 (F := Ideal)))
    (piece_biaG x0 x2 x5 x7 512 (by decide) inb_S1024x1024_S256x1024_512_0 inb_S512x1024_S512x256_0_512 inb_S1x1024_S1x256_0_512 (k0_pay5 (F := Ideal)))
    (piece_biaG x0 x2 x5 x7 256 (by decide) inb_S1024x1024_S256x1024_256_0 inb_S512x1024_S512x256_0_256 inb_S1x1024_S1x256_0_256 (k0_pay5 (F := Ideal)))
    (piece_biaG x0 x2 x5 x7 0 (by decide) inb_S1024x1024_S256x1024_0_0 inb_S512x1024_S512x256_0_0 inb_S1x1024_S1x256_0_0 (k0_pay5 (F := Ideal))) y

theorem block_A16 (h0 : cond0_0 (grid0.coords t)) :
    out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
      = biaU x0 x2 x5 (k0_pay6 (F := Ideal)) := by
  have hcov := cover0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10
  unfold out0_A_16
  rw [View.read_writes_eq_canon _ _ _ hcov]
  clear hcov
  funext y
  unfold kernelRun0_A
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread,
    (Memref.isWhole_whole _).read_unread, View.ld_unit_lit]
  exact chunks_canon (a := 1) (e := .f32) (biaU x0 x2 x5 (k0_pay6 (F := Ideal))) _ _ _ _ _ _ _ _ [_]
    (piece_biaU x0 x2 x5 768 (by decide) inb_S1024x1024_S256x1024_768_0 inb_S512x1024_S512x256_0_768 inb_S1x1024_S1x256_0_768 (k0_pay6 (F := Ideal)))
    (piece_biaU x0 x2 x5 512 (by decide) inb_S1024x1024_S256x1024_512_0 inb_S512x1024_S512x256_0_512 inb_S1x1024_S1x256_0_512 (k0_pay6 (F := Ideal)))
    (piece_biaU x0 x2 x5 256 (by decide) inb_S1024x1024_S256x1024_256_0 inb_S512x1024_S512x256_0_256 inb_S1x1024_S1x256_0_256 (k0_pay6 (F := Ideal)))
    (piece_biaU x0 x2 x5 0 (by decide) inb_S1024x1024_S256x1024_0_0 inb_S512x1024_S512x256_0_0 inb_S1x1024_S1x256_0_0 (k0_pay6 (F := Ideal))) y

theorem block_B11 (h0 : ¬ cond0_0 (grid0.coords t)) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
      = hidG x0 x1 x2 x5 x6 x7 x8 x9 (grid0.coords t) := by
  have hcov := cover0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
  unfold out0_B_11
  rw [View.read_writes_eq_canon _ _ _ hcov]
  clear hcov
  funext y
  unfold kernelRun0_B
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_13 t).read_unread, (hs0_14 t).read_unread, (hs0_15 t).read_unread, (hs0_16 t).read_unread,
    (Memref.isWhole_whole _).read_unread, View.ld_unit_lit]
  exact chunks_canon (a := 512) (e := .bf16) (hidG x0 x1 x2 x5 x6 x7 x8 x9 (grid0.coords t)) _ _ _ _ _ _ _ _ []
    (piece_hidG x0 x1 x2 x5 x6 x7 x8 x9 (grid0.coords t) 768 (by decide) inb_S1024x1024_S256x1024_768_0 inb_S512x1024_S512x256_0_768 inb_S8x1024_S8x256_0_768 _ _ _)
    (piece_hidG x0 x1 x2 x5 x6 x7 x8 x9 (grid0.coords t) 512 (by decide) inb_S1024x1024_S256x1024_512_0 inb_S512x1024_S512x256_0_512 inb_S8x1024_S8x256_0_512 _ _ _)
    (piece_hidG x0 x1 x2 x5 x6 x7 x8 x9 (grid0.coords t) 256 (by decide) inb_S1024x1024_S256x1024_256_0 inb_S512x1024_S512x256_0_256 inb_S8x1024_S8x256_0_256 _ _ _)
    (piece_hidG x0 x1 x2 x5 x6 x7 x8 x9 (grid0.coords t) 0 (by decide) inb_S1024x1024_S256x1024_0_0 inb_S512x1024_S512x256_0_0 inb_S8x1024_S8x256_0_0 _ _ _) y

theorem block_B12 (h0 : ¬ cond0_0 (grid0.coords t)) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
      = hidU x0 x1 x2 x5 x6 x10 (grid0.coords t) := by
  have hcov := cover0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
  unfold out0_B_12
  rw [View.read_writes_eq_canon _ _ _ hcov]
  clear hcov
  funext y
  unfold kernelRun0_B
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_13 t).read_unread, (hs0_14 t).read_unread, (hs0_15 t).read_unread, (hs0_16 t).read_unread,
    (Memref.isWhole_whole _).read_unread, View.ld_unit_lit]
  exact chunks_canon (a := 512) (e := .bf16) (hidU x0 x1 x2 x5 x6 x10 (grid0.coords t)) _ _ _ _ _ _ _ _ []
    (piece_hidU x0 x1 x2 x5 x6 x10 (grid0.coords t) 768 (by decide) inb_S1024x1024_S256x1024_768_0 inb_S512x1024_S512x256_0_768 inb_S8x1024_S8x256_0_768 _ _ _)
    (piece_hidU x0 x1 x2 x5 x6 x10 (grid0.coords t) 512 (by decide) inb_S1024x1024_S256x1024_512_0 inb_S512x1024_S512x256_0_512 inb_S8x1024_S8x256_0_512 _ _ _)
    (piece_hidU x0 x1 x2 x5 x6 x10 (grid0.coords t) 256 (by decide) inb_S1024x1024_S256x1024_256_0 inb_S512x1024_S512x256_0_256 inb_S8x1024_S8x256_0_256 _ _ _)
    (piece_hidU x0 x1 x2 x5 x6 x10 (grid0.coords t) 0 (by decide) inb_S1024x1024_S256x1024_0_0 inb_S512x1024_S512x256_0_0 inb_S8x1024_S8x256_0_0 _ _ _) y

theorem block_B13 (h0 : ¬ cond0_0 (grid0.coords t)) :
    out0_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
      = wgtG x0 x1 x2 x3 x5 x6 x7 x8 (grid0.coords t) xo13 := by
  have hcov := cover0_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
  unfold out0_B_13
  rw [View.read_writes_eq_canon _ _ _ hcov]
  clear hcov
  funext y
  unfold kernelRun0_B
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_13 t).read_unread, (hs0_14 t).read_unread, (hs0_15 t).read_unread, (hs0_16 t).read_unread,
    (Memref.isWhole_whole _).read_unread, View.ld_unit_lit]
  exact chunks_canon (a := 8) (e := .f32) (wgtG x0 x1 x2 x3 x5 x6 x7 x8 (grid0.coords t) xo13) _ _ _ _ _ _ _ _ []
    (piece_wgtG x0 x1 x2 x3 x5 x6 x7 x8 (grid0.coords t) 768 (by decide) inb_S1024x1024_S256x1024_768_0 inb_S512x1024_S512x256_0_768 inb_S8x1024_S8x256_0_768 xo13)
    (piece_wgtG x0 x1 x2 x3 x5 x6 x7 x8 (grid0.coords t) 512 (by decide) inb_S1024x1024_S256x1024_512_0 inb_S512x1024_S512x256_0_512 inb_S8x1024_S8x256_0_512 xo13)
    (piece_wgtG x0 x1 x2 x3 x5 x6 x7 x8 (grid0.coords t) 256 (by decide) inb_S1024x1024_S256x1024_256_0 inb_S512x1024_S512x256_0_256 inb_S8x1024_S8x256_0_256 xo13)
    (piece_wgtG x0 x1 x2 x3 x5 x6 x7 x8 (grid0.coords t) 0 (by decide) inb_S1024x1024_S256x1024_0_0 inb_S512x1024_S512x256_0_0 inb_S8x1024_S8x256_0_0 xo13) y

theorem block_B14 (h0 : ¬ cond0_0 (grid0.coords t)) :
    out0_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
      = wgtU x0 x1 x2 x4 x5 x6 (grid0.coords t) xo14 := by
  have hcov := cover0_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
  unfold out0_B_14
  rw [View.read_writes_eq_canon _ _ _ hcov]
  clear hcov
  funext y
  unfold kernelRun0_B
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_13 t).read_unread, (hs0_14 t).read_unread, (hs0_15 t).read_unread, (hs0_16 t).read_unread,
    (Memref.isWhole_whole _).read_unread, View.ld_unit_lit]
  exact chunks_canon (a := 8) (e := .f32) (wgtU x0 x1 x2 x4 x5 x6 (grid0.coords t) xo14) _ _ _ _ _ _ _ _ []
    (piece_wgtU x0 x1 x2 x4 x5 x6 (grid0.coords t) 768 (by decide) inb_S1024x1024_S256x1024_768_0 inb_S512x1024_S512x256_0_768 inb_S8x1024_S8x256_0_768 xo14)
    (piece_wgtU x0 x1 x2 x4 x5 x6 (grid0.coords t) 512 (by decide) inb_S1024x1024_S256x1024_512_0 inb_S512x1024_S512x256_0_512 inb_S8x1024_S8x256_0_512 xo14)
    (piece_wgtU x0 x1 x2 x4 x5 x6 (grid0.coords t) 256 (by decide) inb_S1024x1024_S256x1024_256_0 inb_S512x1024_S512x256_0_256 inb_S8x1024_S8x256_0_256 xo14)
    (piece_wgtU x0 x1 x2 x4 x5 x6 (grid0.coords t) 0 (by decide) inb_S1024x1024_S256x1024_0_0 inb_S512x1024_S512x256_0_0 inb_S8x1024_S8x256_0_0 xo14) y

theorem block_B15 (h0 : ¬ cond0_0 (grid0.coords t)) :
    out0_B_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
      = biaG x0 x2 x5 x7 xo15 := by
  have hcov := cover0_B_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
  unfold out0_B_15
  rw [View.read_writes_eq_canon _ _ _ hcov]
  clear hcov
  funext y
  unfold kernelRun0_B
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_13 t).read_unread, (hs0_14 t).read_unread, (hs0_15 t).read_unread, (hs0_16 t).read_unread,
    (Memref.isWhole_whole _).read_unread, View.ld_unit_lit]
  exact chunks_canon (a := 1) (e := .f32) (biaG x0 x2 x5 x7 xo15) _ _ _ _ _ _ _ _ []
    (piece_biaG x0 x2 x5 x7 768 (by decide) inb_S1024x1024_S256x1024_768_0 inb_S512x1024_S512x256_0_768 inb_S1x1024_S1x256_0_768 xo15)
    (piece_biaG x0 x2 x5 x7 512 (by decide) inb_S1024x1024_S256x1024_512_0 inb_S512x1024_S512x256_0_512 inb_S1x1024_S1x256_0_512 xo15)
    (piece_biaG x0 x2 x5 x7 256 (by decide) inb_S1024x1024_S256x1024_256_0 inb_S512x1024_S512x256_0_256 inb_S1x1024_S1x256_0_256 xo15)
    (piece_biaG x0 x2 x5 x7 0 (by decide) inb_S1024x1024_S256x1024_0_0 inb_S512x1024_S512x256_0_0 inb_S1x1024_S1x256_0_0 xo15) y

theorem block_B16 (h0 : ¬ cond0_0 (grid0.coords t)) :
    out0_B_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
      = biaU x0 x2 x5 xo16 := by
  have hcov := cover0_B_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) h0 x0 x1 x2 x3 x4 x5 x6 x7 x8 x9 x10 xo13 xo14 xo15 xo16
  unfold out0_B_16
  rw [View.read_writes_eq_canon _ _ _ hcov]
  clear hcov
  funext y
  unfold kernelRun0_B
  dsimp only
  sl_unfold_words
  simp (disch := first | rfl | decide | (intro a; fin_cases a <;> rfl)) only [↓View.readCov_skip, View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_13 t).read_unread, (hs0_14 t).read_unread, (hs0_15 t).read_unread, (hs0_16 t).read_unread,
    (Memref.isWhole_whole _).read_unread, View.ld_unit_lit]
  exact chunks_canon (a := 1) (e := .f32) (biaU x0 x2 x5 xo16) _ _ _ _ _ _ _ _ []
    (piece_biaU x0 x2 x5 768 (by decide) inb_S1024x1024_S256x1024_768_0 inb_S512x1024_S512x256_0_768 inb_S1x1024_S1x256_0_768 xo16)
    (piece_biaU x0 x2 x5 512 (by decide) inb_S1024x1024_S256x1024_512_0 inb_S512x1024_S512x256_0_512 inb_S1x1024_S1x256_0_512 xo16)
    (piece_biaU x0 x2 x5 256 (by decide) inb_S1024x1024_S256x1024_256_0 inb_S512x1024_S512x256_0_256 inb_S1x1024_S1x256_0_256 xo16)
    (piece_biaU x0 x2 x5 0 (by decide) inb_S1024x1024_S256x1024_0_0 inb_S512x1024_S512x256_0_0 inb_S1x1024_S1x256_0_0 xo16) y

end

end Cert.Proof.Ffn

end
-- ==== Proof.FfnSpec.lean ====
/- The convolution over time and its gradients, as numbers of whole arrays: the rows before and after a row, the gradient of
   what is convolved, of the weights and of the biases. -/
module

public import Idealize.ShloMosaic.Lib.Pointwise

@[expose] public section

set_option maxRecDepth 16384

noncomputable section

namespace Cert.Proof.Ffn

open Idealize.ShloMosaic

/-- An array of 4096 rows and 4096 columns. -/
abbrev Big := Fin 4096 → Fin 4096 → EReal

/-- The row `k` before, nothing before the first; and the row `k` after, nothing after the last. -/
def past (k : ℕ) (X : Big) (s f : Fin 4096) : EReal := if k ≤ s.val then X ⟨s.val - k, by omega⟩ f else 0
def later (k : ℕ) (X : Big) (s f : Fin 4096) : EReal := if h : s.val + k < 4096 then X ⟨s.val + k, h⟩ f else 0

/-- The convolution, from its three rows of weights and its biases. -/
def taps (H : Big) (w : Fin 3 → Fin 4096 → EReal) (b : Fin 4096 → EReal) (s f : Fin 4096) : EReal :=
  past 2 H s f * w 0 f + past 1 H s f * w 1 f + H s f * w 2 f + b f

/-- The gradients, from the gradient `D` of the convolved values: of what is convolved, of the weights and of the biases. -/
def gHid (D : Big) (w : Fin 3 → Fin 4096 → EReal) (s f : Fin 4096) : EReal :=
  w 2 f * D s f + w 1 f * later 1 D s f + w 0 f * later 2 D s f
def gWgt (H D : Big) (r : Fin 8) (f : Fin 4096) : EReal :=
  if r.val = 0 then ∑ s, H s f * later 2 D s f else if r.val = 1 then ∑ s, H s f * later 1 D s f
  else if r.val = 2 then ∑ s, H s f * D s f else 0
def gBias (D : Big) (f : Fin 4096) : EReal := ∑ s, D s f

/-- Earlier rows against a gradient are the rows against the later gradients. -/
theorem sum_past (k : ℕ) (H D : Big) (f : Fin 4096) : ∑ s, past k H s f * D s f = ∑ s, H s f * later k D s f := by
  have hl : ∀ s, past k H s f * D s f = ∑ t : Fin 4096, if s.val = t.val + k then H t f * D s f else 0 := fun s => by
    unfold past
    by_cases h : k ≤ s.val
    · rw [if_pos h]
      refine Eq.symm ((Finset.sum_eq_single (⟨s.val - k, by omega⟩ : Fin 4096) (fun t _ ht => if_neg fun e => ht (Fin.ext ?_))
        fun hn => absurd (Finset.mem_univ _) hn).trans (if_pos ?_))
      · show t.val = s.val - k; omega
      · show s.val = s.val - k + k; omega
    · rw [if_neg h, zero_mul]
      exact (Finset.sum_eq_zero fun t _ => if_neg (by omega)).symm
  have hr : ∀ t, H t f * later k D t f = ∑ s : Fin 4096, if s.val = t.val + k then H t f * D s f else 0 := fun t => by
    unfold later
    by_cases h : t.val + k < 4096
    · rw [dif_pos h]
      exact Eq.symm ((Finset.sum_eq_single (⟨t.val + k, h⟩ : Fin 4096) (fun s _ hs => if_neg fun e => hs (Fin.ext e))
        fun hn => absurd (Finset.mem_univ _) hn).trans (if_pos rfl))
    · rw [dif_neg h, mul_zero]
      exact (Finset.sum_eq_zero fun s _ => if_neg (by have := s.isLt; omega)).symm
  rw [Finset.sum_congr rfl fun s _ => hl s, Finset.sum_congr rfl fun t _ => hr t, Finset.sum_comm]

/-! ## The arguments' parts -/

/-- The arguments' arrays: the incoming gradient's and the weights' rows, the hidden rows, the convolution's weights and biases. -/
abbrev Rows := (⟨2, ![4096, 1024]⟩ : Shape).Idx → EReal
abbrev Wide := (⟨2, ![4096, 4096]⟩ : Shape).Idx → EReal
abbrev Taps := (⟨2, ![3, 8192]⟩ : Shape).Idx → EReal
abbrev Biases := (⟨2, ![1, 8192]⟩ : Shape).Idx → EReal

/-- An array's rows and columns. -/
def big (x : Wide) : Big := fun s f => x (ix2 s f)

section
variable (x4 : Taps) (x5 : Biases)

/-- The weights' and the biases' left half, which is the gate's, and their right half. -/
def wG (k : Fin 3) (f : Fin 4096) : EReal := x4 (ix2 k ⟨f.val, by omega⟩)
def wU (k : Fin 3) (f : Fin 4096) : EReal := x4 (ix2 k ⟨4096 + f.val, by omega⟩)
def bG_ (f : Fin 4096) : EReal := x5 (ix2 0 ⟨f.val, by omega⟩)
def bU_ (f : Fin 4096) : EReal := x5 (ix2 0 ⟨4096 + f.val, by omega⟩)
end

section
variable (x0 x1 : Rows) (x2 x3 : Wide) (x4 : Taps) (x5 : Biases)

/-- The convolved gate and the convolved other half. -/
def cG : Big := taps (big x2) (wG x4) (bG_ x5)
def cU : Big := taps (big x3) (wU x4) (bU_ x5)

/-- The gradient of the activation. -/
def gA : Big := fun s f => ∑ k : Fin 1024, x0 (ix2 s k) * x1 (ix2 f k)
end

/-! ## Which numbers are reals -/

/-- The integer zero, converted. -/
theorem int_zero : FloatOps.sitofp (F := Ideal) FTy.f32 0#32 = (0 : EReal) := by
  show ((((0#32 : BitVec 32).toInt : ℤ) : ℝ) : EReal) = 0
  simp

/-- A finite number. -/
def Real' (x : EReal) : Prop := ∃ r : ℝ, x = (r : EReal)

theorem Real'.zero : Real' 0 := ⟨0, rfl⟩
theorem Real'.add {x y : EReal} : Real' x → Real' y → Real' (x + y)
  | ⟨a, ha⟩, ⟨b, hb⟩ => ⟨a + b, by rw [ha, hb, EReal.coe_add]⟩
theorem Real'.mul {x y : EReal} : Real' x → Real' y → Real' (x * y)
  | ⟨a, ha⟩, ⟨b, hb⟩ => ⟨a * b, by rw [ha, hb, EReal.coe_mul]⟩
theorem Real'.sum {ι : Type} [Fintype ι] {g : ι → EReal} (h : ∀ i, Real' (g i)) : Real' (∑ i, g i) := by
  classical
  induction (Finset.univ : Finset ι) using Finset.induction_on with
  | empty => exact ⟨0, by simp⟩
  | insert x t hx ih => rw [Finset.sum_insert hx]; exact (h x).add ih

theorem Real'.past {X : Big} (h : ∀ s f, Real' (X s f)) (k : ℕ) (s f : Fin 4096) : Real' (past k X s f) := by
  unfold Ffn.past; split
  · exact h _ _
  · exact .zero

theorem Real'.taps {H : Big} {w : Fin 3 → Fin 4096 → EReal} {b : Fin 4096 → EReal} (hH : ∀ s f, Real' (H s f))
    (hw : ∀ k f, Real' (w k f)) (hb : ∀ f, Real' (b f)) (s f : Fin 4096) : Real' (taps H w b s f) :=
  ((((Real'.past hH 2 s f).mul (hw 0 f)).add ((Real'.past hH 1 s f).mul (hw 1 f))).add ((hH s f).mul (hw 2 f))).add (hb f)

section
variable {x0 x1 : Rows} {x2 x3 : Wide} {x4 : Taps} {x5 : Biases}

theorem Real'.gA (h0 : ∀ j, Real' (x0 j)) (h1 : ∀ j, Real' (x1 j)) (s f : Fin 4096) : Real' (gA x0 x1 s f) :=
  .sum fun k => (h0 _).mul (h1 _)
theorem Real'.cG (h2 : ∀ j, Real' (x2 j)) (h4 : ∀ j, Real' (x4 j)) (h5 : ∀ j, Real' (x5 j)) (s f : Fin 4096) :
    Real' (cG x2 x4 x5 s f) :=
  .taps (fun _ _ => h2 _) (fun _ _ => h4 _) (fun _ => h5 _) s f
theorem Real'.cU (h3 : ∀ j, Real' (x3 j)) (h4 : ∀ j, Real' (x4 j)) (h5 : ∀ j, Real' (x5 j)) (s f : Fin 4096) :
    Real' (cU x3 x4 x5 s f) :=
  .taps (fun _ _ => h3 _) (fun _ _ => h4 _) (fun _ => h5 _) s f
end

end Cert.Proof.Ffn
-- ==== Proof.FfnGelu.lean ====
/- The gelu's two forms, and its derivative's: the program's constants multiplied out, the formula's not. -/
module

public import proofs.«01_k».proof.Proof.FfnPay
public import proofs.«01_k».proof.Proof.FfnSpec

@[expose] public section

set_option maxRecDepth 16384

noncomputable section

namespace Cert.Proof.Ffn

open Idealize.ShloMosaic

/-- The formula's constants. -/
abbrev fc : EReal := Ideal.ofBits .f32 0x3F4C422A#32
abbrev fa : EReal := Ideal.ofBits .f32 0x3D372713#32
abbrev three : EReal := Ideal.ofBits .f32 0x40400000#32

theorem fc_eq : fc = ((6693141 / 8388608 : ℝ) : EReal) := by
  unfold fc; simp [Ideal.ofBits, Ideal.ieee, -EReal.coe_mul]; norm_num
theorem fa_eq : fa = ((12003091 / 268435456 : ℝ) : EReal) := by
  unfold fa; simp [Ideal.ofBits, Ideal.ieee, -EReal.coe_mul]; norm_num
theorem three_eq : three = ((3 : ℝ) : EReal) := by
  unfold three; simp [Ideal.ofBits, Ideal.ieee, -EReal.coe_mul]; norm_num
theorem two_eq : two = ((2 : ℝ) : EReal) := by
  unfold two; simp [Ideal.ofBits, Ideal.ieee, -EReal.coe_mul]; norm_num
theorem one_eq : one = ((1 : ℝ) : EReal) := by
  unfold one; simp [Ideal.ofBits, Ideal.ieee, -EReal.coe_mul]; norm_num
theorem half_eq : half = ((1 / 2 : ℝ) : EReal) := by
  unfold half; simp [Ideal.ofBits, Ideal.ieee, -EReal.coe_mul]; norm_num
theorem kc_eq : kc = ((6693141 / 8388608 : ℝ) : EReal) := fc_eq
theorem kca_eq : kca = ((6693141 / 8388608 * (12003091 / 268435456) : ℝ) : EReal) := by
  refine Eq.trans (b := ((80338380498831 / 2251799813685248 : ℝ) : EReal)) rfl (congrArg _ ?_)
  norm_num
theorem kca3_eq : kca3 = ((3 * (6693141 / 8388608) * (12003091 / 268435456) : ℝ) : EReal) := by
  refine Eq.trans (b := ((241015141496493 / 2251799813685248 : ℝ) : EReal)) rfl (congrArg _ ?_)
  norm_num

/-- The formula's hyperbolic tangent. -/
def fth (x : EReal) : EReal := Ideal.tanh (fc * (x + fa * (x * x * x)))

/-- The gelu by its formula, and a gradient through it. -/
def fact (x : EReal) : EReal := x * (half * (1 + fth x))
def fslope (z x : EReal) : EReal :=
  z * (half * (1 + fth x)) + fc * (half * (x * z) * ((1 + fth x) * (1 - fth x)))
    + fa * (fc * (half * (x * z) * ((1 + fth x) * (1 - fth x)))) * (three * (x * x))

theorem tanh_coe (r : ℝ) : Ideal.tanh (r : EReal) = ((Real.tanh r : ℝ) : EReal) := rfl

theorem fth_eq (x : ℝ) : fth x = ((Real.tanh (6693141 / 8388608 * (x + 12003091 / 268435456 * (x * x * x))) : ℝ) : EReal) := by
  rw [fth, fc_eq, fa_eq, ← tanh_coe]
  norm_cast

theorem soft_eq (x : ℝ) : soft x = ((1 + Real.tanh (6693141 / 8388608 * (x + 12003091 / 268435456 * (x * x * x))) : ℝ) : EReal) := by
  have h : (x : EReal) * (kca * ((x : EReal) * x) + kc) = ((6693141 / 8388608 * (x + 12003091 / 268435456 * (x * x * x)) : ℝ) : EReal) := by
    rw [kca_eq, kc_eq]
    simp only [← EReal.coe_mul, ← EReal.coe_add]
    exact congrArg _ (by ring)
  rw [soft, h, tanh_coe, one_eq, ← EReal.coe_add]

/-- On finite numbers the forms agree. -/
theorem act_eq (x : ℝ) : act x = fact x := by
  rw [act, fact, soft_eq, fth_eq, half_eq, ← EReal.coe_one]
  simp only [← EReal.coe_mul, ← EReal.coe_add]
  exact congrArg _ (by ring)

theorem slope_eq (z x : ℝ) : (z : EReal) * slope x = fslope z x := by
  rw [slope, fslope, soft_eq, fth_eq, half_eq, two_eq, three_eq, kca3_eq, kc_eq, fc_eq, fa_eq, ← EReal.coe_one]
  simp only [← EReal.coe_mul, ← EReal.coe_add, ← EReal.coe_sub]
  exact congrArg _ (by ring)

/-! ## The gradients of the convolved values -/

section
variable (x0 x1 : Rows) (x2 x3 : Wide) (x4 : Taps) (x5 : Biases)

/-- By the formula. -/
def rG : Big := fun s f => fslope (gA x0 x1 s f * cU x3 x4 x5 s f) (cG x2 x4 x5 s f)
def rU : Big := fun s f => fact (cG x2 x4 x5 s f) * gA x0 x1 s f

/-- As the kernel writes them. -/
def kG : Big := fun s f => gA x0 x1 s f * cU x3 x4 x5 s f * slope (cG x2 x4 x5 s f)
def kU : Big := fun s f => gA x0 x1 s f * act (cG x2 x4 x5 s f)
end

section
variable {x0 x1 : Rows} {x2 x3 : Wide} {x4 : Taps} {x5 : Biases}
variable (h0 : ∀ j, Real' (x0 j)) (h1 : ∀ j, Real' (x1 j)) (h2 : ∀ j, Real' (x2 j)) (h3 : ∀ j, Real' (x3 j))
variable (h4 : ∀ j, Real' (x4 j)) (h5 : ∀ j, Real' (x5 j))

include h0 h1 h2 h3 h4 h5 in
theorem kG_eq : kG x0 x1 x2 x3 x4 x5 = rG x0 x1 x2 x3 x4 x5 := by
  funext s f
  obtain ⟨x, hx⟩ := Real'.cG h2 h4 h5 s f
  obtain ⟨z, hz⟩ := (Real'.gA h0 h1 s f).mul (Real'.cU h3 h4 h5 s f)
  rw [kG, rG, hx, hz, slope_eq]

include h2 h4 h5 in
theorem kU_eq : kU x0 x1 x2 x4 x5 = rU x0 x1 x2 x4 x5 := by
  funext s f
  obtain ⟨x, hx⟩ := Real'.cG h2 h4 h5 s f
  rw [kU, rU, hx, act_eq, mul_comm]
end

end Cert.Proof.Ffn
-- ==== Proof.FfnTile.lean ====
/- Tiles of the arrays: a point's blocks are 512 rows and 1024 columns of the whole arrays, the next block's first rows are
   the rows after them, and the parts of the weights' and biases' gradients of the eight blocks of rows are the sums over
   all 4096 rows. -/
module

public import proofs.«01_k».proof.Proof.FfnChunk
public import proofs.«01_k».proof.Proof.FfnGelu

@[expose] public section

set_option maxRecDepth 16384

noncomputable section

namespace Cert.Proof.Ffn

open Idealize.ShloMosaic Cert.Kernel2Ideal Cert.Kernel2Ideal.Gen

/-- Row `r` of block `i`, the `q`-th row from the next block on (of the last eight rows if there is none), and column `C` of
    block `j`, as rows and columns of the arrays. -/
def row (i : Fin 8) (r : Fin 512) : Fin 4096 := ⟨512 * i.val + r.val, by omega⟩
def nrow (i : Fin 8) (q : Fin 8) : Fin 4096 := ⟨8 * min (64 * (i.val + 1)) 511 + q.val, by omega⟩
def col (j : Fin 4) (C : Fin 1024) : Fin 4096 := ⟨1024 * j.val + C.val, by omega⟩

/-- The weights in eight rows, those after the third zero. -/
def pad (x4 : Taps) : (⟨2, ![8, 8192]⟩ : Shape).Idx → EReal := fun y => if h : (y 0).val < 3 then x4 (ix2 ⟨(y 0).val, h⟩ (y 1)) else 0

section
variable (i : Fin 8) (j : Fin 4)

/-- The tiles. -/
def tRows (x : Rows) : Vec Ideal S512x1024 .bf16 := fun y => x (ix2 (row i (y 0)) (y 1))
def tNext (x : Rows) : Vec Ideal S8x1024 .bf16 := fun y => x (ix2 (nrow i (y 0)) (y 1))
def tCols (x : Rows) : Vec Ideal S1024x1024 .bf16 := fun y => x (ix2 (col j (y 0)) (y 1))
def tBig (X : Big) : Vec Ideal S512x1024 .bf16 := fun y => X (row i (y 0)) (col j (y 1))
def tBig8 (X : Big) : Vec Ideal S8x1024 .bf16 := fun y => X (nrow i (y 0)) (col j (y 1))
def tWgtG (x4 : Taps) : Vec Ideal S8x1024 .f32 := fun y => pad x4 (ix2 (y 0) ⟨(col j (y 1)).val, by omega⟩)
def tWgtU (x4 : Taps) : Vec Ideal S8x1024 .f32 := fun y => pad x4 (ix2 (y 0) ⟨4096 + (col j (y 1)).val, by omega⟩)
end

/-- The next rows of an array, nothing after the last block. -/
def nxt (i : Fin 8) (X : Big) (q : Fin 8) (f : Fin 4096) : EReal :=
  if h : i.val = 7 then 0 else X ⟨512 * (i.val + 1) + q.val, by omega⟩ f

section
variable (x0 x1 : Rows) (x2 x3 : Wide) (x4 : Taps) (x5 : Biases) (i : Fin 8) (j : Fin 4)

theorem bA_tile (r : Fin 512) (C : Fin 1024) : bA (tRows i x0) (tCols j x1) r C = gA x0 x1 (row i r) (col j C) := rfl

theorem nrow_eq (h : ¬ i.val = 7) (q : Fin 8) : nrow i q = ⟨512 * (i.val + 1) + q.val, by omega⟩ :=
  Fin.ext (by show 8 * min (64 * (i.val + 1)) 511 + q.val = 512 * (i.val + 1) + q.val; omega)

theorem bG_tile (r : Fin 512) (C : Fin 1024) :
    bG (tRows i x0) (tCols j x1) (tBig i j (cG x2 x4 x5)) (tBig i j (cU x3 x4 x5)) r C = kG x0 x1 x2 x3 x4 x5 (row i r) (col j C) := rfl
theorem bU_tile (r : Fin 512) (C : Fin 1024) :
    bU (tRows i x0) (tCols j x1) (tBig i j (cG x2 x4 x5)) r C = kU x0 x1 x2 x4 x5 (row i r) (col j C) := rfl

variable (g : grid0.Coords) (hg : (g 1).val = i.val)

include hg in
theorem bG8_tile (q : Fin 8) (C : Fin 1024) :
    bG8 (tNext i x0) (tCols j x1) (tBig8 i j (cG x2 x4 x5)) (tBig8 i j (cU x3 x4 x5)) g q C
      = nxt i (kG x0 x1 x2 x3 x4 x5) q (col j C) := by
  rw [bG8, bA8, nxt, hg]
  by_cases h : i.val = 7
  · rw [if_pos h, dif_pos h, zero_mul, zero_mul]
  · rw [if_neg h, dif_neg h, ← nrow_eq i h]; rfl
include hg in
theorem bU8_tile (q : Fin 8) (C : Fin 1024) :
    bU8 (tNext i x0) (tCols j x1) (tBig8 i j (cG x2 x4 x5)) g q C = nxt i (kU x0 x1 x2 x4 x5) q (col j C) := by
  rw [bU8, bA8, nxt, hg]
  by_cases h : i.val = 7
  · rw [if_pos h, dif_pos h, zero_mul]
  · rw [if_neg h, dif_neg h, ← nrow_eq i h]; rfl
end

/-! ## From the tiles' gradients to the arrays' -/

section
variable {D : Big} {d : Fin 512 → Fin 1024 → EReal} {n : Fin 8 → Fin 1024 → EReal} (i : Fin 8) (j : Fin 4)
variable (hd : ∀ r C, d r C = D (row i r) (col j C)) (hn : ∀ q C, n q C = nxt i D q (col j C))

include hd hn

theorem next1_tile (r : Fin 512) (C : Fin 1024) : next1 d n r C = later 1 D (row i r) (col j C) := by
  have hr : (row i r).val = 512 * i.val + r.val := rfl
  rw [next1, later]
  by_cases h : r.val + 1 < 512
  · rw [dif_pos h, dif_pos (by omega), hd]
    exact congrArg (fun s => D s (col j C)) (Fin.ext (by show 512 * i.val + (r.val + 1) = 512 * i.val + r.val + 1; omega))
  · rw [dif_neg h, hn, nxt]
    by_cases h7 : i.val = 7
    · rw [dif_pos h7, dif_neg (by omega)]
    · rw [dif_neg h7, dif_pos (by omega)]
      exact congrArg (fun s => D s (col j C)) (Fin.ext (by show 512 * (i.val + 1) + 0 = 512 * i.val + r.val + 1; omega))

theorem next2_tile (r : Fin 512) (C : Fin 1024) : next2 d n r C = later 2 D (row i r) (col j C) := by
  have hr : (row i r).val = 512 * i.val + r.val := rfl
  rw [next2, later]
  by_cases h : r.val + 2 < 512
  · rw [dif_pos h, dif_pos (by omega), hd]
    exact congrArg (fun s => D s (col j C)) (Fin.ext (by show 512 * i.val + (r.val + 2) = 512 * i.val + r.val + 2; omega))
  · rw [dif_neg h, hn, nxt]
    by_cases h7 : i.val = 7
    · rw [dif_pos h7, dif_neg (by omega)]
    · rw [dif_neg h7, dif_pos (by omega)]
      exact congrArg (fun s => D s (col j C)) (Fin.ext (by show 512 * (i.val + 1) + (r.val + 2 - 512) = 512 * i.val + r.val + 2; omega))

theorem bHid_tile {w : Vec Ideal S8x1024 .f32} {W : Fin 3 → Fin 4096 → EReal}
    (h2 : ∀ C, w (ix2 2 C) = W 2 (col j C)) (h1 : ∀ C, w (ix2 1 C) = W 1 (col j C)) (h0 : ∀ C, w (ix2 0 C) = W 0 (col j C))
    (r : Fin 512) (C : Fin 1024) : bHid d n w r C = gHid D W (row i r) (col j C) := by
  rw [bHid, gHid, hd, next1_tile i j hd hn, next2_tile i j hd hn, h2, h1, h0]

/-- A block's part of the weights' gradient, from the whole arrays. -/
theorem bWgt_tile {h : Vec Ideal S512x1024 .bf16} {H : Big} (hh : ∀ r C, h (ix2 r C) = H (row i r) (col j C)) (r : Fin 8) (C : Fin 1024) :
    bWgt d n h r C = if r.val = 0 then ∑ s : Fin 512, H (row i s) (col j C) * later 2 D (row i s) (col j C)
      else if r.val = 1 then ∑ s : Fin 512, H (row i s) (col j C) * later 1 D (row i s) (col j C)
      else if r.val = 2 then ∑ s : Fin 512, H (row i s) (col j C) * D (row i s) (col j C) else 0 := by
  rw [bWgt]
  simp only [hd, hh, next1_tile i j hd hn, next2_tile i j hd hn]
end

/-- A sum over the blocks of rows and the rows of a block is the sum over all rows. -/
theorem sum_rows (f : Fin 4096 → EReal) : ∑ i : Fin 8, ∑ r : Fin 512, f (row i r) = ∑ s : Fin 4096, f s := by
  rw [← Fintype.sum_prod_type']
  refine Equiv.sum_comp (finProdFinEquiv (m := 8) (n := 512)) f |>.symm.trans ?_ |>.symm
  refine Finset.sum_congr rfl fun p _ => congrArg f (Fin.ext ?_)
  simp only [finProdFinEquiv_apply_val, row]; omega

theorem sum_bWgt {H D : Big} (j : Fin 4) {p : Fin 8 → Fin 8 → Fin 1024 → EReal}
    (hp : ∀ i r C, p i r C = if r.val = 0 then ∑ s : Fin 512, H (row i s) (col j C) * later 2 D (row i s) (col j C)
      else if r.val = 1 then ∑ s : Fin 512, H (row i s) (col j C) * later 1 D (row i s) (col j C)
      else if r.val = 2 then ∑ s : Fin 512, H (row i s) (col j C) * D (row i s) (col j C) else 0)
    (r : Fin 8) (C : Fin 1024) : ∑ i : Fin 8, p i r C = gWgt H D r (col j C) := by
  simp only [hp, gWgt]
  split
  · exact sum_rows fun s => H s (col j C) * later 2 D s (col j C)
  split
  · exact sum_rows fun s => H s (col j C) * later 1 D s (col j C)
  split
  · exact sum_rows fun s => H s (col j C) * D s (col j C)
  · exact Finset.sum_const_zero

theorem sum_bBias {D : Big} (j : Fin 4) {p : Fin 8 → Fin 512 → Fin 1024 → EReal} (hp : ∀ i r C, p i r C = D (row i r) (col j C)) (C : Fin 1024) :
    ∑ i : Fin 8, bBias (p i) C = gBias D (col j C) := by
  simp only [bBias, hp, gBias]
  exact sum_rows fun s => D s (col j C)

end Cert.Proof.Ffn

end
-- ==== Proof.FfnHost.lean ====
/- What the kernel's host code hands it: the two convolved arrays and the convolution's weights in eight rows. -/
module

public import proofs.«01_k».proof.Proof.FfnTile
public import proofs.«01_k».proof.Proof.Gen.Kernel2Ideal.Frame.Runs
public import Idealize.ShloMosaic.Lib.Pointwise
public import Idealize.ShloMosaic.Lib.StableHlo.ReadAt
public import Idealize.ShloMosaic.Lib.Claim

@[expose] public section

set_option maxRecDepth 16384

noncomputable section

namespace Cert.Proof.Ffn

open Idealize.ShloMosaic Cert.Kernel2Ideal Cert.Kernel2Ideal.Gen Idealize.ShloMosaic.TcCoe Idealize.ShloMosaic.Tactic

variable (m : (ℓ : Loc nD τ sig) → Buf (Elt Ideal) ℓ) (c : Dev nD)

/-- The arguments of a device, as arrays of numbers. -/
abbrev a0 : Rows := m ((c : Thread nD τ).loc main_arg0)
abbrev a1 : Rows := m ((c : Thread nD τ).loc main_arg1)
abbrev a2 : Wide := m ((c : Thread nD τ).loc main_arg2)
abbrev a3 : Wide := m ((c : Thread nD τ).loc main_arg3)
abbrev a4 : Taps := m ((c : Thread nD τ).loc main_arg4)
abbrev a5 : Biases := m ((c : Thread nD τ).loc main_arg5)

/-- A row two or one above, from an array with two rows of zeros in front. -/
theorem past_pad (k e : ℕ) (he : e + k = 2) (X : Wide) (s f : Fin 4096) (P : Prop) [Decidable P] (y : P → EReal) (z : EReal) (hz : z = 0)
    (hp : P ↔ 2 ≤ e + s.val) (hy : ∀ h : P, ∀ h' : k ≤ s.val, y h = X (ix2 ⟨s.val - k, by omega⟩ f)) :
    (if h : P then y h else z) = past k (big X) s f := by
  unfold past
  by_cases h : P
  · have h' : k ≤ s.val := by have := hp.1 h; omega
    rw [dif_pos h, if_pos h']; exact hy h h'
  · rw [dif_neg h, if_neg fun h' => h (hp.2 (by omega))]; exact hz

theorem V_conv_g (s f : Fin 4096) : (V m c main_v20 : S4096x4096.Idx → EReal) (ix2 s f) = cG (a2 m c) (a4 m c) (a5 m c) s f := by
  unfold V
  after_reads_at
  unfold cG taps
  refine congrArg₂ (· + ·) (congrArg₂ (· + ·) (congrArg₂ (· + ·) (congrArg₂ (· * ·) ?_ rfl) (congrArg₂ (· * ·) ?_ rfl)) rfl) rfl
  · exact past_pad 2 0 rfl (a2 m c) s f _ _ _ int_zero (by omega) fun h h' => rfl
  · exact past_pad 1 1 rfl (a2 m c) s f _ _ _ int_zero (by omega) fun h h' => congrArg (fun t => a2 m c (ix2 t f)) (Fin.ext (by show 1 + s.val - 2 = s.val - 1; omega))

theorem V_conv_u (s f : Fin 4096) : (V m c main_v41 : S4096x4096.Idx → EReal) (ix2 s f) = cU (a3 m c) (a4 m c) (a5 m c) s f := by
  unfold V
  after_reads_at
  unfold cU taps
  refine congrArg₂ (· + ·) (congrArg₂ (· + ·) (congrArg₂ (· + ·) (congrArg₂ (· * ·) ?_ rfl) (congrArg₂ (· * ·) ?_ rfl)) rfl) rfl
  · exact past_pad 2 0 rfl (a3 m c) s f _ _ _ int_zero (by omega) fun h h' => rfl
  · exact past_pad 1 1 rfl (a3 m c) s f _ _ _ int_zero (by omega) fun h h' => congrArg (fun t => a3 m c (ix2 t f)) (Fin.ext (by show 1 + s.val - 2 = s.val - 1; omega))

theorem V_cw : (V m c main_v42 : S8x8192.Idx → EReal) = pad (a4 m c) := by
  funext y
  obtain ⟨s, f, rfl⟩ : ∃ s f, y = (ix2 s f : S8x8192.Idx) := ⟨_, _, eq_ix2 (n0 := 8) (n1 := 8192) y⟩
  unfold V
  after_reads_at
  unfold pad
  rw [int_zero]
  rfl

end Cert.Proof.Ffn

end
-- ==== Proof.FfnRead.lean ====
/- What each point reads: its blocks are tiles of the arguments and of the two convolved arrays. -/
module

public import proofs.«01_k».proof.Proof.FfnHost
public import proofs.«01_k».proof.Proof.Gen.Kernel2Ideal.Frame.Runs
public import Idealize.ShloMosaic.Lib.Pipeline.ValueKit

@[expose] public section

set_option maxRecDepth 16384

noncomputable section

namespace Cert.Proof.Ffn

open Idealize.ShloMosaic Idealize.ShloMosaic.TcCoe Cert.Kernel2Ideal Cert.Kernel2Ideal.Gen
open Idealize.SL Idealize.SL.Sem

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![min (64 * (t.val % 8 + 1)) 511, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![t.val % 8, t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8] := (by decide +kernel : ∀ t : Fin grid0.N, _)
theorem idx6 : ∀ t : Fin cfg0.N, win0_6.index t = ![min (64 * (t.val % 8 + 1)) 511, t.val / 8] := (by decide +kernel : ∀ t : Fin grid0.N, _)
theorem idx7 : ∀ t : Fin cfg0.N, win0_7.index t = ![t.val % 8, t.val / 8] := (by decide +kernel : ∀ t : Fin grid0.N, _)
theorem idx8 : ∀ t : Fin cfg0.N, win0_8.index t = ![min (64 * (t.val % 8 + 1)) 511, t.val / 8] := (by decide +kernel : ∀ t : Fin grid0.N, _)
theorem idx9 : ∀ t : Fin cfg0.N, win0_9.index t = ![0, t.val / 8] := (by decide +kernel : ∀ t : Fin grid0.N, _)
theorem idx10 : ∀ t : Fin cfg0.N, win0_10.index t = ![0, 4 + t.val / 8] := (by decide +kernel : ∀ t : Fin grid0.N, _)
theorem idx11 : ∀ t : Fin cfg0.N, win0_11.index t = ![t.val % 8, t.val / 8] := (by decide +kernel : ∀ t : Fin grid0.N, _)
theorem idx12 : ∀ t : Fin cfg0.N, win0_12.index t = ![t.val % 8, t.val / 8] := (by decide +kernel : ∀ t : Fin grid0.N, _)
theorem idx13 : ∀ t : Fin cfg0.N, win0_13.index t = ![0, t.val / 8] := (by decide +kernel : ∀ t : Fin grid0.N, _)
theorem idx14 : ∀ t : Fin cfg0.N, win0_14.index t = ![0, t.val / 8] := (by decide +kernel : ∀ t : Fin grid0.N, _)
theorem idx15 : ∀ t : Fin cfg0.N, win0_15.index t = ![0, t.val / 8] := (by decide +kernel : ∀ t : Fin grid0.N, _)
theorem idx16 : ∀ t : Fin cfg0.N, win0_16.index t = ![0, t.val / 8] := (by decide +kernel : ∀ t : Fin grid0.N, _)

/-- A point's block of rows and block of columns. -/
def pI (t : Fin cfg0.N) : Fin 8 := ⟨t.val % 8, Nat.mod_lt _ (by decide)⟩
def pJ (t : Fin cfg0.N) : Fin 4 := ⟨t.val / 8, by have : t.val < 32 := Nat.lt_of_lt_of_eq t.isLt N_0; omega⟩

theorem coord : ∀ t : Fin cfg0.N, (grid0.coords t 1).val = (pI t).val :=
  (by decide +kernel : ∀ t : Fin grid0.N, (grid0.coords t 1).val = t.val % 8)

theorem iblk0 (t : Fin cfg0.N) : iblk m c 0 t = tRows (pI t) (a0 m c) := by
  funext y
  blk_simp [iblk]
  rw [V_main_arg0]
  refine congrArg (a0 m c) ?_
  blk_ext [idx0, pI, row]

theorem iblk1 (t : Fin cfg0.N) : iblk m c 1 t = tNext (pI t) (a0 m c) := by
  funext y
  blk_simp [iblk]
  rw [V_main_arg0]
  refine congrArg (a0 m c) ?_
  blk_ext [idx1, pI, nrow]

theorem iblk2 (t : Fin cfg0.N) : iblk m c 2 t = tCols (pJ t) (a1 m c) := by
  funext y
  blk_simp [iblk]
  rw [V_main_arg1]
  refine congrArg (a1 m c) ?_
  blk_ext [idx2, pJ, col]

theorem iblk3 (t : Fin cfg0.N) : iblk m c 3 t = tBig (pI t) (pJ t) (big (a2 m c)) := by
  funext y
  blk_simp [iblk]
  rw [V_main_arg2]
  refine congrArg (a2 m c) ?_
  blk_ext [idx3, pI, pJ, row, col]

theorem iblk4 (t : Fin cfg0.N) : iblk m c 4 t = tBig (pI t) (pJ t) (big (a3 m c)) := by
  funext y
  blk_simp [iblk]
  rw [V_main_arg3]
  refine congrArg (a3 m c) ?_
  blk_ext [idx4, pI, pJ, row, col]

theorem iblk5 (t : Fin cfg0.N) : iblk m c 5 t = tBig (pI t) (pJ t) (cG (a2 m c) (a4 m c) (a5 m c)) := by
  funext y
  refine Eq.trans ?_ (V_conv_g m c (row (pI t) (y 0)) (col (pJ t) (y 1)))
  blk_simp [iblk]
  refine congrArg (V m c main_v20 : S4096x4096.Idx → EReal) ?_
  blk_ext [idx5, pI, pJ, row, col]

theorem iblk6 (t : Fin cfg0.N) : iblk m c 6 t = tBig8 (pI t) (pJ t) (cG (a2 m c) (a4 m c) (a5 m c)) := by
  funext y
  refine Eq.trans ?_ (V_conv_g m c (nrow (pI t) (y 0)) (col (pJ t) (y 1)))
  blk_simp [iblk]
  refine congrArg (V m c main_v20 : S4096x4096.Idx → EReal) ?_
  blk_ext [idx6, pI, pJ, nrow, col]

theorem iblk7 (t : Fin cfg0.N) : iblk m c 7 t = tBig (pI t) (pJ t) (cU (a3 m c) (a4 m c) (a5 m c)) := by
  funext y
  refine Eq.trans ?_ (V_conv_u m c (row (pI t) (y 0)) (col (pJ t) (y 1)))
  blk_simp [iblk]
  refine congrArg (V m c main_v41 : S4096x4096.Idx → EReal) ?_
  blk_ext [idx7, pI, pJ, row, col]

theorem iblk8 (t : Fin cfg0.N) : iblk m c 8 t = tBig8 (pI t) (pJ t) (cU (a3 m c) (a4 m c) (a5 m c)) := by
  funext y
  refine Eq.trans ?_ (V_conv_u m c (nrow (pI t) (y 0)) (col (pJ t) (y 1)))
  blk_simp [iblk]
  refine congrArg (V m c main_v41 : S4096x4096.Idx → EReal) ?_
  blk_ext [idx8, pI, pJ, nrow, col]

theorem iblk9 (t : Fin cfg0.N) : iblk m c 9 t = tWgtG (pJ t) (a4 m c) := by
  funext y
  refine Eq.trans ?_ (congrFun (V_cw m c) (ix2 (y 0) ⟨(col (pJ t) (y 1)).val, by omega⟩))
  blk_simp [iblk]
  refine congrArg (V m c main_v42 : S8x8192.Idx → EReal) ?_
  blk_ext [idx9, pJ, col]

theorem iblk10 (t : Fin cfg0.N) : iblk m c 10 t = tWgtU (pJ t) (a4 m c) := by
  funext y
  refine Eq.trans ?_ (congrFun (V_cw m c) (ix2 (y 0) ⟨4096 + (col (pJ t) (y 1)).val, by omega⟩))
  blk_simp [iblk]
  refine congrArg (V m c main_v42 : S8x8192.Idx → EReal) ?_
  blk_ext [idx10, pJ, col]

end Cert.Proof.Ffn

end
-- ==== Proof.FfnArray.lean ====
/- The six result arrays after the last point: each point's block of the hidden rows' gradients is a tile of one array function
   of the arguments, and a column block's running sums over the eight blocks of rows are the sums over all 4096 rows. -/
module

public import proofs.«01_k».proof.Proof.FfnBlock
public import proofs.«01_k».proof.Proof.FfnRead
public import proofs.«01_k».proof.Proof.Gen.Kernel2Ideal.Value
public import Idealize.ShloMosaic.Lib.Pipeline.ValueKit

@[expose] public section

set_option maxRecDepth 16384

noncomputable section

namespace Cert.Proof.Ffn

open Idealize.ShloMosaic Idealize.ShloMosaic.TcCoe Cert.Kernel2Ideal Cert.Kernel2Ideal.Gen Cert.Kernel2Ideal.Value
open Idealize.SL Idealize.SL.Sem

/-! ## The blocks of the tiles -/

section
variable (H D : Big) (i : Fin 8) (j : Fin 4)

/-- A block of rows' part of the weights' gradient, and of the biases'. -/
def pW : S8x1024.Idx → EReal := fun y =>
  if (y 0).val = 0 then ∑ s : Fin 512, H (row i s) (col j (y 1)) * later 2 D (row i s) (col j (y 1))
  else if (y 0).val = 1 then ∑ s : Fin 512, H (row i s) (col j (y 1)) * later 1 D (row i s) (col j (y 1))
  else if (y 0).val = 2 then ∑ s : Fin 512, H (row i s) (col j (y 1)) * D (row i s) (col j (y 1)) else 0
def pB : S1x1024.Idx → EReal := fun y => ∑ s : Fin 512, D (row i s) (col j (y 1))

theorem sum_pW (y : S8x1024.Idx) : ∑ i : Fin 8, pW H D i j y = gWgt H D (y 0) (col j (y 1)) :=
  sum_bWgt j (p := fun i r C => pW H D i j (ix2 r C)) (fun _ _ _ => rfl) (y 0) (y 1)
theorem sum_pB (y : S1x1024.Idx) : ∑ i : Fin 8, pB D i j y = gBias D (col j (y 1)) :=
  sum_rows fun s => D s (col j (y 1))
end

section
variable (x0 x1 : Rows) (x2 x3 : Wide) (x4 : Taps) (x5 : Biases) (i : Fin 8) (j : Fin 4) (g : grid0.Coords) (hg : (g 1).val = i.val)

include hg in
theorem hidG_tile : hidG (tRows i x0) (tNext i x0) (tCols j x1) (tBig i j (cG x2 x4 x5)) (tBig8 i j (cG x2 x4 x5)) (tBig i j (cU x3 x4 x5)) (tBig8 i j (cU x3 x4 x5)) (tWgtG j x4) g = tBig i j (gHid (kG x0 x1 x2 x3 x4 x5) (wG x4)) := by
  funext y
  exact bHid_tile i j (bG_tile x0 x1 x2 x3 x4 x5 i j) (bG8_tile x0 x1 x2 x3 x4 x5 i j g hg) (fun _ => rfl) (fun _ => rfl) (fun _ => rfl) (y 0) (y 1)
include hg in
theorem hidU_tile : hidU (tRows i x0) (tNext i x0) (tCols j x1) (tBig i j (cG x2 x4 x5)) (tBig8 i j (cG x2 x4 x5)) (tWgtU j x4) g = tBig i j (gHid (kU x0 x1 x2 x4 x5) (wU x4)) := by
  funext y
  exact bHid_tile i j (bU_tile x0 x1 x2 x4 x5 i j) (bU8_tile x0 x1 x2 x4 x5 i j g hg) (fun _ => rfl) (fun _ => rfl) (fun _ => rfl) (y 0) (y 1)
include hg in
theorem wgtG_tile (o : Vec Ideal S8x1024 .f32) : wgtG (tRows i x0) (tNext i x0) (tCols j x1) (tBig i j (big x2)) (tBig i j (cG x2 x4 x5)) (tBig8 i j (cG x2 x4 x5)) (tBig i j (cU x3 x4 x5)) (tBig8 i j (cU x3 x4 x5)) g o = o + pW (big x2) (kG x0 x1 x2 x3 x4 x5) i j := by
  funext y
  exact congrArg (o y + ·) (bWgt_tile i j (bG_tile x0 x1 x2 x3 x4 x5 i j) (bG8_tile x0 x1 x2 x3 x4 x5 i j g hg) (fun _ _ => rfl) (y 0) (y 1))
include hg in
theorem wgtU_tile (o : Vec Ideal S8x1024 .f32) : wgtU (tRows i x0) (tNext i x0) (tCols j x1) (tBig i j (big x3)) (tBig i j (cG x2 x4 x5)) (tBig8 i j (cG x2 x4 x5)) g o = o + pW (big x3) (kU x0 x1 x2 x4 x5) i j := by
  funext y
  exact congrArg (o y + ·) (bWgt_tile i j (bU_tile x0 x1 x2 x4 x5 i j) (bU8_tile x0 x1 x2 x4 x5 i j g hg) (fun _ _ => rfl) (y 0) (y 1))
theorem biaG_tile (o : Vec Ideal S1x1024 .f32) : biaG (tRows i x0) (tCols j x1) (tBig i j (cG x2 x4 x5)) (tBig i j (cU x3 x4 x5)) o = o + pB (kG x0 x1 x2 x3 x4 x5) i j := rfl
theorem biaU_tile (o : Vec Ideal S1x1024 .f32) : biaU (tRows i x0) (tCols j x1) (tBig i j (cG x2 x4 x5)) o = o + pB (kU x0 x1 x2 x4 x5) i j := rfl
end

variable (m : (ℓ : Loc nD τ sig) → Buf (Elt Ideal) ℓ) (c : Dev nD)

/-! ## What the points leave -/

theorem outs_11 (t : Fin cfg0.N) : (outsAt0 m c t.val t.isLt).1 = tBig (pI t) (pJ t) (gHid (kG (a0 m c) (a1 m c) (a2 m c) (a3 m c) (a4 m c) (a5 m c)) (wG (a4 m c))) := by
  by_cases h0 : t.val % 8 = 0
  · refine (congrArg Prod.fst (outsAt0_A m c t h0)).trans ?_
    dsimp only
    refine (block_A11 (iblk m c 0 t) (iblk m c 1 t) (iblk m c 2 t) (iblk m c 3 t) (iblk m c 4 t) (iblk m c 5 t) (iblk m c 6 t) (iblk m c 7 t) (iblk m c 8 t) (iblk m c 9 t) (iblk m c 10 t) c t ((hcond0_0 t).mpr h0)).trans ?_
    rw [iblk0, iblk1, iblk2, iblk5, iblk6, iblk7, iblk8, iblk9]
    exact hidG_tile (a0 m c) (a1 m c) (a2 m c) (a3 m c) (a4 m c) (a5 m c) (pI t) (pJ t) (grid0.coords t) (coord t)
  · refine (congrArg Prod.fst (outsAt0_B m c t h0)).trans ?_
    dsimp only
    refine (block_B11 (iblk m c 0 t) (iblk m c 1 t) (iblk m c 2 t) (iblk m c 3 t) (iblk m c 4 t) (iblk m c 5 t) (iblk m c 6 t) (iblk m c 7 t) (iblk m c 8 t) (iblk m c 9 t) (iblk m c 10 t) c t _ _ _ _ (fun h => h0 ((hcond0_0 t).mp h))).trans ?_
    rw [iblk0, iblk1, iblk2, iblk5, iblk6, iblk7, iblk8, iblk9]
    exact hidG_tile (a0 m c) (a1 m c) (a2 m c) (a3 m c) (a4 m c) (a5 m c) (pI t) (pJ t) (grid0.coords t) (coord t)

theorem outs_12 (t : Fin cfg0.N) : (outsAt0 m c t.val t.isLt).2.1 = tBig (pI t) (pJ t) (gHid (kU (a0 m c) (a1 m c) (a2 m c) (a4 m c) (a5 m c)) (wU (a4 m c))) := by
  by_cases h0 : t.val % 8 = 0
  · refine (congrArg (fun o => o.2.1) (outsAt0_A m c t h0)).trans ?_
    dsimp only
    refine (block_A12 (iblk m c 0 t) (iblk m c 1 t) (iblk m c 2 t) (iblk m c 3 t) (iblk m c 4 t) (iblk m c 5 t) (iblk m c 6 t) (iblk m c 7 t) (iblk m c 8 t) (iblk m c 9 t) (iblk m c 10 t) c t ((hcond0_0 t).mpr h0)).trans ?_
    rw [iblk0, iblk1, iblk2, iblk5, iblk6, iblk10]
    exact hidU_tile (a0 m c) (a1 m c) (a2 m c) (a4 m c) (a5 m c) (pI t) (pJ t) (grid0.coords t) (coord t)
  · refine (congrArg (fun o => o.2.1) (outsAt0_B m c t h0)).trans ?_
    dsimp only
    refine (block_B12 (iblk m c 0 t) (iblk m c 1 t) (iblk m c 2 t) (iblk m c 3 t) (iblk m c 4 t) (iblk m c 5 t) (iblk m c 6 t) (iblk m c 7 t) (iblk m c 8 t) (iblk m c 9 t) (iblk m c 10 t) c t _ _ _ _ (fun h => h0 ((hcond0_0 t).mp h))).trans ?_
    rw [iblk0, iblk1, iblk2, iblk5, iblk6, iblk10]
    exact hidU_tile (a0 m c) (a1 m c) (a2 m c) (a4 m c) (a5 m c) (pI t) (pJ t) (grid0.coords t) (coord t)

/-- Running sums over the eight blocks of rows: the last block's are the sums over all of them. -/
theorem run_sum {s : Shape} (f : (n : ℕ) → n < cfg0.N → s.Idx → EReal) (p : Fin 8 → Fin 4 → s.Idx → EReal)
    (hA : ∀ t : Fin cfg0.N, t.val % 8 = 0 → f t.val t.isLt = 0 + p (pI t) (pJ t))
    (hB : ∀ t : Fin cfg0.N, ¬ t.val % 8 = 0 → f t.val t.isLt = f (t.val - 1) (Nat.lt_of_le_of_lt (Nat.sub_le _ _) t.isLt) + p (pI t) (pJ t))
    (t : Fin cfg0.N) (ht : t.val % 8 = 7) (y : s.Idx) : f t.val t.isLt y = ∑ i : Fin 8, p i (pJ t) y := by
  have key := Pipeline.eq_sum_fin_of_reset_step_of_flush f 8 (0 : s.Idx → EReal) (fun t => p (pI t) (pJ t)) hA hB t ht
  rw [key, zero_add, Finset.sum_apply]
  refine Finset.sum_congr rfl fun k _ => ?_
  have h1 : pI ⟨8 * (t.val / 8) + k.val, Pipeline.run_point_lt_of_flush t ht k⟩ = k :=
    Fin.ext (by show (8 * (t.val / 8) + k.val) % 8 = k.val; omega)
  have h2 : pJ ⟨8 * (t.val / 8) + k.val, Pipeline.run_point_lt_of_flush t ht k⟩ = pJ t :=
    Fin.ext (by show (8 * (t.val / 8) + k.val) / 8 = t.val / 8; omega)
  rw [h1, h2]

theorem outs_13 (t : Fin cfg0.N) (ht : t.val % 8 = 7) (y : S8x1024.Idx) :
    (outsAt0 m c t.val t.isLt).2.2.1 y = gWgt (big (a2 m c)) (kG (a0 m c) (a1 m c) (a2 m c) (a3 m c) (a4 m c) (a5 m c)) (y 0) (col (pJ t) (y 1)) := by
  refine (run_sum (fun n hn => (outsAt0 m c n hn).2.2.1) (fun i j => pW (big (a2 m c)) (kG (a0 m c) (a1 m c) (a2 m c) (a3 m c) (a4 m c) (a5 m c)) i j) (fun t h0 => ?_) (fun t h0 => ?_) t ht y).trans
    (sum_pW (big (a2 m c)) (kG (a0 m c) (a1 m c) (a2 m c) (a3 m c) (a4 m c) (a5 m c)) (pJ t) y)
  · refine (congrArg (fun o => o.2.2.1) (outsAt0_A m c t h0)).trans ?_
    dsimp only
    refine (block_A13 (iblk m c 0 t) (iblk m c 1 t) (iblk m c 2 t) (iblk m c 3 t) (iblk m c 4 t) (iblk m c 5 t) (iblk m c 6 t) (iblk m c 7 t) (iblk m c 8 t) (iblk m c 9 t) (iblk m c 10 t) c t ((hcond0_0 t).mpr h0)).trans ?_
    rw [iblk0, iblk1, iblk2, iblk3, iblk5, iblk6, iblk7, iblk8]
    refine (wgtG_tile (a0 m c) (a1 m c) (a2 m c) (a3 m c) (a4 m c) (a5 m c) (pI t) (pJ t) (grid0.coords t) (coord t) _).trans ?_
    exact congrArg (· + _) (funext fun _ => Ideal.ofBits_zero_f32)
  · refine (congrArg (fun o => o.2.2.1) (outsAt0_B m c t h0)).trans ?_
    dsimp only
    refine (block_B13 (iblk m c 0 t) (iblk m c 1 t) (iblk m c 2 t) (iblk m c 3 t) (iblk m c 4 t) (iblk m c 5 t) (iblk m c 6 t) (iblk m c 7 t) (iblk m c 8 t) (iblk m c 9 t) (iblk m c 10 t) c t _ _ _ _ (fun h => h0 ((hcond0_0 t).mp h))).trans ?_
    rw [iblk0, iblk1, iblk2, iblk3, iblk5, iblk6, iblk7, iblk8]
    exact wgtG_tile (a0 m c) (a1 m c) (a2 m c) (a3 m c) (a4 m c) (a5 m c) (pI t) (pJ t) (grid0.coords t) (coord t) _

theorem outs_14 (t : Fin cfg0.N) (ht : t.val % 8 = 7) (y : S8x1024.Idx) :
    (outsAt0 m c t.val t.isLt).2.2.2.1 y = gWgt (big (a3 m c)) (kU (a0 m c) (a1 m c) (a2 m c) (a4 m c) (a5 m c)) (y 0) (col (pJ t) (y 1)) := by
  refine (run_sum (fun n hn => (outsAt0 m c n hn).2.2.2.1) (fun i j => pW (big (a3 m c)) (kU (a0 m c) (a1 m c) (a2 m c) (a4 m c) (a5 m c)) i j) (fun t h0 => ?_) (fun t h0 => ?_) t ht y).trans
    (sum_pW (big (a3 m c)) (kU (a0 m c) (a1 m c) (a2 m c) (a4 m c) (a5 m c)) (pJ t) y)
  · refine (congrArg (fun o => o.2.2.2.1) (outsAt0_A m c t h0)).trans ?_
    dsimp only
    refine (block_A14 (iblk m c 0 t) (iblk m c 1 t) (iblk m c 2 t) (iblk m c 3 t) (iblk m c 4 t) (iblk m c 5 t) (iblk m c 6 t) (iblk m c 7 t) (iblk m c 8 t) (iblk m c 9 t) (iblk m c 10 t) c t ((hcond0_0 t).mpr h0)).trans ?_
    rw [iblk0, iblk1, iblk2, iblk4, iblk5, iblk6]
    refine (wgtU_tile (a0 m c) (a1 m c) (a2 m c) (a3 m c) (a4 m c) (a5 m c) (pI t) (pJ t) (grid0.coords t) (coord t) _).trans ?_
    exact congrArg (· + _) (funext fun _ => Ideal.ofBits_zero_f32)
  · refine (congrArg (fun o => o.2.2.2.1) (outsAt0_B m c t h0)).trans ?_
    dsimp only
    refine (block_B14 (iblk m c 0 t) (iblk m c 1 t) (iblk m c 2 t) (iblk m c 3 t) (iblk m c 4 t) (iblk m c 5 t) (iblk m c 6 t) (iblk m c 7 t) (iblk m c 8 t) (iblk m c 9 t) (iblk m c 10 t) c t _ _ _ _ (fun h => h0 ((hcond0_0 t).mp h))).trans ?_
    rw [iblk0, iblk1, iblk2, iblk4, iblk5, iblk6]
    exact wgtU_tile (a0 m c) (a1 m c) (a2 m c) (a3 m c) (a4 m c) (a5 m c) (pI t) (pJ t) (grid0.coords t) (coord t) _

theorem outs_15 (t : Fin cfg0.N) (ht : t.val % 8 = 7) (y : S1x1024.Idx) :
    (outsAt0 m c t.val t.isLt).2.2.2.2.1 y = gBias (kG (a0 m c) (a1 m c) (a2 m c) (a3 m c) (a4 m c) (a5 m c)) (col (pJ t) (y 1)) := by
  refine (run_sum (fun n hn => (outsAt0 m c n hn).2.2.2.2.1) (fun i j => pB (kG (a0 m c) (a1 m c) (a2 m c) (a3 m c) (a4 m c) (a5 m c)) i j) (fun t h0 => ?_) (fun t h0 => ?_) t ht y).trans
    (sum_pB (kG (a0 m c) (a1 m c) (a2 m c) (a3 m c) (a4 m c) (a5 m c)) (pJ t) y)
  · refine (congrArg (fun o => o.2.2.2.2.1) (outsAt0_A m c t h0)).trans ?_
    dsimp only
    refine (block_A15 (iblk m c 0 t) (iblk m c 1 t) (iblk m c 2 t) (iblk m c 3 t) (iblk m c 4 t) (iblk m c 5 t) (iblk m c 6 t) (iblk m c 7 t) (iblk m c 8 t) (iblk m c 9 t) (iblk m c 10 t) c t ((hcond0_0 t).mpr h0)).trans ?_
    rw [iblk0, iblk2, iblk5, iblk7]
    refine (biaG_tile (a0 m c) (a1 m c) (a2 m c) (a3 m c) (a4 m c) (a5 m c) (pI t) (pJ t) _).trans ?_
    exact congrArg (· + _) (funext fun _ => Ideal.ofBits_zero_f32)
  · refine (congrArg (fun o => o.2.2.2.2.1) (outsAt0_B m c t h0)).trans ?_
    dsimp only
    refine (block_B15 (iblk m c 0 t) (iblk m c 1 t) (iblk m c 2 t) (iblk m c 3 t) (iblk m c 4 t) (iblk m c 5 t) (iblk m c 6 t) (iblk m c 7 t) (iblk m c 8 t) (iblk m c 9 t) (iblk m c 10 t) c t _ _ _ _ (fun h => h0 ((hcond0_0 t).mp h))).trans ?_
    rw [iblk0, iblk2, iblk5, iblk7]
    exact biaG_tile (a0 m c) (a1 m c) (a2 m c) (a3 m c) (a4 m c) (a5 m c) (pI t) (pJ t) _

theorem outs_16 (t : Fin cfg0.N) (ht : t.val % 8 = 7) (y : S1x1024.Idx) :
    (outsAt0 m c t.val t.isLt).2.2.2.2.2 y = gBias (kU (a0 m c) (a1 m c) (a2 m c) (a4 m c) (a5 m c)) (col (pJ t) (y 1)) := by
  refine (run_sum (fun n hn => (outsAt0 m c n hn).2.2.2.2.2) (fun i j => pB (kU (a0 m c) (a1 m c) (a2 m c) (a4 m c) (a5 m c)) i j) (fun t h0 => ?_) (fun t h0 => ?_) t ht y).trans
    (sum_pB (kU (a0 m c) (a1 m c) (a2 m c) (a4 m c) (a5 m c)) (pJ t) y)
  · refine (congrArg (fun o => o.2.2.2.2.2) (outsAt0_A m c t h0)).trans ?_
    dsimp only
    refine (block_A16 (iblk m c 0 t) (iblk m c 1 t) (iblk m c 2 t) (iblk m c 3 t) (iblk m c 4 t) (iblk m c 5 t) (iblk m c 6 t) (iblk m c 7 t) (iblk m c 8 t) (iblk m c 9 t) (iblk m c 10 t) c t ((hcond0_0 t).mpr h0)).trans ?_
    rw [iblk0, iblk2, iblk5]
    refine (biaU_tile (a0 m c) (a1 m c) (a2 m c) (a4 m c) (a5 m c) (pI t) (pJ t) _).trans ?_
    exact congrArg (· + _) (funext fun _ => Ideal.ofBits_zero_f32)
  · refine (congrArg (fun o => o.2.2.2.2.2) (outsAt0_B m c t h0)).trans ?_
    dsimp only
    refine (block_B16 (iblk m c 0 t) (iblk m c 1 t) (iblk m c 2 t) (iblk m c 3 t) (iblk m c 4 t) (iblk m c 5 t) (iblk m c 6 t) (iblk m c 7 t) (iblk m c 8 t) (iblk m c 9 t) (iblk m c 10 t) c t _ _ _ _ (fun h => h0 ((hcond0_0 t).mp h))).trans ?_
    rw [iblk0, iblk2, iblk5]
    exact biaU_tile (a0 m c) (a1 m c) (a2 m c) (a4 m c) (a5 m c) (pI t) (pJ t) _

/-! ## The arrays after the last point -/

theorem final11 : (dats m 0 c).arrAt 11 cfg0.N = fun z : S4096x4096.Idx => gHid (kG (a0 m c) (a1 m c) (a2 m c) (a3 m c) (a4 m c) (a5 m c)) (wG (a4 m c)) (z 0) (z 1) := by
  refine (dats m 0 c).arrAt_eq_of_covers 11 _ (by decide +kernel) fun t hf y => ?_
  blk_simp
  rw [after0_11, outs_11]
  refine congrArg (fun z : S4096x4096.Idx => gHid (kG (a0 m c) (a1 m c) (a2 m c) (a3 m c) (a4 m c) (a5 m c)) (wG (a4 m c)) (z 0) (z 1)) (?_ : (ix2 (row (pI t) (y 0)) (col (pJ t) (y 1))) = _)
  blk_ext [idx11, pI, pJ, row, col]

theorem final12 : (dats m 0 c).arrAt 12 cfg0.N = fun z : S4096x4096.Idx => gHid (kU (a0 m c) (a1 m c) (a2 m c) (a4 m c) (a5 m c)) (wU (a4 m c)) (z 0) (z 1) := by
  refine (dats m 0 c).arrAt_eq_of_covers 12 _ (by decide +kernel) fun t hf y => ?_
  blk_simp
  rw [after0_12, outs_12]
  refine congrArg (fun z : S4096x4096.Idx => gHid (kU (a0 m c) (a1 m c) (a2 m c) (a4 m c) (a5 m c)) (wU (a4 m c)) (z 0) (z 1)) (?_ : (ix2 (row (pI t) (y 0)) (col (pJ t) (y 1))) = _)
  blk_ext [idx12, pI, pJ, row, col]

theorem final13 : (dats m 0 c).arrAt 13 cfg0.N = fun z : S8x4096.Idx => gWgt (big (a2 m c)) (kG (a0 m c) (a1 m c) (a2 m c) (a3 m c) (a4 m c) (a5 m c)) (z 0) (z 1) := by
  refine (dats m 0 c).arrAt_eq_of_covers 13 _ (by decide +kernel) fun t hf y => ?_
  blk_simp
  rw [after0_13, outs_13 m c t ((flush0_13 t).mp hf)]
  refine congrArg (fun z : S8x4096.Idx => gWgt (big (a2 m c)) (kG (a0 m c) (a1 m c) (a2 m c) (a3 m c) (a4 m c) (a5 m c)) (z 0) (z 1)) (?_ : (ix2 (y 0) (col (pJ t) (y 1))) = _)
  blk_ext [idx13, pI, pJ, row, col]

theorem final14 : (dats m 0 c).arrAt 14 cfg0.N = fun z : S8x4096.Idx => gWgt (big (a3 m c)) (kU (a0 m c) (a1 m c) (a2 m c) (a4 m c) (a5 m c)) (z 0) (z 1) := by
  refine (dats m 0 c).arrAt_eq_of_covers 14 _ (by decide +kernel) fun t hf y => ?_
  blk_simp
  rw [after0_14, outs_14 m c t ((flush0_14 t).mp hf)]
  refine congrArg (fun z : S8x4096.Idx => gWgt (big (a3 m c)) (kU (a0 m c) (a1 m c) (a2 m c) (a4 m c) (a5 m c)) (z 0) (z 1)) (?_ : (ix2 (y 0) (col (pJ t) (y 1))) = _)
  blk_ext [idx14, pI, pJ, row, col]

theorem final15 : (dats m 0 c).arrAt 15 cfg0.N = fun z : S1x4096.Idx => gBias (kG (a0 m c) (a1 m c) (a2 m c) (a3 m c) (a4 m c) (a5 m c)) (z 1) := by
  refine (dats m 0 c).arrAt_eq_of_covers 15 _ (by decide +kernel) fun t hf y => ?_
  blk_simp
  rw [after0_15, outs_15 m c t ((flush0_15 t).mp hf)]
  refine congrArg (gBias (kG (a0 m c) (a1 m c) (a2 m c) (a3 m c) (a4 m c) (a5 m c))) ?_
  refine congrArg (fun z : S1x4096.Idx => z 1) (?_ : (ix2 (y 0) (col (pJ t) (y 1))) = _)
  blk_ext [idx15, pI, pJ, row, col]

theorem final16 : (dats m 0 c).arrAt 16 cfg0.N = fun z : S1x4096.Idx => gBias (kU (a0 m c) (a1 m c) (a2 m c) (a4 m c) (a5 m c)) (z 1) := by
  refine (dats m 0 c).arrAt_eq_of_covers 16 _ (by decide +kernel) fun t hf y => ?_
  blk_simp
  rw [after0_16, outs_16 m c t ((flush0_16 t).mp hf)]
  refine congrArg (gBias (kU (a0 m c) (a1 m c) (a2 m c) (a4 m c) (a5 m c))) ?_
  refine congrArg (fun z : S1x4096.Idx => z 1) (?_ : (ix2 (y 0) (col (pJ t) (y 1))) = _)
  blk_ext [idx16, pI, pJ, row, col]

end Cert.Proof.Ffn

end
-- ==== Proof.FfnRef.lean ====
/- What the reference computes, as numbers of its arguments' arrays. -/
module

public import proofs.«01_k».proof.Proof.FfnGelu
public import proofs.«01_k».proof.Proof.Gen.Reference2Ideal.Read
public import Idealize.ShloMosaic.Lib.Pointwise
public import Idealize.ShloMosaic.Lib.KernelVsHost

@[expose] public section

set_option maxRecDepth 16384

noncomputable section

namespace Cert.Proof.Ffn

open Idealize.ShloMosaic Cert.Reference2Ideal Cert.Reference2Ideal.Gen Cert.Reference2Ideal.Read

variable (x0 x1 : S4096x1024.Idx → EReal) (x2 x3 : S4096x4096.Idx → EReal) (x4 : S3x8192.Idx → EReal) (x5 : S1x8192.Idx → EReal)

/-! ## The stages -/

/-- Two ways to pad with nothing before. -/
theorem past_eq (k : ℕ) (X : Big) (s f : Fin 4096) (P : Prop) [Decidable P] (y : ¬ P → EReal) (hp : P ↔ s.val < k)
    (hy : ∀ h : ¬ P, ∀ h' : k ≤ s.val, y h = X ⟨s.val - k, by omega⟩ f) :
    (if h : P then 0 else y h) = past k X s f := by
  unfold past
  by_cases h : P
  · rw [dif_pos h, if_neg (by have := hp.1 h; omega)]
  · have h' : k ≤ s.val := by by_contra hn; exact h (hp.2 (by omega))
    rw [dif_neg h, if_pos h']; exact hy h h'

theorem later_eq (k : ℕ) (X : Big) (s f : Fin 4096) (w : EReal) (P : Prop) [Decidable P] (y : P → EReal) (hp : P ↔ s.val + k < 4096)
    (hy : ∀ h : P, ∀ h' : s.val + k < 4096, y h = X ⟨s.val + k, h'⟩ f * w) :
    (if h : P then y h else 0) = w * later k X s f := by
  unfold later
  by_cases h : P
  · rw [dif_pos h, dif_pos (hp.1 h), mul_comm]; exact hy h _
  · rw [dif_neg h, dif_neg fun e => h (hp.2 e), mul_zero]

theorem rpast1 (s f : Fin 4096) :
    val_main_v17 (F := Ideal) x2 (ix2 s f) = past 1 (big x2) s f := by
  pointwise [val_main_v17, val_main_v7, val_main_v0, val_main_v6, val_main_cst]
  exact past_eq 1 (big x2) s f _ _ (by omega) fun h h' => congrArg (fun t => x2 (ix2 t f)) (Fin.ext (by show _ = s.val - 1; dsimp only; omega))

theorem rpast2 (s f : Fin 4096) :
    val_main_v9 (F := Ideal) x2 (ix2 s f) = past 2 (big x2) s f := by
  pointwise [val_main_v9, val_main_v7, val_main_v0, val_main_v6, val_main_cst]
  exact past_eq 2 (big x2) s f _ _ (by omega) fun h h' => congrArg (fun t => x2 (ix2 t f)) (Fin.ext (by show _ = s.val - 2; first | rfl | omega))

theorem rpastU1 (s f : Fin 4096) :
    val_main_v48 (F := Ideal) x3 (ix2 s f) = past 1 (big x3) s f := by
  pointwise [val_main_v48, val_main_v38, val_main_v1, val_main_v37, val_main_cst_2]
  exact past_eq 1 (big x3) s f _ _ (by omega) fun h h' => congrArg (fun t => x3 (ix2 t f)) (Fin.ext (by show _ = s.val - 1; dsimp only; omega))

theorem rpastU2 (s f : Fin 4096) :
    val_main_v40 (F := Ideal) x3 (ix2 s f) = past 2 (big x3) s f := by
  pointwise [val_main_v40, val_main_v38, val_main_v1, val_main_v37, val_main_cst_2]
  exact past_eq 2 (big x3) s f _ _ (by omega) fun h h' => congrArg (fun t => x3 (ix2 t f)) (Fin.ext (by show _ = s.val - 2; first | rfl | omega))

theorem rrow (s f : Fin 4096) :
    val_main_v24 (F := Ideal) x2 (ix2 s f) = x2 (ix2 s f) := by
  pointwise [val_main_v24, val_main_v7, val_main_v0, val_main_v6, val_main_cst]

theorem rrowU (s f : Fin 4096) :
    val_main_v55 (F := Ideal) x3 (ix2 s f) = x3 (ix2 s f) := by
  pointwise [val_main_v55, val_main_v38, val_main_v1, val_main_v37, val_main_cst_2]

theorem rconv (s f : Fin 4096) :
    val_main_v33 (F := Ideal) x2 x4 x5 (ix2 s f) = cG x2 x4 x5 s f := by
  pointwise [val_main_v33, val_main_v32, val_main_v31, val_main_v5, val_main_v4, val_main_v30, val_main_v29, val_main_v28, val_main_v27,
    val_main_v26, val_main_v25, val_main_v3, val_main_v23, val_main_v22, val_main_v21, val_main_v20, val_main_v19, val_main_v18, val_main_v16,
    val_main_v14, val_main_v13, val_main_v12, val_main_v11, val_main_v10, val_main_v15, val_main_cst_1]
  rw [rpast2, rpast1, rrow]
  rfl

theorem rconvU (s f : Fin 4096) :
    val_main_v64 (F := Ideal) x3 x4 x5 (ix2 s f) = cU x3 x4 x5 s f := by
  pointwise [val_main_v64, val_main_v63, val_main_v62, val_main_v36, val_main_v35, val_main_v61, val_main_v60, val_main_v59, val_main_v58,
    val_main_v57, val_main_v56, val_main_v34, val_main_v54, val_main_v53, val_main_v52, val_main_v51, val_main_v50, val_main_v49, val_main_v47,
    val_main_v45, val_main_v44, val_main_v43, val_main_v42, val_main_v41, val_main_v46, val_main_cst_4]
  rw [rpastU2, rpastU1, rrowU]
  rfl

theorem rdA (s f : Fin 4096) :
    val_main_v89 (F := Ideal) x0 x1 (ix2 s f) = gA x0 x1 s f := by
  pointwise [val_main_v89, val_main_v2, val_main_v88]
  rfl

theorem rdG (s f : Fin 4096) :
    val_main_v103 (F := Ideal) x0 x1 x2 x3 x4 x5 (ix2 s f) = rG x0 x1 x2 x3 x4 x5 s f := by
  pointwise [val_main_v103, val_main_v102, val_main_v69, val_main_v67, val_main_v68, val_main_cst_5, val_main_v101, val_main_v98,
    val_main_v96, val_main_v80, val_main_v79, val_main_v75, val_main_v74, val_main_v72, val_main_v71, val_main_v66, val_main_v65, val_main_v70,
    val_main_cst_6, val_main_v73, val_main_cst_7, val_main_v78, val_main_cst_9, val_main_v77, val_main_v76, val_main_cst_8, val_main_v95,
    val_main_v92, val_main_v91, val_main_v94, val_main_cst_12, val_main_v97, val_main_cst_13, val_main_v100, val_main_cst_14, val_main_v99,
    val_main_v93, val_main_v84, val_main_v82, val_main_v81, val_main_cst_10, val_main_v83, val_main_cst_11]
  rw [rconv, rconvU, rdA]
  rfl

theorem rdU (s f : Fin 4096) :
    val_main_v90 (F := Ideal) x0 x1 x2 x4 x5 (ix2 s f) = rU x0 x1 x2 x4 x5 s f := by
  pointwise [val_main_v90, val_main_v85, val_main_v84, val_main_v82, val_main_v75, val_main_v74, val_main_v72, val_main_v71, val_main_v66,
    val_main_v65, val_main_v70, val_main_cst_6, val_main_v73, val_main_cst_7, val_main_v81, val_main_cst_10, val_main_v83, val_main_cst_11]
  rw [rconv, rdA]
  rfl

/-! ## The results -/

theorem res0 (s f : Fin 4096) :
    val_main_v185 (F := Ideal) x0 x1 x2 x3 x4 x5 (ix2 s f) = gHid (rG x0 x1 x2 x3 x4 x5) (wG x4) s f := by
  pointwise [val_main_v185, val_main_v178, val_main_v176, val_main_v175, val_main_cst_44, val_main_v170, val_main_v169, val_main_v12,
    val_main_v11, val_main_v10, val_main_v3, val_main_v165, val_main_v164, val_main_cst_40, val_main_v159, val_main_v158, val_main_v20,
    val_main_v19, val_main_v18, val_main_v154, val_main_cst_36, val_main_v150, val_main_v149, val_main_v27, val_main_v26, val_main_v25]
  simp only [rdG]
  unfold gHid
  refine congrArg₂ (· + ·) (congrArg₂ (· + ·) (mul_comm _ _) ?_) ?_
  · exact later_eq 1 (rG x0 x1 x2 x3 x4 x5) s f _ _ _ (by omega) fun h h' => congrArg (fun t => rG x0 x1 x2 x3 x4 x5 t f * _) (Fin.ext (by show _ = s.val + 1; dsimp only; omega))
  · exact later_eq 2 (rG x0 x1 x2 x3 x4 x5) s f _ _ _ (by omega) fun h h' => congrArg (fun t => rG x0 x1 x2 x3 x4 x5 t f * _) (Fin.ext (by show _ = s.val + 2; dsimp only; omega))

theorem res1 (s f : Fin 4096) :
    val_main_v186 (F := Ideal) x0 x1 x2 x4 x5 (ix2 s f) = gHid (rU x0 x1 x2 x4 x5) (wU x4) s f := by
  pointwise [val_main_v186, val_main_v139, val_main_v137, val_main_v136, val_main_cst_28, val_main_v131, val_main_v130, val_main_v43,
    val_main_v42, val_main_v41, val_main_v34, val_main_v126, val_main_v125, val_main_cst_24, val_main_v120, val_main_v119, val_main_v51,
    val_main_v50, val_main_v49, val_main_v115, val_main_cst_20, val_main_v111, val_main_v110, val_main_v58, val_main_v57, val_main_v56]
  simp only [rdU]
  unfold gHid
  refine congrArg₂ (· + ·) (congrArg₂ (· + ·) (mul_comm _ _) ?_) ?_
  · exact later_eq 1 (rU x0 x1 x2 x4 x5) s f _ _ _ (by omega) fun h h' => congrArg (fun t => rU x0 x1 x2 x4 x5 t f * _) (Fin.ext (by show _ = s.val + 1; dsimp only; omega))
  · exact later_eq 2 (rU x0 x1 x2 x4 x5) s f _ _ _ (by omega) fun h h' => congrArg (fun t => rU x0 x1 x2 x4 x5 t f * _) (Fin.ext (by show _ = s.val + 2; dsimp only; omega))

theorem res2 (r : Fin 8) (f : Fin 4096) :
    val_main_v187 (F := Ideal) x0 x1 x2 x3 x4 x5 (ix2 r f) = gWgt (big x2) (rG x0 x1 x2 x3 x4 x5) r f := by
  pointwise [val_main_v187, val_main_v184, val_main_call0_v0, val_main_c, val_main_v183, val_main_v182, val_main_cst_46, val_main_v174,
    val_main_v173, val_main_cst_43, val_main_v172, val_main_v171, val_main_cst_42, val_main_v168, val_main_v167, val_main_cst_41, val_main_v166,
    val_main_v163, val_main_v162, val_main_cst_39, val_main_v161, val_main_v160, val_main_cst_38, val_main_v157, val_main_v156, val_main_cst_37,
    val_main_v155, val_main_v153, val_main_cst_35, val_main_v152, val_main_v151, val_main_cst_34, val_main_v148, val_main_v147, val_main_cst_33,
    val_main_v146, val_main_v142, val_main_cst_30, val_main_v135, val_main_v134, val_main_cst_27, val_main_v133, val_main_v132, val_main_cst_26,
    val_main_v129, val_main_v128, val_main_cst_25, val_main_v127, val_main_v124, val_main_v123, val_main_cst_23, val_main_v122, val_main_v121,
    val_main_cst_22, val_main_v118, val_main_v117, val_main_cst_21, val_main_v116, val_main_v114, val_main_cst_19, val_main_v113, val_main_v112,
    val_main_cst_18, val_main_v109, val_main_v108, val_main_cst_17, val_main_v107]
  simp only [rdG, rrow, rpast1, rpast2, int_zero, Finset.univ_unique, Finset.sum_singleton, false_and, and_false, dite_false, zero_add, add_zero]
  unfold gWgt
  rw [← sum_past, ← sum_past]
  have := f.isLt
  fin_cases r <;> simp [big] <;> omega

theorem res3 (r : Fin 8) (f : Fin 4096) :
    val_main_v188 (F := Ideal) x0 x1 x2 x3 x4 x5 (ix2 r f) = gWgt (big x3) (rU x0 x1 x2 x4 x5) r f := by
  pointwise [val_main_v188, val_main_v184, val_main_call0_v0, val_main_c, val_main_v183, val_main_v182, val_main_cst_46, val_main_v174,
    val_main_v173, val_main_cst_43, val_main_v172, val_main_v171, val_main_cst_42, val_main_v168, val_main_v167, val_main_cst_41, val_main_v166,
    val_main_v163, val_main_v162, val_main_cst_39, val_main_v161, val_main_v160, val_main_cst_38, val_main_v157, val_main_v156, val_main_cst_37,
    val_main_v155, val_main_v153, val_main_cst_35, val_main_v152, val_main_v151, val_main_cst_34, val_main_v148, val_main_v147, val_main_cst_33,
    val_main_v146, val_main_v142, val_main_cst_30, val_main_v135, val_main_v134, val_main_cst_27, val_main_v133, val_main_v132, val_main_cst_26,
    val_main_v129, val_main_v128, val_main_cst_25, val_main_v127, val_main_v124, val_main_v123, val_main_cst_23, val_main_v122, val_main_v121,
    val_main_cst_22, val_main_v118, val_main_v117, val_main_cst_21, val_main_v116, val_main_v114, val_main_cst_19, val_main_v113, val_main_v112,
    val_main_cst_18, val_main_v109, val_main_v108, val_main_cst_17, val_main_v107]
  simp only [rdU, rrowU, rpastU1, rpastU2, int_zero, Finset.univ_unique, Finset.sum_singleton, false_and, and_false, dite_false, zero_add, add_zero]
  unfold gWgt
  rw [← sum_past, ← sum_past]
  have := f.isLt
  fin_cases r <;> simp [big] <;> omega

theorem res4 (f : Fin 4096) :
    val_main_v189 (F := Ideal) x0 x1 x2 x3 x4 x5 (ix2 0 f) = gBias (rG x0 x1 x2 x3 x4 x5) f := by
  pointwise [val_main_v189, val_main_v181, val_main_v180, val_main_cst_45, val_main_v179, val_main_v145, val_main_cst_32, val_main_v144,
    val_main_v143, val_main_cst_31, val_main_v141, val_main_cst_29, val_main_v140, val_main_v106, val_main_cst_16, val_main_v105, val_main_v104,
    val_main_cst_15]
  simp only [rdG, Finset.univ_unique, Finset.sum_singleton, false_and, dite_false, zero_add]
  rfl

theorem res5 (f : Fin 4096) :
    val_main_v190 (F := Ideal) x0 x1 x2 x3 x4 x5 (ix2 0 f) = gBias (rU x0 x1 x2 x4 x5) f := by
  pointwise [val_main_v190, val_main_v181, val_main_v180, val_main_cst_45, val_main_v179, val_main_v145, val_main_cst_32, val_main_v144,
    val_main_v143, val_main_cst_31, val_main_v141, val_main_cst_29, val_main_v140, val_main_v106, val_main_cst_16, val_main_v105, val_main_v104,
    val_main_cst_15]
  simp only [rdU, Finset.univ_unique, Finset.sum_singleton, false_and, dite_false, zero_add]
  rfl

end Cert.Proof.Ffn

end
-- ==== Proof.FfnPre.lean ====
/- What the precondition says: every element of the six arguments is a finite number. -/
module

public import proofs.«01_k».proof.Proof.FfnSpec
public import proofs.«01_k».proof.Proof.XaPre
public import proofs.«01_k».proof.Proof.Gen.Pre_finite

@[expose] public section

set_option maxRecDepth 16384

noncomputable section

namespace Cert.Proof.Ffn

open Idealize.ShloMosaic Cert.Pre_finite

variable (x0 x1 : Rows) (x2 x3 : Wide) (x4 : Taps) (x5 : Biases)

theorem finite_all (h : fn (F := Ideal) x0 x1 x2 x3 x4 x5 = fun _ => 1#1) :
    (∀ j, Real' (x0 j)) ∧ (∀ j, Real' (x1 j)) ∧ (∀ j, Real' (x2 j)) ∧ (∀ j, Real' (x3 j)) ∧ (∀ j, Real' (x4 j)) ∧ ∀ j, Real' (x5 j) := by
  have h0 := congrFun h (fun i => i.elim0)
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun j => Xa.real_of_cmp _ (Host.reduce_andi_all _ _ _ _ _ h0 j), fun j => Xa.real_of_cmp _ (Host.reduce_andi_all _ _ _ _ _ h1 j),
    fun j => Xa.real_of_cmp _ (Host.reduce_andi_all _ _ _ _ _ h2 j), fun j => Xa.real_of_cmp _ (Host.reduce_andi_all _ _ _ _ _ h3 j),
    fun j => Xa.real_of_cmp _ (Host.reduce_andi_all _ _ _ _ _ h4 j), fun j => Xa.real_of_cmp _ (Host.reduce_andi_all _ _ _ _ _ h5 j)⟩

end Cert.Proof.Ffn

end
-- ==== Proof.FfnClaim.lean ====
/- The value claim of the feed-forward gradient: on finite arguments both programs end with the same six arrays. -/
module

public import proofs.«01_k».proof.Defs
public import proofs.«01_k».proof.Proof.FfnArray
public import proofs.«01_k».proof.Proof.FfnRef
public import proofs.«01_k».proof.Proof.FfnPre

@[expose] public section

set_option maxRecDepth 16384

noncomputable section

namespace Cert.Proof.Ffn

open Idealize.ShloMosaic Idealize.ShloMosaic.TcCoe Idealize.SL.Sem Cert.Reference2Ideal.Read

/-! ## The reference's arrays -/

section
variable (x0 x1 : Rows) (x2 x3 : Wide) (x4 : Taps) (x5 : Biases)

/-- The six arrays, from the gradients of the two convolved values. -/
abbrev rHid (D : Big) (w : Fin 3 → Fin 4096 → EReal) : Wide := fun z => gHid D w (z 0) (z 1)
abbrev rWgt (H D : Big) : (⟨2, ![8, 4096]⟩ : Shape).Idx → EReal := fun z => gWgt H D (z 0) (z 1)
abbrev rBias (D : Big) : (⟨2, ![1, 4096]⟩ : Shape).Idx → EReal := fun z => gBias D (z 1)

theorem ref0 : val_main_v185 (F := Ideal) x0 x1 x2 x3 x4 x5 = rHid (rG x0 x1 x2 x3 x4 x5) (wG x4) :=
  funext fun z => by rw [eq_ix2 (n0 := 4096) (n1 := 4096) z]; exact res0 x0 x1 x2 x3 x4 x5 _ _
theorem ref1 : val_main_v186 (F := Ideal) x0 x1 x2 x4 x5 = rHid (rU x0 x1 x2 x4 x5) (wU x4) :=
  funext fun z => by rw [eq_ix2 (n0 := 4096) (n1 := 4096) z]; exact res1 x0 x1 x2 x4 x5 _ _
theorem ref2 : val_main_v187 (F := Ideal) x0 x1 x2 x3 x4 x5 = rWgt (big x2) (rG x0 x1 x2 x3 x4 x5) :=
  funext fun z => by rw [eq_ix2 (n0 := 8) (n1 := 4096) z]; exact res2 x0 x1 x2 x3 x4 x5 _ _
theorem ref3 : val_main_v188 (F := Ideal) x0 x1 x2 x3 x4 x5 = rWgt (big x3) (rU x0 x1 x2 x4 x5) :=
  funext fun z => by rw [eq_ix2 (n0 := 8) (n1 := 4096) z]; exact res3 x0 x1 x2 x3 x4 x5 _ _

theorem one_row (z : (⟨2, ![1, 4096]⟩ : Shape).Idx) : z = ix2 0 (z 1) :=
  (eq_ix2 (n0 := 1) (n1 := 4096) z).trans (congrArg (ix2 · (z 1)) (Subsingleton.elim (α := Fin 1) _ _))

theorem ref4 : val_main_v189 (F := Ideal) x0 x1 x2 x3 x4 x5 = rBias (rG x0 x1 x2 x3 x4 x5) :=
  funext fun z => by rw [one_row z]; exact res4 x0 x1 x2 x3 x4 x5 _
theorem ref5 : val_main_v190 (F := Ideal) x0 x1 x2 x3 x4 x5 = rBias (rU x0 x1 x2 x4 x5) :=
  funext fun z => by rw [one_row z]; exact res5 x0 x1 x2 x3 x4 x5 _
end

theorem frame_ki_pre : Cert.quiescent_Kernel2Ideal_pre_finite := fun m ρ _ => Cert.Kernel2Ideal.Gen.frame m ρ

theorem frame_ri_pre : Cert.quiescent_Reference2Ideal_pre_finite := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

section
variable (m : (ℓ : Loc Cert.Kernel2Ideal.nD Cert.Kernel2Ideal.τ Cert.Kernel2Ideal.sig) → Buf (Elt Ideal) ℓ)
variable (c : Dev Cert.Kernel2Ideal.nD)

/-- A device's gradients of the two convolved values. -/
abbrev mG : Big := kG (a0 m c) (a1 m c) (a2 m c) (a3 m c) (a4 m c) (a5 m c)
abbrev mU : Big := kU (a0 m c) (a1 m c) (a2 m c) (a4 m c) (a5 m c)
end

theorem algebraic : Cert.algebraic_Kernel2Ideal_Reference2Ideal_pre_finite := by
  intro m g m' g' hpre hagree
  refine ⟨fun c => rHid (mG m c) (wG (a4 m c)), fun c => rHid (mU m c) (wU (a4 m c)), fun c => rWgt (big (a2 m c)) (mG m c),
    fun c => rWgt (big (a3 m c)) (mU m c), fun c => rBias (mG m c), fun c => rBias (mU m c), ?_, ?_⟩
  · refine (θ_run Cert.Kernel2Ideal.defs _ _).mono (fun r h c => ?_) (Cert.Kernel2Ideal.Value.run_blocks (F := Ideal) m g)
    obtain ⟨h0, h1, h2, h3, h4, h5, ha⟩ := h c
    exact ⟨h0.trans (final11 m c), h1.trans (final12 m c), h2.trans (final13 m c), h3.trans (final14 m c), h4.trans (final15 m c),
      h5.trans (final16 m c), ha⟩
  · refine (θ_run Cert.Reference2Ideal.defs _ _).mono (fun r h c => ?_) (Cert.Reference2Ideal.Value.run (F := Ideal) m' g')
    obtain ⟨h0, h1, h2, h3, h4, h5, ha⟩ := h c
    obtain ⟨e0, e1, e2, e3, e4, e5⟩ := hagree c
    have e0 : StableHlo.launchContents m' c (Proc.tc.devRef Cert.Reference2Ideal.main_arg0) = a0 m c := e0
    have e1 : StableHlo.launchContents m' c (Proc.tc.devRef Cert.Reference2Ideal.main_arg1) = a1 m c := e1
    have e2 : StableHlo.launchContents m' c (Proc.tc.devRef Cert.Reference2Ideal.main_arg2) = a2 m c := e2
    have e3 : StableHlo.launchContents m' c (Proc.tc.devRef Cert.Reference2Ideal.main_arg3) = a3 m c := e3
    have e4 : StableHlo.launchContents m' c (Proc.tc.devRef Cert.Reference2Ideal.main_arg4) = a4 m c := e4
    have e5 : StableHlo.launchContents m' c (Proc.tc.devRef Cert.Reference2Ideal.main_arg5) = a5 m c := e5
    obtain ⟨f0, f1, f2, f3, f4, f5⟩ := finite_all (a0 m c) (a1 m c) (a2 m c) (a3 m c) (a4 m c) (a5 m c) (hpre c)
    have hG : mG m c = rG (a0 m c) (a1 m c) (a2 m c) (a3 m c) (a4 m c) (a5 m c) := kG_eq f0 f1 f2 f3 f4 f5
    have hU : mU m c = rU (a0 m c) (a1 m c) (a2 m c) (a4 m c) (a5 m c) := kU_eq f2 f4 f5
    refine ⟨h0.trans ?_, h1.trans ?_, h2.trans ?_, h3.trans ?_, h4.trans ?_, h5.trans ?_, ha⟩
    · rw [val_main_v185_eq, e0, e1, e2, e3, e4, e5]
      exact (ref0 _ _ _ _ _ _).trans (congrArg (rHid · _) hG.symm)
    · rw [val_main_v186_eq, e0, e1, e2, e4, e5]
      exact (ref1 _ _ _ _ _).trans (congrArg (rHid · _) hU.symm)
    · rw [val_main_v187_eq, e0, e1, e2, e3, e4, e5]
      exact (ref2 _ _ _ _ _ _).trans (congrArg (rWgt _) hG.symm)
    · rw [val_main_v188_eq, e0, e1, e2, e3, e4, e5]
      exact (ref3 _ _ _ _ _ _).trans (congrArg (rWgt _) hU.symm)
    · rw [val_main_v189_eq, e0, e1, e2, e3, e4, e5]
      exact (ref4 _ _ _ _ _ _).trans (congrArg rBias hG.symm)
    · rw [val_main_v190_eq, e0, e1, e2, e3, e4, e5]
      exact (ref5 _ _ _ _ _ _).trans (congrArg rBias hU.symm)

end Cert.Proof.Ffn

end
-- ==== Proof.FwdPay.lean ====
/- The forward MLP up to its second product, on numbers: the hidden rows, their convolution over time and the activation, of
   the whole arrays and of what the kernel computes on a block of 512 rows and 1024 columns with the eight rows before it. -/
module

public import proofs.«01_k».proof.Proof.FfnChunk
public import proofs.«01_k».proof.Proof.FfnGelu
public import proofs.«01_k».proof.Proof.Gen.Kernel12Ideal.Skeleton
public import Idealize.ShloMosaic.Lib.Pointwise
public import Idealize.ShloMosaic.Lib.WordCmp

@[expose] public section

set_option maxRecDepth 16384

noncomputable section

namespace Cert.Proof.FfnFwd

open Idealize.ShloMosaic Cert.Kernel12Ideal Cert.Kernel12Ideal.Gen
open Cert.Proof.Ffn (act fact half one soft fth select_eq ld_part)

/-! ## The arrays -/

/-- An array of 4096 rows and 8192 columns: the gate's columns and then the other half's. -/
abbrev All := Fin 4096 → Fin 8192 → EReal

/-- The hidden rows: the second argument holds the weights in eight blocks of 1024 columns. -/
def hid (h : S4096x1024.Idx → EReal) (w : S8x1024x1024.Idx → EReal) : All := fun s f =>
  ∑ k : Fin 1024, h (ix2 s k) * w (ix3 ⟨f.val / 1024, by omega⟩ k ⟨f.val % 1024, Nat.mod_lt _ (by decide)⟩)

/-- The row `k` before, nothing before the first. -/
def past (k : ℕ) (X : All) (s : Fin 4096) (f : Fin 8192) : EReal := if k ≤ s.val then X ⟨s.val - k, by omega⟩ f else 0

/-- The convolution. -/
def conv (X : All) (w : S3x8192.Idx → EReal) (b : S1x8192.Idx → EReal) : All := fun s f =>
  past 2 X s f * w (ix2 0 f) + past 1 X s f * w (ix2 1 f) + X s f * w (ix2 2 f) + b (ix2 0 f)

/-- A column of the gate, and of the other half. -/
def left (f : Fin 4096) : Fin 8192 := ⟨f.val, by omega⟩
def right (f : Fin 4096) : Fin 8192 := ⟨4096 + f.val, by omega⟩

/-! ## The activation's two forms -/

/-- The forms agree on all numbers, the infinite ones too. -/
theorem act_all (x : EReal) : act x = fact x := by
  induction x with
  | coe x => exact Ffn.act_eq x
  | top =>
    have hs : soft ⊤ = one + Ideal.tanh ⊤ := by
      rw [soft, Ffn.kca_eq, Ffn.kc_eq]
      rw [EReal.top_mul_top, EReal.coe_mul_top_of_pos (by norm_num), EReal.top_add_coe, EReal.top_mul_top]
    have hf : fth ⊤ = Ideal.tanh ⊤ := by
      rw [fth, Ffn.fc_eq, Ffn.fa_eq]
      rw [EReal.top_mul_top, EReal.top_mul_top, EReal.coe_mul_top_of_pos (by norm_num), EReal.top_add_top,
        EReal.coe_mul_top_of_pos (by norm_num)]
    rw [act, fact, hs, hf, Ffn.one_eq, EReal.coe_one, mul_comm half ⊤, mul_assoc]
  | bot =>
    have hs : soft ⊥ = one + Ideal.tanh ⊥ := by
      rw [soft, Ffn.kca_eq, Ffn.kc_eq]
      rw [EReal.bot_mul_bot, EReal.coe_mul_top_of_pos (by norm_num), EReal.top_add_coe, EReal.bot_mul_top]
    have hf : fth ⊥ = Ideal.tanh ⊥ := by
      rw [fth, Ffn.fc_eq, Ffn.fa_eq]
      rw [EReal.bot_mul_bot, EReal.top_mul_bot, EReal.coe_mul_bot_of_pos (by norm_num), EReal.bot_add,
        EReal.coe_mul_bot_of_pos (by norm_num)]
    rw [act, fact, hs, hf, Ffn.one_eq, EReal.coe_one, mul_comm half ⊥, mul_assoc]

/-! ## A block's vectors -/

section
variable (d : FVec Ideal S512x1024 .f32) (n : FVec Ideal S8x1024 .f32)

/-- A row of numbers in every one of 512 rows. -/
def spread (r : FVec Ideal S1x1024 .f32) : FVec Ideal S512x1024 .f32 :=
  broadcastTo S512x1024 (shapeCast S1x1024 r shapeCasts_S1x1024_S1x1024) broadcasts_S1x1024_S512x1024

/-- Which rows are the given one. -/
def isRow (k : BitVec 32) : IVec S512x1024 1 := cmpi .eq (iota .tc S512x1024 32 [0] iota_S512x1024_d0_w32) (broadcast S512x1024 k)

/-- The rows moved down by one, and by two, with the rows before in front of them. -/
def down1 : FVec Ideal S512x1024 .f32 :=
  select (isRow 0#32) (spread (extractStridedSlice S1x1024 ![7, 0] n slices_S8x1024_o7_0_S1x1024))
    (dynamicRotate 0 1#32 none d rotates_S512x1024_d0)
def down2 : FVec Ideal S512x1024 .f32 :=
  select (isRow 0#32) (spread (extractStridedSlice S1x1024 ![6, 0] n slices_S8x1024_o6_0_S1x1024))
    (select (isRow 1#32) (spread (extractStridedSlice S1x1024 ![7, 0] n slices_S8x1024_o7_0_S1x1024))
      (dynamicRotate 0 2#32 none d rotates_S512x1024_d0))

/-- The convolved rows. -/
def taps (w0 w1 w2 b : Vec Ideal S1x1024 .f32) : FVec Ideal S512x1024 .f32 :=
  addf (addf (addf (mulf (spread w0) (down2 d n)) (mulf (spread w1) (down1 d n))) (mulf (spread w2) d))
    (broadcastTo S512x1024 b broadcasts_S1x1024_S512x1024)

theorem down1_apply (r : Fin 512) (c : Fin 1024) :
    down1 d n (ix2 r c) = if h : 1 ≤ r.val then d (ix2 ⟨r.val - 1, by omega⟩ c) else n (ix2 7 c) := by
  pointwise [down1, isRow, spread]
  have := r.isLt
  refine (select_eq r.val 0 (by omega) (by decide) _ _).trans ?_
  by_cases h : 1 ≤ r.val
  · rw [dif_pos h, if_neg (by omega)]
    exact congrArg d (congrArg (ix2 · c) (Fin.ext (by show (r.val + 512 - 1) % 512 = r.val - 1; omega)))
  · rw [dif_neg h, if_pos (by omega)]

theorem down2_apply (r : Fin 512) (c : Fin 1024) :
    down2 d n (ix2 r c) = if h : 2 ≤ r.val then d (ix2 ⟨r.val - 2, by omega⟩ c) else n (ix2 ⟨6 + r.val, by omega⟩ c) := by
  pointwise [down2, isRow, spread]
  have := r.isLt
  refine (select_eq r.val 0 (by omega) (by decide) _ _).trans ?_
  by_cases h : 2 ≤ r.val
  · rw [dif_pos h, if_neg (by omega)]
    refine (select_eq r.val 1 (by omega) (by decide) _ _).trans ?_
    rw [if_neg (by omega)]
    exact congrArg d (congrArg (ix2 · c) (Fin.ext (by show (r.val + 512 - 2) % 512 = r.val - 2; omega)))
  · rw [dif_neg h]
    by_cases h' : r.val = 0
    · rw [if_pos h']
      exact congrArg n (congrArg (ix2 · c) (Fin.ext (by show 6 = 6 + r.val; omega)))
    · rw [if_neg h']
      refine (select_eq r.val 1 (by omega) (by decide) _ _).trans ?_
      rw [if_pos (by omega)]
      exact congrArg n (congrArg (ix2 · c) (Fin.ext (by show 7 = 6 + r.val; omega)))

theorem taps_apply (w0 w1 w2 b : Vec Ideal S1x1024 .f32) (r : Fin 512) (c : Fin 1024) :
    taps d n w0 w1 w2 b (ix2 r c)
      = w0 (ix2 0 c) * down2 d n (ix2 r c) + w1 (ix2 0 c) * down1 d n (ix2 r c) + w2 (ix2 0 c) * d (ix2 r c) + b (ix2 0 c) := by
  pointwise [taps, spread]
end

section
variable (i : grid0.Coords) (x0 : Vec Ideal S512x1024 .bf16) (x1 : Vec Ideal S8x1024 .bf16) (w : Vec Ideal S1x1024x1024 .bf16)
variable (k : Vec Ideal S8x1024 .f32) (b : Vec Ideal S1x1024 .f32)

/-- The hidden rows of a block and of the eight rows before it, in the columns of a block of weights. -/
theorem main_apply (r : Fin 512) (c : Fin 1024) :
    k0_pay16 x0 w (ix2 r c) = ∑ q : Fin 1024, x0 (ix2 r q) * w (ix3 0 q c) := by
  pointwise [k0_pay16]

/-- Before the first block there is nothing. -/
theorem halo_apply (r : Fin 8) (c : Fin 1024) :
    k0_pay17 i x1 w (ix2 r c) = if (i 0).val = 0 then 0 else ∑ q : Fin 1024, x1 (ix2 r q) * w (ix3 0 q c) := by
  have h7 : k0_pay15 i x1 = if (i 0).val = 0 then fun _ => (0 : EReal) else x1 := by
    unfold k0_pay15
    dsimp only
    have hlt : (i 0).val < 8 := (i 0).isLt
    have hs : ∀ a : Fin 8, ∀ x y : Vec Ideal S8x1024 .bf16,
        Scalar.select (Scalar.cmpi .sgt (BitVec.ofNat 32 a.val) 0#32) x y = if a.val = 0 then y else x := by
      intro a x y
      fin_cases a <;> rfl
    refine (hs ⟨(i 0).val, hlt⟩ _ _).trans ?_
    dsimp only
    split
    · funext j; pointwise []
    · rfl
  unfold k0_pay17
  rw [h7]
  split
  · pointwise []
    simp only [zero_mul, Finset.sum_const_zero]
  · pointwise []

/-- A block's convolved rows. -/
def cv (i0 : ∀ a, (![0, 0] : Fin 2 → ℕ) a + S1x1024.size a ≤ S8x1024.size a) (i1 : ∀ a, (![1, 0] : Fin 2 → ℕ) a + S1x1024.size a ≤ S8x1024.size a)
    (i2 : ∀ a, (![2, 0] : Fin 2 → ℕ) a + S1x1024.size a ≤ S8x1024.size a) : FVec Ideal S512x1024 .f32 :=
  taps (k0_pay16 x0 w) (k0_pay17 i x1 w) (View.ld k (Rect.unit (s := S8x1024) ![0, 0] S1x1024.size i0)) (View.ld k (Rect.unit (s := S8x1024) ![1, 0] S1x1024.size i1))
    (View.ld k (Rect.unit (s := S8x1024) ![2, 0] S1x1024.size i2)) b

theorem cv_apply (i0 i1 i2) (r : Fin 512) (c : Fin 1024) :
    cv i x0 x1 w k b i0 i1 i2 (ix2 r c) = k (ix2 0 c) * down2 (k0_pay16 x0 w) (k0_pay17 i x1 w) (ix2 r c)
      + k (ix2 1 c) * down1 (k0_pay16 x0 w) (k0_pay17 i x1 w) (ix2 r c) + k (ix2 2 c) * k0_pay16 x0 w (ix2 r c) + b (ix2 0 c) := by
  unfold cv
  rw [taps_apply]
  refine congrArg (· + _) (congrArg₂ (· + ·) (congrArg₂ (· + ·) (congrArg (· * _) ?_) (congrArg (· * _) ?_)) (congrArg (· * _) ?_))
  · exact ld_part k 0 0 i0 0 c 0 c rfl (Nat.zero_add _).symm
  · exact ld_part k 1 0 i1 0 c 1 c rfl (Nat.zero_add _).symm
  · exact ld_part k 2 0 i2 0 c 2 c rfl (Nat.zero_add _).symm

/-- The activation of a block, from its two halves' convolved rows. -/
theorem act_apply (g u : FVec Ideal S512x1024 .f32) (j : S512x1024.Idx) :
    k0_pay1 u (k0_pay32 g) (k0_pay33 g) j = act (g j) * u j := rfl
end

end Cert.Proof.FfnFwd

end
-- ==== Proof.FwdRead.lean ====
/- What each point reads, as tiles of the arguments, and what it computes of them, as tiles of the whole arrays. -/
module

public import proofs.«01_k».proof.Proof.FwdPay
public import proofs.«01_k».proof.Proof.FfnTile
public import proofs.«01_k».proof.Proof.Gen.Kernel12Ideal.Frame.Runs
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.Proof.FfnFwd

open Idealize.ShloMosaic Idealize.ShloMosaic.TcCoe Cert.Kernel12Ideal Cert.Kernel12Ideal.Gen Idealize.ShloMosaic.Tactic
open Cert.Proof.Ffn (row col int_zero)

/-! ## Tiles -/

/-- The `p`-th of the eight rows before block `i` (of the first eight if there is none), and column `C` of block `q`. -/
def prow (i : Fin 8) (p : Fin 8) : Fin 4096 := ⟨8 * (64 * i.val - 1) + p.val, by omega⟩
def wcol (q : Fin 8) (C : Fin 1024) : Fin 8192 := ⟨1024 * q.val + C.val, by omega⟩

section
variable (h : S4096x1024.Idx → EReal) (w : S8x1024x1024.Idx → EReal) (k : S3x8192.Idx → EReal) (b : S1x8192.Idx → EReal) (i q : Fin 8)

def tH : Vec Ideal S512x1024 .bf16 := fun y => h (ix2 (row i (y 0)) (y 1))
def tP : Vec Ideal S8x1024 .bf16 := fun y => h (ix2 (prow i (y 0)) (y 1))
def tW : Vec Ideal S1x1024x1024 .bf16 := fun y => w (ix3 q (y 1) (y 2))
def tK : Vec Ideal S8x1024 .f32 := fun y => Ffn.pad k (ix2 (y 0) (wcol q (y 1)))
def tB : Vec Ideal S1x1024 .f32 := fun y => b (ix2 0 (wcol q (y 1)))

theorem hid_block (s : Fin 4096) (C : Fin 1024) : hid h w s (wcol q C) = ∑ n : Fin 1024, h (ix2 s n) * w (ix3 q n C) := by
  have e1 : (⟨(wcol q C).val / 1024, by have := (wcol q C).isLt; omega⟩ : Fin 8) = q :=
    Fin.ext (by show (1024 * q.val + C.val) / 1024 = q.val; omega)
  have e2 : (⟨(wcol q C).val % 1024, Nat.mod_lt _ (by decide)⟩ : Fin 1024) = C :=
    Fin.ext (by show (1024 * q.val + C.val) % 1024 = C.val; omega)
  unfold hid
  rw [e1, e2]

theorem main_tile (r : Fin 512) (C : Fin 1024) : k0_pay16 (tH h i) (tW w q) (ix2 r C) = hid h w (row i r) (wcol q C) :=
  (main_apply _ _ r C).trans (hid_block h w q _ C).symm

variable (g : grid0.Coords) (hg : (g 0).val = i.val)

include hg in
theorem halo_tile (p : Fin 8) (C : Fin 1024) :
    k0_pay17 g (tP h i) (tW w q) (ix2 p C) = if i.val = 0 then 0 else hid h w (prow i p) (wcol q C) := by
  rw [halo_apply, hg, hid_block]
  rfl

include hg in
theorem down1_tile (r : Fin 512) (C : Fin 1024) :
    down1 (k0_pay16 (tH h i) (tW w q)) (k0_pay17 g (tP h i) (tW w q)) (ix2 r C) = past 1 (hid h w) (row i r) (wcol q C) := by
  rw [down1_apply]
  unfold past
  by_cases h1 : 1 ≤ r.val
  · rw [dif_pos h1, if_pos (by show 1 ≤ 512 * i.val + r.val; omega), main_tile]
    exact congrArg (hid h w · _) (Fin.ext (by show 512 * i.val + (r.val - 1) = 512 * i.val + r.val - 1; omega))
  · rw [dif_neg h1, halo_tile h w i q g hg]
    by_cases hi : i.val = 0
    · rw [if_pos hi, if_neg (by show ¬ 1 ≤ 512 * i.val + r.val; omega)]
    · rw [if_neg hi, if_pos (by show 1 ≤ 512 * i.val + r.val; omega)]
      exact congrArg (hid h w · _) (Fin.ext (by show 8 * (64 * i.val - 1) + 7 = 512 * i.val + r.val - 1; omega))

include hg in
theorem down2_tile (r : Fin 512) (C : Fin 1024) :
    down2 (k0_pay16 (tH h i) (tW w q)) (k0_pay17 g (tP h i) (tW w q)) (ix2 r C) = past 2 (hid h w) (row i r) (wcol q C) := by
  rw [down2_apply]
  unfold past
  by_cases h1 : 2 ≤ r.val
  · rw [dif_pos h1, if_pos (by show 2 ≤ 512 * i.val + r.val; omega), main_tile]
    exact congrArg (hid h w · _) (Fin.ext (by show 512 * i.val + (r.val - 2) = 512 * i.val + r.val - 2; omega))
  · rw [dif_neg h1, halo_tile h w i q g hg]
    by_cases hi : i.val = 0
    · rw [if_pos hi, if_neg (by show ¬ 2 ≤ 512 * i.val + r.val; omega)]
    · rw [if_neg hi, if_pos (by show 2 ≤ 512 * i.val + r.val; omega)]
      exact congrArg (hid h w · _) (Fin.ext (by show 8 * (64 * i.val - 1) + (6 + r.val) = 512 * i.val + r.val - 2; omega))

include hg in
theorem cv_tile (i0 i1 i2) (r : Fin 512) (C : Fin 1024) :
    cv g (tH h i) (tP h i) (tW w q) (tK k q) (tB b q) i0 i1 i2 (ix2 r C) = conv (hid h w) k b (row i r) (wcol q C) := by
  rw [cv_apply, down1_tile h w i q g hg, down2_tile h w i q g hg, main_tile]
  unfold conv
  exact congrArg (· + _) (congrArg₂ (· + ·) (congrArg₂ (· + ·) (mul_comm _ _) (mul_comm _ _)) (mul_comm _ _))
end

/-! ## The points' blocks -/

variable (m : (ℓ : Loc nD τ sig) → Buf (Elt Ideal) ℓ) (c : Dev nD)

/-- The arguments of a device, as arrays of numbers. -/
abbrev a0 : S4096x1024.Idx → EReal := m ((c : Thread nD τ).loc main_arg0)
abbrev a1 : S8x1024x1024.Idx → EReal := m ((c : Thread nD τ).loc main_arg1)
abbrev a2 : S3x8192.Idx → EReal := m ((c : Thread nD τ).loc main_arg2)
abbrev a3 : S1x8192.Idx → EReal := m ((c : Thread nD τ).loc main_arg3)

theorem V_cw : (V m c main_v0 : S8x8192.Idx → EReal) = Ffn.pad (a2 m c) := by
  funext y
  obtain ⟨s, f, rfl⟩ : ∃ s f, y = (ix2 s f : S8x8192.Idx) := ⟨_, _, eq_ix2 (n0 := 8) (n1 := 8192) y⟩
  unfold V
  after_reads_at
  unfold Ffn.pad
  rw [int_zero]
  rfl

theorem idx0 : ∀ t : Fin cfg0.N, win0_0.index t = ![t.val / 4, 0] := (by decide +kernel : ∀ t : Fin grid0.N, _)
theorem idx1 : ∀ t : Fin cfg0.N, win0_1.index t = ![64 * (t.val / 4) - 1, 0] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![4 + t.val % 4, 0, 0] := (by decide +kernel : ∀ t : Fin grid0.N, _)
theorem idx4 : ∀ t : Fin cfg0.N, win0_4.index t = ![0, t.val % 4] := (by decide +kernel : ∀ t : Fin grid0.N, _)
theorem idx5 : ∀ t : Fin cfg0.N, win0_5.index t = ![0, 4 + t.val % 4] := (by decide +kernel : ∀ t : Fin grid0.N, _)
theorem idx6 : ∀ t : Fin cfg0.N, win0_6.index t = ![0, t.val % 4] := (by decide +kernel : ∀ t : Fin grid0.N, _)
theorem idx7 : ∀ t : Fin cfg0.N, win0_7.index t = ![0, 4 + t.val % 4] := (by decide +kernel : ∀ t : Fin grid0.N, _)
theorem idx12 : ∀ t : Fin cfg0.N, win0_12.index t = ![t.val / 4, t.val % 4] := (by decide +kernel : ∀ t : Fin grid0.N, _)
theorem idx13 : ∀ t : Fin cfg0.N, win0_13.index t = ![t.val / 4, t.val % 4] := (by decide +kernel : ∀ t : Fin grid0.N, _)
theorem idx14 : ∀ t : Fin cfg0.N, win0_14.index t = ![t.val / 4, t.val % 4] := (by decide +kernel : ∀ t : Fin grid0.N, _)
theorem idx15 : ∀ t : Fin cfg0.N, win0_15.index t = ![t.val / 4, t.val % 4] := (by decide +kernel : ∀ t : Fin grid0.N, _)
theorem idx16 : ∀ t : Fin cfg0.N, win0_16.index t = ![t.val / 4, t.val % 4] := (by decide +kernel : ∀ t : Fin grid0.N, _)

/-- A point's block of rows and block of columns, and the columns' blocks of weights: the gate's and the other half's. -/
def pI (t : Fin cfg0.N) : Fin 8 := ⟨t.val / 4, by have : t.val < 32 := Nat.lt_of_lt_of_eq t.isLt N_0; omega⟩
def pJ (t : Fin cfg0.N) : Fin 4 := ⟨t.val % 4, Nat.mod_lt _ (by decide)⟩
def qG (t : Fin cfg0.N) : Fin 8 := ⟨t.val % 4, by omega⟩
def qU (t : Fin cfg0.N) : Fin 8 := ⟨4 + t.val % 4, by omega⟩

theorem coord : ∀ t : Fin cfg0.N, (grid0.coords t 0).val = (pI t).val :=
  (by decide +kernel : ∀ t : Fin grid0.N, (grid0.coords t 0).val = t.val / 4)

theorem col_left (t : Fin cfg0.N) (C : Fin 1024) : wcol (qG t) C = left (col (pJ t) C) := rfl
theorem col_right (t : Fin cfg0.N) (C : Fin 1024) : wcol (qU t) C = right (col (pJ t) C) :=
  Fin.ext (by show 1024 * (4 + t.val % 4) + C.val = 4096 + (1024 * (t.val % 4) + C.val); omega)

theorem iblk0 (t : Fin cfg0.N) : iblk m c 0 t = tH (a0 m c) (pI t) := by
  funext y
  blk_simp [iblk]
  rw [V_main_arg0]
  refine congrArg (a0 m c) ?_
  blk_ext [idx0, pI, row]

theorem iblk1 (t : Fin cfg0.N) : iblk m c 1 t = tP (a0 m c) (pI t) := by
  funext y
  blk_simp [iblk]
  rw [V_main_arg0]
  refine congrArg (a0 m c) ?_
  blk_ext [idx1, pI, prow]

theorem iblk2 (t : Fin cfg0.N) : iblk m c 2 t = tW (a1 m c) (qG t) := by
  funext y
  blk_simp [iblk]
  rw [V_main_arg1]
  refine congrArg (a1 m c) ?_
  blk_ext [idx2, qG]

theorem iblk3 (t : Fin cfg0.N) : iblk m c 3 t = tW (a1 m c) (qU t) := by
  funext y
  blk_simp [iblk]
  rw [V_main_arg1]
  refine congrArg (a1 m c) ?_
  blk_ext [idx3, qU]

theorem iblk4 (t : Fin cfg0.N) : iblk m c 4 t = tK (a2 m c) (qG t) := by
  funext y
  blk_simp [iblk]
  rw [V_cw]
  refine congrArg (Ffn.pad (a2 m c)) ?_
  blk_ext [idx4, qG, wcol]

theorem iblk5 (t : Fin cfg0.N) : iblk m c 5 t = tK (a2 m c) (qU t) := by
  funext y
  blk_simp [iblk]
  rw [V_cw]
  refine congrArg (Ffn.pad (a2 m c)) ?_
  blk_ext [idx5, qU, wcol]

theorem iblk6 (t : Fin cfg0.N) : iblk m c 6 t = tB (a3 m c) (qG t) := by
  funext y
  blk_simp [iblk]
  rw [V_main_arg3]
  refine congrArg (a3 m c) ?_
  blk_ext [idx6, qG, wcol]

theorem iblk7 (t : Fin cfg0.N) : iblk m c 7 t = tB (a3 m c) (qU t) := by
  funext y
  blk_simp [iblk]
  rw [V_main_arg3]
  refine congrArg (a3 m c) ?_
  blk_ext [idx7, qU, wcol]

end Cert.Proof.FfnFwd

end
-- ==== Proof.FwdPoint.lean ====
/- What a point leaves in the blocks of the forward MLP's first five results: the statement. -/
module

public import proofs.«01_k».proof.Proof.FwdPay
public import proofs.«01_k».proof.Proof.Gen.Kernel12Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnFwd

open Idealize.ShloMosaic Idealize.ShloMosaic.TcCoe Cert.Kernel12Ideal Cert.Kernel12Ideal.Gen
open Idealize.ShloMosaic.Tactic

variable (m : (ℓ : Loc nD τ sig) → Buf (Elt Ideal) ℓ) (c : Dev nD) (t : Fin cfg0.N)

/-- A point's convolved rows: the gate's and the other half's. -/
def vG : FVec Ideal S512x1024 .f32 :=
  cv (grid0.coords t) (iblk m c 0 t) (iblk m c 1 t) (iblk m c 2 t) (iblk m c 4 t) (iblk m c 6 t)
    inb_S8x1024_S1x1024_0_0 inb_S8x1024_S1x1024_1_0 inb_S8x1024_S1x1024_2_0
def vU : FVec Ideal S512x1024 .f32 :=
  cv (grid0.coords t) (iblk m c 0 t) (iblk m c 1 t) (iblk m c 3 t) (iblk m c 5 t) (iblk m c 7 t)
    inb_S8x1024_S1x1024_0_0 inb_S8x1024_S1x1024_1_0 inb_S8x1024_S1x1024_2_0

/-- The five results' blocks of a point. -/
def Five (o12 o13 o14 o15 o16 : S512x1024.Idx → EReal) : Prop :=
  o12 = k0_pay20 (F := Ideal) (iblk m c 0 t) (iblk m c 2 t) ∧ o13 = k0_pay26 (F := Ideal) (k0_pay18 (iblk m c 0 t) (iblk m c 3 t))
    ∧ o14 = truncf .bf16 (vG m c t) bitsLt_bf16_f32 ∧ o15 = truncf .bf16 (vU m c t) bitsLt_bf16_f32
    ∧ o16 = k0_pay1 (vU m c t) (k0_pay32 (vG m c t)) (k0_pay33 (vG m c t))

/-- What a point leaves in the five blocks. -/
abbrev Outs : Prop :=
  Five m c t (outsAt0 m c t.val t.isLt).1 (outsAt0 m c t.val t.isLt).2.1 (outsAt0 m c t.val t.isLt).2.2.1
    (outsAt0 m c t.val t.isLt).2.2.2.1 (outsAt0 m c t.val t.isLt).2.2.2.2.1

end Cert.Proof.FfnFwd

end
-- ==== Proof.FwdFirst.lean ====
/- What the first point of a block of rows leaves in the five results' blocks, and a point in its middle. -/
module

public import proofs.«01_k».proof.Proof.FwdPoint
public import Idealize.ShloMosaic.Lib.Pipeline.ValueKit
public import Idealize.ShloMosaic.Lib.Pipeline.ReadBack
public import Idealize.ShloMosaic.Lib.Pointwise

@[expose] public section

set_option maxRecDepth 16384
set_option maxHeartbeats 4000000

noncomputable section

namespace Cert.Proof.FfnFwd

open Idealize.ShloMosaic Idealize.ShloMosaic.TcCoe Cert.Kernel12Ideal Cert.Kernel12Ideal.Gen
open Idealize.ShloMosaic.Tactic

variable (m : (ℓ : Loc nD τ sig) → Buf (Elt Ideal) ℓ) (c : Dev nD) (t : Fin cfg0.N)

theorem outs_A (h0 : t.val % 4 = 0) (h1 : ¬ t.val % 4 = 3) : Outs m c t := by
  unfold Outs
  rw [outsAt0_A m c t h0 h1]
  dsimp only
  unfold Five vG vU out0_A_12 out0_A_13 out0_A_14 out0_A_15 out0_A_16
  generalize iblk m c 0 t = x0, iblk m c 1 t = x1, iblk m c 2 t = x2, iblk m c 3 t = x3, iblk m c 4 t = x4, iblk m c 5 t = x5,
    iblk m c 6 t = x6, iblk m c 7 t = x7
  refine ⟨(View.read_writes_eq_canon _ _ _ (fun y => cover0_A_12 (y := y) ..)).trans ?_, (View.read_writes_eq_canon _ _ _ (fun y => cover0_A_13 (y := y) ..)).trans ?_,
    (View.read_writes_eq_canon _ _ _ (fun y => cover0_A_14 (y := y) ..)).trans ?_, (View.read_writes_eq_canon _ _ _ (fun y => cover0_A_15 (y := y) ..)).trans ?_,
    (View.read_writes_eq_canon _ _ _ (fun y => cover0_A_16 (y := y) ..)).trans ?_⟩
  all_goals
    unfold kernelRun0_A
    dsimp only
    sl_unfold_words
    refine (View.canon_cons_unit_lit _ _ _ (by decide)).trans ?_
    simp (disch := first | rfl | decide | (intro a; fin_cases a <;> rfl)) only [View.readCov_fill, View.readAt_eq_ld, (hs0_0 t).read_unread,
      (hs0_1 t).read_unread, (hs0_2 t).read_unread, (hs0_3 t).read_unread, (hs0_4 t).read_unread, (hs0_5 t).read_unread, (hs0_6 t).read_unread,
      (hs0_7 t).read_unread, View.ld_unit_lit]
    try rfl

theorem outs_B (h0 : ¬ t.val % 4 = 0) (h1 : ¬ t.val % 4 = 3) : Outs m c t := by
  unfold Outs
  rw [outsAt0_B m c t h0 h1]
  dsimp only
  unfold Five vG vU out0_B_12 out0_B_13 out0_B_14 out0_B_15 out0_B_16
  generalize iblk m c 0 t = x0, iblk m c 1 t = x1, iblk m c 2 t = x2, iblk m c 3 t = x3, iblk m c 4 t = x4, iblk m c 5 t = x5,
    iblk m c 6 t = x6, iblk m c 7 t = x7
  refine ⟨(View.read_writes_eq_canon _ _ _ (fun y => cover0_B_12 (y := y) ..)).trans ?_, (View.read_writes_eq_canon _ _ _ (fun y => cover0_B_13 (y := y) ..)).trans ?_,
    (View.read_writes_eq_canon _ _ _ (fun y => cover0_B_14 (y := y) ..)).trans ?_, (View.read_writes_eq_canon _ _ _ (fun y => cover0_B_15 (y := y) ..)).trans ?_,
    (View.read_writes_eq_canon _ _ _ (fun y => cover0_B_16 (y := y) ..)).trans ?_⟩
  all_goals
    unfold kernelRun0_B
    dsimp only
    sl_unfold_words
    refine (View.canon_cons_unit_lit _ _ _ (by decide)).trans ?_
    simp (disch := first | rfl | decide | (intro a; fin_cases a <;> rfl)) only [View.readCov_fill, View.readAt_eq_ld, (hs0_0 t).read_unread,
      (hs0_1 t).read_unread, (hs0_2 t).read_unread, (hs0_3 t).read_unread, (hs0_4 t).read_unread, (hs0_5 t).read_unread, (hs0_6 t).read_unread,
      (hs0_7 t).read_unread, View.ld_unit_lit]
    try rfl

end Cert.Proof.FfnFwd

end
-- ==== Proof.FwdLast.lean ====
/- What the last point of a block of rows leaves in the five results' blocks, of the first block and of a later one. -/
module

public import proofs.«01_k».proof.Proof.FwdPoint
public import Idealize.ShloMosaic.Lib.Pipeline.ValueKit
public import Idealize.ShloMosaic.Lib.Pipeline.ReadBack
public import Idealize.ShloMosaic.Lib.Pointwise

@[expose] public section

set_option maxRecDepth 16384
set_option maxHeartbeats 4000000

noncomputable section

namespace Cert.Proof.FfnFwd

open Idealize.ShloMosaic Idealize.ShloMosaic.TcCoe Cert.Kernel12Ideal Cert.Kernel12Ideal.Gen
open Idealize.ShloMosaic.Tactic

variable (m : (ℓ : Loc nD τ sig) → Buf (Elt Ideal) ℓ) (c : Dev nD) (t : Fin cfg0.N)

theorem outs_C (h0 : ¬ t.val % 4 = 0) (h1 : t.val % 4 = 3) (h2 : t.val < 4) (h3 : ¬ 4 ≤ t.val) : Outs m c t := by
  unfold Outs
  rw [outsAt0_C m c t h0 h1 h2 h3]
  dsimp only
  unfold Five vG vU out0_C_12 out0_C_13 out0_C_14 out0_C_15 out0_C_16
  generalize iblk m c 0 t = x0, iblk m c 1 t = x1, iblk m c 2 t = x2, iblk m c 3 t = x3, iblk m c 4 t = x4, iblk m c 5 t = x5,
    iblk m c 6 t = x6, iblk m c 7 t = x7
  refine ⟨(View.read_writes_eq_canon _ _ _ (fun y => cover0_C_12 (y := y) ..)).trans ?_, (View.read_writes_eq_canon _ _ _ (fun y => cover0_C_13 (y := y) ..)).trans ?_,
    (View.read_writes_eq_canon _ _ _ (fun y => cover0_C_14 (y := y) ..)).trans ?_, (View.read_writes_eq_canon _ _ _ (fun y => cover0_C_15 (y := y) ..)).trans ?_,
    (View.read_writes_eq_canon _ _ _ (fun y => cover0_C_16 (y := y) ..)).trans ?_⟩
  all_goals
    unfold kernelRun0_C
    dsimp only
    sl_unfold_words
    refine (View.canon_cons_unit_lit _ _ _ (by decide)).trans ?_
    simp (disch := first | rfl | decide | (intro a; fin_cases a <;> rfl)) only [View.readCov_fill, View.readAt_eq_ld, (hs0_0 t).read_unread,
      (hs0_1 t).read_unread, (hs0_2 t).read_unread, (hs0_3 t).read_unread, (hs0_4 t).read_unread, (hs0_5 t).read_unread, (hs0_6 t).read_unread,
      (hs0_7 t).read_unread, View.ld_unit_lit]
    try rfl

theorem outs_D (h0 : ¬ t.val % 4 = 0) (h1 : t.val % 4 = 3) (h2 : ¬ t.val < 4) (h3 : 4 ≤ t.val) : Outs m c t := by
  unfold Outs
  rw [outsAt0_D m c t h0 h1 h2 h3]
  dsimp only
  unfold Five vG vU out0_D_12 out0_D_13 out0_D_14 out0_D_15 out0_D_16
  generalize iblk m c 0 t = x0, iblk m c 1 t = x1, iblk m c 2 t = x2, iblk m c 3 t = x3, iblk m c 4 t = x4, iblk m c 5 t = x5,
    iblk m c 6 t = x6, iblk m c 7 t = x7
  refine ⟨(View.read_writes_eq_canon _ _ _ (fun y => cover0_D_12 (y := y) ..)).trans ?_, (View.read_writes_eq_canon _ _ _ (fun y => cover0_D_13 (y := y) ..)).trans ?_,
    (View.read_writes_eq_canon _ _ _ (fun y => cover0_D_14 (y := y) ..)).trans ?_, (View.read_writes_eq_canon _ _ _ (fun y => cover0_D_15 (y := y) ..)).trans ?_,
    (View.read_writes_eq_canon _ _ _ (fun y => cover0_D_16 (y := y) ..)).trans ?_⟩
  all_goals
    unfold kernelRun0_D
    dsimp only
    sl_unfold_words
    refine (View.canon_cons_unit_lit _ _ _ (by decide)).trans ?_
    simp (disch := first | rfl | decide | (intro a; fin_cases a <;> rfl)) only [View.readCov_fill, View.readAt_eq_ld, (hs0_0 t).read_unread,
      (hs0_1 t).read_unread, (hs0_2 t).read_unread, (hs0_3 t).read_unread, (hs0_4 t).read_unread, (hs0_5 t).read_unread, (hs0_6 t).read_unread,
      (hs0_7 t).read_unread, View.ld_unit_lit]
    try rfl

end Cert.Proof.FfnFwd

end
-- ==== Proof.FwdArray.lean ====
/- The five result arrays after all points: the hidden rows' halves, the convolved rows' halves and the activation. -/
module

public import proofs.«01_k».proof.Proof.FwdRead
public import proofs.«01_k».proof.Proof.FwdFirst
public import proofs.«01_k».proof.Proof.FwdLast
public import Idealize.ShloMosaic.Lib.Pipeline.ValueKit

@[expose] public section

set_option maxRecDepth 16384

noncomputable section

namespace Cert.Proof.FfnFwd

open Idealize.ShloMosaic Idealize.ShloMosaic.TcCoe Cert.Kernel12Ideal Cert.Kernel12Ideal.Gen Idealize.ShloMosaic.Tactic
open Idealize.SL Idealize.SL.Sem
open Cert.Proof.Ffn (row col fact)

variable (m : (ℓ : Loc nD τ sig) → Buf (Elt Ideal) ℓ) (c : Dev nD)

/-- The results' arrays. -/
def hG : S4096x4096.Idx → EReal := fun z => hid (a0 m c) (a1 m c) (z 0) (left (z 1))
def hU : S4096x4096.Idx → EReal := fun z => hid (a0 m c) (a1 m c) (z 0) (right (z 1))
def kG : S4096x4096.Idx → EReal := fun z => conv (hid (a0 m c) (a1 m c)) (a2 m c) (a3 m c) (z 0) (left (z 1))
def kU : S4096x4096.Idx → EReal := fun z => conv (hid (a0 m c) (a1 m c)) (a2 m c) (a3 m c) (z 0) (right (z 1))
def kA : S4096x4096.Idx → EReal := fun z => fact (kG m c z) * kU m c z

section
variable (t : Fin cfg0.N)

/-- A point's place among those of its block of rows decides how it runs; the five blocks are the same. -/
theorem outs : Outs m c t := by
  by_cases h0 : t.val % 4 = 0
  · exact outs_A m c t h0 (by omega)
  · by_cases h1 : t.val % 4 = 3
    · by_cases h2 : t.val < 4
      · exact outs_C m c t h0 h1 h2 (by omega)
      · exact outs_D m c t h0 h1 h2 (by omega)
    · exact outs_B m c t h0 h1

/-- A block's index as a row and a column. -/
theorem ix (y : S512x1024.Idx) : ∃ r C, y = (ix2 r C : S512x1024.Idx) := ⟨_, _, eq_ix2 (n0 := 512) (n1 := 1024) y⟩

theorem vG_tile (r : Fin 512) (C : Fin 1024) : vG m c t (ix2 r C) = kG m c (ix2 (row (pI t) r) (col (pJ t) C)) := by
  unfold vG
  rw [iblk0, iblk1, iblk2, iblk4, iblk6, cv_tile _ _ _ _ _ _ _ (coord t)]
  rfl

theorem vU_tile (r : Fin 512) (C : Fin 1024) : vU m c t (ix2 r C) = kU m c (ix2 (row (pI t) r) (col (pJ t) C)) := by
  unfold vU
  rw [iblk0, iblk1, iblk3, iblk5, iblk7, cv_tile _ _ _ _ _ _ _ (coord t), col_right]
  rfl

theorem point12 : (outsAt0 m c t.val t.isLt).1 = fun y => hG m c (ix2 (row (pI t) (y 0)) (col (pJ t) (y 1))) := by
  refine (outs m c t).1.trans (funext fun y => ?_)
  obtain ⟨r, C, rfl⟩ := ix y
  rw [iblk0, iblk2]
  exact main_tile (a0 m c) (a1 m c) (pI t) (qG t) r C

theorem point13 : (outsAt0 m c t.val t.isLt).2.1 = fun y => hU m c (ix2 (row (pI t) (y 0)) (col (pJ t) (y 1))) := by
  refine (outs m c t).2.1.trans (funext fun y => ?_)
  obtain ⟨r, C, rfl⟩ := ix y
  rw [iblk0, iblk3]
  exact (main_tile (a0 m c) (a1 m c) (pI t) (qU t) r C).trans (congrArg (hid (a0 m c) (a1 m c) _) (col_right t C))

theorem point14 : (outsAt0 m c t.val t.isLt).2.2.1 = fun y => kG m c (ix2 (row (pI t) (y 0)) (col (pJ t) (y 1))) := by
  refine (outs m c t).2.2.1.trans (funext fun y => ?_)
  obtain ⟨r, C, rfl⟩ := ix y
  exact vG_tile m c t r C

theorem point15 : (outsAt0 m c t.val t.isLt).2.2.2.1 = fun y => kU m c (ix2 (row (pI t) (y 0)) (col (pJ t) (y 1))) := by
  refine (outs m c t).2.2.2.1.trans (funext fun y => ?_)
  obtain ⟨r, C, rfl⟩ := ix y
  exact vU_tile m c t r C

theorem point16 : (outsAt0 m c t.val t.isLt).2.2.2.2.1 = fun y => kA m c (ix2 (row (pI t) (y 0)) (col (pJ t) (y 1))) := by
  refine (outs m c t).2.2.2.2.trans (funext fun y => ?_)
  obtain ⟨r, C, rfl⟩ := ix y
  rw [act_apply, act_all, vG_tile, vU_tile]
  rfl
end

theorem final12 : (dats m 0 c).arrAt 12 cfg0.N = hG m c := by
  refine (dats m 0 c).arrAt_eq_of_covers 12 _ (by decide +kernel) fun t hf y => ?_
  blk_simp
  rw [after0_12, point12]
  refine congrArg (hG m c) (?_ : ix2 (row (pI t) (y 0)) (col (pJ t) (y 1)) = _)
  blk_ext [idx12, pI, pJ, row, col]

theorem final13 : (dats m 0 c).arrAt 13 cfg0.N = hU m c := by
  refine (dats m 0 c).arrAt_eq_of_covers 13 _ (by decide +kernel) fun t hf y => ?_
  blk_simp
  rw [after0_13, point13]
  refine congrArg (hU m c) (?_ : ix2 (row (pI t) (y 0)) (col (pJ t) (y 1)) = _)
  blk_ext [idx13, pI, pJ, row, col]

theorem final14 : (dats m 0 c).arrAt 14 cfg0.N = kG m c := by
  refine (dats m 0 c).arrAt_eq_of_covers 14 _ (by decide +kernel) fun t hf y => ?_
  blk_simp
  rw [after0_14, point14]
  refine congrArg (kG m c) (?_ : ix2 (row (pI t) (y 0)) (col (pJ t) (y 1)) = _)
  blk_ext [idx14, pI, pJ, row, col]

theorem final15 : (dats m 0 c).arrAt 15 cfg0.N = kU m c := by
  refine (dats m 0 c).arrAt_eq_of_covers 15 _ (by decide +kernel) fun t hf y => ?_
  blk_simp
  rw [after0_15, point15]
  refine congrArg (kU m c) (?_ : ix2 (row (pI t) (y 0)) (col (pJ t) (y 1)) = _)
  blk_ext [idx15, pI, pJ, row, col]

theorem final16 : (dats m 0 c).arrAt 16 cfg0.N = kA m c := by
  refine (dats m 0 c).arrAt_eq_of_covers 16 _ (by decide +kernel) fun t hf y => ?_
  blk_simp
  rw [after0_16, point16]
  refine congrArg (kA m c) (?_ : ix2 (row (pI t) (y 0)) (col (pJ t) (y 1)) = _)
  blk_ext [idx16, pI, pJ, row, col]

end Cert.Proof.FfnFwd

end
-- ==== Proof.FwdRef.lean ====
/- The forward MLP's reference, as numbers of its arguments' arrays. -/
module

public import proofs.«01_k».proof.Proof.FwdPay
public import proofs.«01_k».proof.Proof.Gen.Reference12Ideal.Read
public import Idealize.ShloMosaic.Lib.Pointwise
public import Idealize.ShloMosaic.Lib.KernelVsHost

@[expose] public section

set_option maxRecDepth 16384

noncomputable section

namespace Cert.Proof.FfnFwd

open Idealize.ShloMosaic Cert.Reference12Ideal Cert.Reference12Ideal.Gen Cert.Reference12Ideal.Read
open Cert.Proof.Ffn (fact)

variable (x0 : S4096x1024.Idx → EReal) (x1 : S8x1024x1024.Idx → EReal) (x2 : S3x8192.Idx → EReal) (x3 : S1x8192.Idx → EReal)

/-- Zeros in front of an array, read as rows before. -/
theorem past_eq (k : ℕ) (X : All) (s : Fin 4096) (f : Fin 8192) (P : Prop) [Decidable P] (y : ¬ P → EReal) (hp : P ↔ s.val < k)
    (hy : ∀ h : ¬ P, ∀ h' : k ≤ s.val, y h = X ⟨s.val - k, by omega⟩ f) :
    (if h : P then 0 else y h) = past k X s f := by
  unfold past
  by_cases h : P
  · rw [dif_pos h, if_neg (by have := hp.1 h; omega)]
  · have h' : k ≤ s.val := by by_contra hn; exact h (hp.2 (by omega))
    rw [dif_neg h, if_pos h']; exact hy h h'

theorem rhid (s : Fin 4096) (f : Fin 8192) : val_main_v2 (F := Ideal) x0 x1 (ix2 s f) = hid x0 x1 s f := by
  refine (val_main_v2_apply x0 x1 _).trans (Finset.sum_congr rfl fun k _ => ?_)
  rw [val_main_v1_apply, val_main_v0_apply]
  refine congrArg₂ (fun x y : EReal => x * y) (congrArg x0 (funext fun i => ?_)) (congrArg x1 (funext fun i => Fin.ext ?_))
  · match i with
    | ⟨0, _⟩ => rfl
    | ⟨1, _⟩ => rfl
  · match i with
    | ⟨0, _⟩ => show (k.val * 8192 + f.val) / 1024 % 8 = f.val / 1024; omega
    | ⟨1, _⟩ => show (k.val * 8192 + f.val) / 8192 = k.val; omega
    | ⟨2, _⟩ => show (k.val * 8192 + f.val) % 1024 = f.val % 1024; omega

theorem rpast2 (s : Fin 4096) (f : Fin 8192) : val_main_v5 (F := Ideal) x0 x1 (ix2 s f) = past 2 (hid x0 x1) s f := by
  pointwise [val_main_v5, val_main_v4, val_main_v3, val_main_cst]
  exact past_eq 2 (hid x0 x1) s f _ _ (by omega) fun h h' => (rhid x0 x1 _ _).trans (congrArg (hid x0 x1 · f) (Fin.ext (by show _ = s.val - 2; first | rfl | omega)))

theorem rpast1 (s : Fin 4096) (f : Fin 8192) : val_main_v13 (F := Ideal) x0 x1 (ix2 s f) = past 1 (hid x0 x1) s f := by
  pointwise [val_main_v13, val_main_v4, val_main_v3, val_main_cst]
  exact past_eq 1 (hid x0 x1) s f _ _ (by omega) fun h h' => (rhid x0 x1 _ _).trans (congrArg (hid x0 x1 · f) (Fin.ext (by show _ = s.val - 1; dsimp only; omega)))

theorem rrow (s : Fin 4096) (f : Fin 8192) : val_main_v20 (F := Ideal) x0 x1 (ix2 s f) = hid x0 x1 s f := by
  pointwise [val_main_v20, val_main_v4, val_main_v3, val_main_cst]
  exact rhid x0 x1 s f

theorem rconv (s : Fin 4096) (f : Fin 8192) : val_main_v28 (F := Ideal) x0 x1 x2 x3 (ix2 s f) = conv (hid x0 x1) x2 x3 s f := by
  pointwise [val_main_v28, val_main_v27, val_main_v26, val_main_v25, val_main_v24, val_main_v23, val_main_v22, val_main_v21, val_main_v19,
    val_main_v18, val_main_v17, val_main_v16, val_main_v15, val_main_v14, val_main_v12, val_main_v11, val_main_cst_0, val_main_v10, val_main_v9,
    val_main_v8, val_main_v7, val_main_v6]
  rw [rpast2, rpast1, rrow]
  rfl

theorem rgate (s f : Fin 4096) : val_main_v29 (F := Ideal) x0 x1 x2 x3 (ix2 s f) = conv (hid x0 x1) x2 x3 s (left f) := by
  pointwise [val_main_v29]
  exact rconv x0 x1 x2 x3 s (left f)

theorem rup (s f : Fin 4096) : val_main_v30 (F := Ideal) x0 x1 x2 x3 (ix2 s f) = conv (hid x0 x1) x2 x3 s (right f) := by
  pointwise [val_main_v30]
  exact rconv x0 x1 x2 x3 s (right f)

theorem ract (s f : Fin 4096) : val_main_v44 (F := Ideal) x0 x1 x2 x3 (ix2 s f)
    = fact (conv (hid x0 x1) x2 x3 s (left f)) * conv (hid x0 x1) x2 x3 s (right f) := by
  pointwise [val_main_v44, val_main_v43, val_main_v42, val_main_v41, val_main_cst_4, val_main_v40, val_main_v39, val_main_cst_3, val_main_v38,
    val_main_v37, val_main_v36, val_main_cst_2, val_main_v35, val_main_v34, val_main_v33, val_main_cst_1, val_main_v32, val_main_v31]
  rw [rgate, rup]
  rfl

/-! ## The results -/

theorem ref0 : val_main_v47 (F := Ideal) x0 x1 = fun z => hid x0 x1 (z 0) (left (z 1)) := by
  funext z
  obtain ⟨s, f, rfl⟩ : ∃ s f, z = (ix2 s f : S4096x4096.Idx) := ⟨_, _, eq_ix2 (n0 := 4096) (n1 := 4096) z⟩
  pointwise [val_main_v47, val_main_v45]
  exact rhid x0 x1 s (left f)

theorem ref1 : val_main_v48 (F := Ideal) x0 x1 = fun z => hid x0 x1 (z 0) (right (z 1)) := by
  funext z
  obtain ⟨s, f, rfl⟩ : ∃ s f, z = (ix2 s f : S4096x4096.Idx) := ⟨_, _, eq_ix2 (n0 := 4096) (n1 := 4096) z⟩
  pointwise [val_main_v48, val_main_v46]
  exact rhid x0 x1 s (right f)

theorem ref2 : val_main_v49 (F := Ideal) x0 x1 x2 x3 = fun z => conv (hid x0 x1) x2 x3 (z 0) (left (z 1)) := by
  funext z
  obtain ⟨s, f, rfl⟩ : ∃ s f, z = (ix2 s f : S4096x4096.Idx) := ⟨_, _, eq_ix2 (n0 := 4096) (n1 := 4096) z⟩
  exact rgate x0 x1 x2 x3 s f

theorem ref3 : val_main_v50 (F := Ideal) x0 x1 x2 x3 = fun z => conv (hid x0 x1) x2 x3 (z 0) (right (z 1)) := by
  funext z
  obtain ⟨s, f, rfl⟩ : ∃ s f, z = (ix2 s f : S4096x4096.Idx) := ⟨_, _, eq_ix2 (n0 := 4096) (n1 := 4096) z⟩
  exact rup x0 x1 x2 x3 s f

theorem ref4 : val_main_v51 (F := Ideal) x0 x1 x2 x3
    = fun z => fact (conv (hid x0 x1) x2 x3 (z 0) (left (z 1))) * conv (hid x0 x1) x2 x3 (z 0) (right (z 1)) := by
  funext z
  obtain ⟨s, f, rfl⟩ : ∃ s f, z = (ix2 s f : S4096x4096.Idx) := ⟨_, _, eq_ix2 (n0 := 4096) (n1 := 4096) z⟩
  exact ract x0 x1 x2 x3 s f

end Cert.Proof.FfnFwd

end
-- ==== Proof.FwdClaim.lean ====
/- The value claim of the forward MLP up to its second product: both programs end with the same five arrays. -/
module

public import proofs.«01_k».proof.Defs
public import proofs.«01_k».proof.Proof.FwdArray
public import proofs.«01_k».proof.Proof.FwdRef
public import proofs.«01_k».proof.Proof.Gen.Reference12Ideal.Run

@[expose] public section

set_option maxRecDepth 16384

noncomputable section

namespace Cert.Proof.FfnFwd

open Idealize.ShloMosaic Idealize.ShloMosaic.TcCoe Idealize.SL Idealize.SL.Sem Cert.Reference12Ideal.Read

theorem frame_ri : Cert.quiescent_Reference12Ideal := fun m ρ _ =>
  (θ_run Cert.Reference12Ideal.defs _ _).mono (fun r h => ⟨fun c => (h c).2.2.2.2.2, sem_eq_zero_of_no_sems (by decide) r.2⟩)
    (Cert.Reference12Ideal.Value.run (F := Ideal) m ρ)

/-- The named constant is the product that the activation's formula means. -/
theorem preserves : Cert.preserves_Kernel12_Kernel12Ideal :=
  IdealRules.named_const.statement Cert.Kernel12Ideal.κ "ca" .f32 0x3D122279#32 ((80338380498831 / 2251799813685248 : ℝ) : EReal) rfl

section
open Cert.Kernel12Ideal Cert.Kernel12Ideal.Gen

variable (m : (ℓ : Loc nD τ sig) → Buf (Elt Ideal) ℓ) (ρ : Dev nD → PrngReg)

/-- After the kernel's run: its five arrays, and its arguments as they were. -/
theorem run : θ_run (defs (F := Ideal)) (onTc (τ := τ) (main (F := Ideal))) ⟨m, fun _ => 0, ρ⟩ fun r => ∀ c : Dev nD,
      r.2.mem ((c : Thread nD τ).loc main_v1_0) = hG m c
      ∧ r.2.mem ((c : Thread nD τ).loc main_v1_1) = hU m c
      ∧ r.2.mem ((c : Thread nD τ).loc main_v1_2) = kG m c
      ∧ r.2.mem ((c : Thread nD τ).loc main_v1_3) = kU m c
      ∧ r.2.mem ((c : Thread nD τ).loc main_v1_4) = kA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h c).1 12).trans (final12 m c), ((h c).1 13).trans (final13 m c), ((h c).1 14).trans (final14 m c), ((h c).1 15).trans (final15 m c),
      ((h c).1 16).trans (final16 m c),
      ((h c).1 1).trans (((dats m 0 c).arrAt_in 1 rfl _).trans ((A_eq m c 1).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c))),
      ((h c).1 9).trans (((dats m 0 c).arrAt_in 9 rfl _).trans ((A_eq m c 9).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c)))⟩)
    (Gen.run_main (F := Ideal) m ρ)
end

theorem algebraic : Cert.algebraic_Kernel12Ideal_Reference12Ideal := by
  intro m g m' g' _ hagree
  refine ⟨fun c => hG m c, fun c => hU m c, fun c => kG m c, fun c => kU m c, fun c => kA m c, run m g, ?_⟩
  refine (θ_run Cert.Reference12Ideal.defs _ _).mono (fun r h c => ?_) (Cert.Reference12Ideal.Value.run (F := Ideal) m' g')
  obtain ⟨h0, h1, h2, h3, h4, ha⟩ := h c
  obtain ⟨e0, e1, e2, e3, -, -, -, -⟩ := hagree c
  have e0 : m' ((c.tc : Thread Cert.Reference12Ideal.nD Cert.Reference12Ideal.τ).loc Cert.Reference12Ideal.main_arg0) = a0 m c := e0
  have e1 : m' ((c.tc : Thread Cert.Reference12Ideal.nD Cert.Reference12Ideal.τ).loc Cert.Reference12Ideal.main_arg1) = a1 m c := e1
  have e2 : m' ((c.tc : Thread Cert.Reference12Ideal.nD Cert.Reference12Ideal.τ).loc Cert.Reference12Ideal.main_arg2) = a2 m c := e2
  have e3 : m' ((c.tc : Thread Cert.Reference12Ideal.nD Cert.Reference12Ideal.τ).loc Cert.Reference12Ideal.main_arg3) = a3 m c := e3
  refine ⟨h0.trans ?_, h1.trans ?_, h2.trans ?_, h3.trans ?_, h4.trans ?_, ha⟩
  · rw [val_main_v47_eq, e0, e1]
    exact ref0 _ _
  · rw [val_main_v48_eq, e0, e1]
    exact ref1 _ _
  · rw [val_main_v49_eq, e0, e1, e2, e3]
    exact ref2 _ _ _ _
  · rw [val_main_v50_eq, e0, e1, e2, e3]
    exact ref3 _ _ _ _
  · rw [val_main_v51_eq, e0, e1, e2, e3]
    exact ref4 _ _ _ _

end Cert.Proof.FfnFwd

end
-- ==== Proof.Sums.lean ====
/- A sum over the blocks of a range and the places of a block is the sum over the range. -/
module

public import Idealize.ShloMosaic.Lib.Pointwise

@[expose] public section

namespace Cert.Proof

/-- Place `s` of block `t`, of blocks of `b` places in a range of `n`. -/
def at_ {a b n : ℕ} (h : a * b = n) (t : Fin a) (s : Fin b) : Fin n :=
  ⟨b * t.val + s.val, by
    have ht := t.isLt; have hs := s.isLt
    calc b * t.val + s.val < b * t.val + b := by omega
      _ = b * (t.val + 1) := by ring
      _ ≤ b * a := Nat.mul_le_mul_left b ht
      _ = n := by rw [mul_comm, h]⟩

theorem sum_blocks {M : Type} [AddCommMonoid M] {a b n : ℕ} (h : a * b = n) (f : Fin n → M) :
    ∑ t : Fin a, ∑ s : Fin b, f (at_ h t s) = ∑ k : Fin n, f k := by
  subst h
  rw [← Fintype.sum_prod_type']
  refine Equiv.sum_comp (finProdFinEquiv (m := a) (n := b)) f |>.symm.trans ?_ |>.symm
  refine Finset.sum_congr rfl fun p _ => congrArg f (Fin.ext ?_)
  simp only [finProdFinEquiv_apply_val, at_]; omega

end Cert.Proof
-- ==== Proof.Down.lean ====
/- The gradient of `w_down`: the blocks of rows the kernel sums one after another in its scratch are all 4096 rows. -/
module

public import proofs.«01_k».proof.Proof.Sums
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Down

open Idealize.ShloMosaic Idealize.ShloMosaic.TcCoe Cert.Kernel3Ideal Cert.Kernel3Ideal.Gen Cert.Kernel3Ideal.Value
open Idealize.SL Idealize.SL.Sem

/-- One block's product. -/
def prod (x0 : S1024x2048.Idx → EReal) (x1 : S1024x1024.Idx → EReal) : S2048x1024.Idx → EReal :=
  fun y => ∑ k : Fin 1024, x0 (ix2 k (y 0)) * x1 (ix2 k (y 1))

theorem pay2_apply (v3 : Vec Ideal S2048x1024 .f32) (x0 : Vec Ideal S1024x2048 .bf16) (x1 : Vec Ideal S1024x1024 .bf16) :
    k0_pay2 v3 x0 x1 = fun y => v3 y + prod x0 x1 y := by
  suffices H : ∀ (i : Fin 2048) (j : Fin 1024), k0_pay2 v3 x0 x1 (ix2 i j) = v3 (ix2 i j) + prod x0 x1 (ix2 i j) from
    funext fun y => by rw [eq_ix2 (n0 := 2048) (n1 := 1024) y]; exact H _ _
  intro i j
  pointwise [k0_pay2]
  rfl

section
variable (c : Dev nD) (t : Fin cfg0.N) (x0 : Vec Ideal S1024x2048 .bf16) (x1 : Vec Ideal S1024x1024 .bf16)

theorem scratch_A (h0 : cond0_0 (grid0.coords t)) (h1 : ¬ cond0_1 (grid0.coords t)) :
    sout0_A_0 (F := Ideal) c (grid0.coords t) (ms0_0 t) (hs0_0 t) (ms0_1 t) (hs0_1 t) (ms0_2 t) (hs0_2 t) scM0_0 (Memref.isWhole_whole _) h0 h1 x0 x1
      = 0 + prod x0 x1 := by
  unfold sout0_A_0
  rw [View.read_writes_eq_canon _ _ _ (scover0_A_0 c (grid0.coords t) (ms0_0 t) (hs0_0 t) (ms0_1 t) (hs0_1 t) (ms0_2 t) (hs0_2 t) scM0_0 (Memref.isWhole_whole _) h0 h1 x0 x1)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, View.ld_unit_lit]
  rw [pay2_apply]
  funext y
  exact congrArg (· + _) (Ideal.ofBits_zero_f32)

theorem scratch_B (h0 : ¬ cond0_0 (grid0.coords t)) (h1 : ¬ cond0_1 (grid0.coords t)) (xs : Vec Ideal S2048x1024 .f32) :
    sout0_B_0 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold sout0_B_0
  rw [View.read_writes_eq_canon _ _ _ (scover0_B_0 c (grid0.coords t) (ms0_0 t) (hs0_0 t) (ms0_1 t) (hs0_1 t) (ms0_2 t) (hs0_2 t) scM0_0 (Memref.isWhole_whole _) h0 h1 x0 x1 xs)]
  unfold kernelRun0_B
  dsimp only
  sl_unfold_words
  refine (View.canon_cons_unit_lit _ _ _ (by decide)).trans ?_
  simp (disch := first | rfl | decide | (intro a; fin_cases a <;> rfl)) only [View.readAt_eq_ld, (hs0_0 t).read_unread, (hs0_1 t).read_unread, (Memref.isWhole_whole _).read_unread, View.ld_unit_lit]
  exact pay2_apply _ _ _

theorem scratch_C (h0 : ¬ cond0_0 (grid0.coords t)) (h1 : cond0_1 (grid0.coords t)) (xs : Vec Ideal S2048x1024 .f32) :
    sout0_C_0 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold sout0_C_0
  rw [View.read_writes_eq_canon _ _ _ (scover0_C_0 c (grid0.coords t) (ms0_0 t) (hs0_0 t) (ms0_1 t) (hs0_1 t) (ms0_2 t) (hs0_2 t) scM0_0 (Memref.isWhole_whole _) h0 h1 x0 x1 xs)]
  unfold kernelRun0_C
  dsimp only
  sl_unfold_words
  refine (View.canon_cons_unit_lit _ _ _ (by decide)).trans ?_
  simp (disch := first | rfl | decide | (intro a; fin_cases a <;> rfl)) only [View.readAt_eq_ld, (hs0_0 t).read_unread, (hs0_1 t).read_unread, (Memref.isWhole_whole _).read_unread, View.ld_unit_lit]
  exact pay2_apply _ _ _

theorem block_C (h0 : ¬ cond0_0 (grid0.coords t)) (h1 : cond0_1 (grid0.coords t)) (xs : Vec Ideal S2048x1024 .f32) :
    out0_C_2 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold out0_C_2
  rw [View.read_writes_eq_canon _ _ _ (cover0_C_2 c (grid0.coords t) (ms0_0 t) (hs0_0 t) (ms0_1 t) (hs0_1 t) (ms0_2 t) (hs0_2 t) scM0_0 (Memref.isWhole_whole _) h0 h1 x0 x1 xs)]
  unfold kernelRun0_C
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (Memref.isWhole_whole _).read_unread, View.ld_unit_lit]
  exact pay2_apply _ _ _
end

variable (m : (ℓ : Loc nD τ sig) → Buf (Elt Ideal) ℓ)

/-- The activations and the incoming gradient of a device, as arrays of numbers. -/
abbrev aA (c : Dev nD) : S4096x4096.Idx → EReal := m ((c : Thread nD τ).loc main_arg0)
abbrev bA (c : Dev nD) : S4096x1024.Idx → EReal := m ((c : Thread nD τ).loc main_arg1)

/-- The whole product. -/
def whole (a : S4096x4096.Idx → EReal) (b : S4096x1024.Idx → EReal) : S4096x1024.Idx → EReal :=
  fun y => ∑ k : Fin 4096, a (ix2 k (y 0)) * b (ix2 k (y 1))

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- The block of rows and the block of results of a point. -/
def kb (t : Fin cfg0.N) : Fin 4 := ⟨t.val % 4, by omega⟩
def ib (t : Fin cfg0.N) : Fin 2 := ⟨t.val / 4, by have : t.val < 8 := Nat.lt_of_lt_of_eq t.isLt N_0; omega⟩

theorem iblk0 (c : Dev nD) (t : Fin cfg0.N) :
    iblk m c 0 t = fun y : S1024x2048.Idx => aA m c (ix2 (at_ (by decide) (kb t) (y 0)) (at_ (by decide) (ib t) (y 1))) := by
  funext y
  blk_simp [iblk]
  rw [V_main_arg0]
  refine congrArg (aA m c) ?_
  blk_ext [idx0, at_, kb, ib]

theorem iblk1 (c : Dev nD) (t : Fin cfg0.N) :
    iblk m c 1 t = fun y : S1024x1024.Idx => bA m c (ix2 (at_ (by decide) (kb t) (y 0)) (y 1)) := by
  funext y
  blk_simp [iblk]
  rw [V_main_arg1]
  refine congrArg (bA m c) ?_
  blk_ext [idx1, at_, kb]

theorem prod_sum (c : Dev nD) (t : Fin cfg0.N) :
    prod (iblk m c 0 t) (iblk m c 1 t) = fun y => ∑ s : Fin 1024, (fun k : Fin 4096 =>
      aA m c (ix2 k (at_ (by decide : 2 * 2048 = 4096) (ib t) (y 0))) * bA m c (ix2 k (y 1))) (at_ (by decide : 4 * 1024 = 4096) (kb t) s) := by
  rw [iblk0, iblk1]
  rfl

/-- What the scratch holds after a point. -/
theorem scratch_last (c : Dev nD) (t : Fin cfg0.N) (ht : t.val % 4 = 3) :
    (outsAt0 m c t.val t.isLt).2 = fun y : S2048x1024.Idx => whole (aA m c) (bA m c) (ix2 (at_ (by decide) (ib t) (y 0)) (y 1)) := by
  have key := Pipeline.eq_sum_fin_of_reset_step_of_flush (fun n hn => (outsAt0 m c n hn).2) 4 (0 : S2048x1024.Idx → EReal)
    (fun t => prod (iblk m c 0 t) (iblk m c 1 t)) (fun t h0 => ?_) (fun t h0 => ?_) t ht
  · refine key.trans ?_
    rw [zero_add]
    funext y
    rw [Finset.sum_apply]
    refine Eq.trans (Finset.sum_congr rfl fun s _ => ?_)
      (sum_blocks (by decide : 4 * 1024 = 4096) fun k : Fin 4096 =>
        aA m c (ix2 k (at_ (by decide : 2 * 2048 = 4096) (ib t) (y 0))) * bA m c (ix2 k (y 1)))
    refine (congrFun (prod_sum m c _) y).trans ?_
    have e1 : kb ⟨4 * (t.val / 4) + s.val, Pipeline.run_point_lt_of_flush t ht s⟩ = s := by
      apply Fin.ext; show (4 * (t.val / 4) + s.val) % 4 = s.val; omega
    have e2 : ib ⟨4 * (t.val / 4) + s.val, Pipeline.run_point_lt_of_flush t ht s⟩ = ib t := by
      apply Fin.ext; show (4 * (t.val / 4) + s.val) / 4 = t.val / 4; omega
    rw [e1, e2]
  · show (outsAt0 m c t.val t.isLt).2 = _
    have h1 : ¬ t.val % 4 = 3 := by omega
    refine (congrArg Prod.snd (outsAt0_A m c t h0 h1)).trans ?_
    dsimp only
    exact scratch_A c t (iblk m c 0 t) (iblk m c 1 t) ((hcond0_0 t).mpr h0) (fun h => h1 ((hcond0_1 t).mp h))
  · show (outsAt0 m c t.val t.isLt).2 = _
    by_cases h1 : t.val % 4 = 3
    · refine (congrArg Prod.snd (outsAt0_C m c t h0 h1)).trans ?_
      dsimp only
      exact scratch_C c t (iblk m c 0 t) (iblk m c 1 t) (fun h => h0 ((hcond0_0 t).mp h)) ((hcond0_1 t).mpr h1) (outsAt0 m c (t.val - 1) (Nat.lt_of_le_of_lt (Nat.sub_le _ _) t.isLt)).2
    · refine (congrArg Prod.snd (outsAt0_B m c t h0 h1)).trans ?_
      dsimp only
      exact scratch_B c t (iblk m c 0 t) (iblk m c 1 t) (fun h => h0 ((hcond0_0 t).mp h)) (fun h => h1 ((hcond0_1 t).mp h)) (outsAt0 m c (t.val - 1) (Nat.lt_of_le_of_lt (Nat.sub_le _ _) t.isLt)).2

theorem out_last (c : Dev nD) (t : Fin cfg0.N) (ht : t.val % 4 = 3) :
    (outsAt0 m c t.val t.isLt).1 = fun y : S2048x1024.Idx => whole (aA m c) (bA m c) (ix2 (at_ (by decide) (ib t) (y 0)) (y 1)) := by
  have h0 : ¬ t.val % 4 = 0 := by omega
  rw [← scratch_last m c t ht]
  refine (congrArg Prod.fst (outsAt0_C m c t h0 ht)).trans (Eq.trans ?_ (congrArg Prod.snd (outsAt0_C m c t h0 ht)).symm)
  dsimp only
  refine (block_C c t (iblk m c 0 t) (iblk m c 1 t) (fun h => h0 ((hcond0_0 t).mp h)) ((hcond0_1 t).mpr ht) (outsAt0 m c (t.val - 1) (Nat.lt_of_le_of_lt (Nat.sub_le _ _) t.isLt)).2).trans ?_
  exact (scratch_C c t (iblk m c 0 t) (iblk m c 1 t) (fun h => h0 ((hcond0_0 t).mp h)) ((hcond0_1 t).mpr ht) (outsAt0 m c (t.val - 1) (Nat.lt_of_le_of_lt (Nat.sub_le _ _) t.isLt)).2).symm

theorem final (c : Dev nD) : (dats m 0 c).arrAt 2 cfg0.N = whole (aA m c) (bA m c) := by
  refine (dats m 0 c).arrAt_eq_of_covers 2 _ (by decide +kernel) fun t hf y => ?_
  blk_simp
  rw [after0_2, out_last m c t ((flush0_2 t).mp hf)]
  refine congrArg (whole (aA m c) (bA m c)) ?_
  blk_ext [idx2, at_, ib]

open Cert.Reference3Ideal.Read in
/-- The reference's result is the same sum. -/
theorem ref_eq (a : S4096x4096.Idx → EReal) (b : S4096x1024.Idx → EReal) : val_main_v6 (F := Ideal) a b = whole a b := by
  funext y
  refine (val_main_v6_apply (F := Ideal) a b y).trans ((val_main_v5_apply (F := Ideal) a b _).trans ((val_main_v4_apply a b _).trans
    (Finset.sum_congr rfl fun k _ => ?_)))
  rw [mul_comm]
  refine congrArg₂ (fun x y : EReal => x * y) (congrArg a (funext fun i => ?_)) (congrArg b (funext fun i => ?_)) <;>
  match i with
  | ⟨0, _⟩ => rfl
  | ⟨1, _⟩ => rfl

end Cert.Proof.Down
end
-- ==== Proof.Up.lean ====
/- The gradient of `w_up`: the kernel sums two blocks of rows for each block of columns; the first four blocks of columns come from the gate, the last four from the up projection. -/
module

public import proofs.«01_k».proof.Proof.Sums
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Up

open Idealize.ShloMosaic Idealize.ShloMosaic.TcCoe Cert.Kernel4Ideal Cert.Kernel4Ideal.Gen Cert.Kernel4Ideal.Value
open Idealize.SL Idealize.SL.Sem

/-- One block's product. -/
def prod (x0 : S2048x1024.Idx → EReal) (x1 : S2048x1024.Idx → EReal) : S1024x1024.Idx → EReal :=
  fun y => ∑ k : Fin 2048, x0 (ix2 k (y 0)) * x1 (ix2 k (y 1))

theorem pay2_apply (v3 : Vec Ideal S1024x1024 .f32) (x0 : Vec Ideal S2048x1024 .bf16) (x1 : Vec Ideal S2048x1024 .bf16) :
    k0_pay2 v3 x0 x1 = fun y => v3 y + prod x0 x1 y := by
  suffices H : ∀ (i : Fin 1024) (j : Fin 1024), k0_pay2 v3 x0 x1 (ix2 i j) = v3 (ix2 i j) + prod x0 x1 (ix2 i j) from
    funext fun y => by rw [eq_ix2 (n0 := 1024) (n1 := 1024) y]; exact H _ _
  intro i j
  pointwise [k0_pay2]
  rfl

theorem pay3_apply (v3 : Vec Ideal S1024x1024 .f32) (x0 : Vec Ideal S2048x1024 .bf16) (x1 : Vec Ideal S2048x1024 .bf16) :
    k0_pay3 v3 x0 x1 = fun y => v3 y + prod x0 x1 y := pay2_apply v3 x0 x1

theorem pay4_apply (v : Vec Ideal S1024x1024 .f32) : k0_pay4 v = fun y : S1x1024x1024.Idx => v (ix2 (y 1) (y 2)) := by
  suffices H : ∀ (b : Fin 1) (i : Fin 1024) (j : Fin 1024), k0_pay4 v (ix3 b i j) = v (ix2 i j) from
    funext fun y => by rw [eq_ix3 (n0 := 1) (n1 := 1024) (n2 := 1024) y]; exact H _ _ _
  intro b i j
  pointwise [k0_pay4]

section
variable (c : Dev nD) (t : Fin cfg0.N) (x0 : Vec Ideal S2048x1024 .bf16) (x1 : Vec Ideal S2048x1024 .bf16) (x2 : Vec Ideal S2048x1024 .bf16)

theorem scratch_A (h0 : cond0_0 (grid0.coords t)) (h1 : cond0_1 (grid0.coords t)) (h2 : ¬ cond0_2 (grid0.coords t)) (h3 : ¬ cond0_3 (grid0.coords t)) :
    sout0_A_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2
      = 0 + prod x0 x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  rw [pay2_apply]
  funext y
  exact congrArg (· + _) Ideal.ofBits_zero_f32

theorem scratch_B (h0 : ¬ cond0_0 (grid0.coords t)) (h1 : cond0_1 (grid0.coords t)) (h2 : ¬ cond0_2 (grid0.coords t)) (h3 : cond0_3 (grid0.coords t)) (xs : Vec Ideal S1024x1024 .f32) :
    sout0_B_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = xs + prod x0 x1 := by
  unfold sout0_B_0
  rw [View.read_writes_eq_canon _ _ _ (scover0_B_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_B
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  exact pay2_apply _ _ _

theorem scratch_C (h0 : cond0_0 (grid0.coords t)) (h1 : ¬ cond0_1 (grid0.coords t)) (h2 : cond0_2 (grid0.coords t)) (h3 : ¬ cond0_3 (grid0.coords t)) :
    sout0_C_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2
      = 0 + prod x0 x2 := by
  unfold sout0_C_0
  rw [View.read_writes_eq_canon _ _ _ (scover0_C_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2)]
  unfold kernelRun0_C
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  rw [pay3_apply]
  funext y
  exact congrArg (· + _) Ideal.ofBits_zero_f32

theorem scratch_D (h0 : ¬ cond0_0 (grid0.coords t)) (h1 : ¬ cond0_1 (grid0.coords t)) (h2 : cond0_2 (grid0.coords t)) (h3 : cond0_3 (grid0.coords t)) (xs : Vec Ideal S1024x1024 .f32) :
    sout0_D_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = xs + prod x0 x2 := by
  unfold sout0_D_0
  rw [View.read_writes_eq_canon _ _ _ (scover0_D_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_D
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  exact pay3_apply _ _ _

theorem block_B (h0 : ¬ cond0_0 (grid0.coords t)) (h1 : cond0_1 (grid0.coords t)) (h2 : ¬ cond0_2 (grid0.coords t)) (h3 : cond0_3 (grid0.coords t)) (xs : Vec Ideal S1024x1024 .f32) :
    out0_B_3 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = fun y : S1x1024x1024.Idx => (xs + prod x0 x1) (ix2 (y 1) (y 2)) := by
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_B
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  rw [pay4_apply, pay2_apply]
  rfl

theorem block_D (h0 : ¬ cond0_0 (grid0.coords t)) (h1 : ¬ cond0_1 (grid0.coords t)) (h2 : cond0_2 (grid0.coords t)) (h3 : cond0_3 (grid0.coords t)) (xs : Vec Ideal S1024x1024 .f32) :
    out0_D_3 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = fun y : S1x1024x1024.Idx => (xs + prod x0 x2) (ix2 (y 1) (y 2)) := by
  unfold out0_D_3
  rw [View.read_writes_eq_canon _ _ _ (cover0_D_3 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_D
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  rw [pay4_apply, pay3_apply]
  rfl
end

variable (m : (ℓ : Loc nD τ sig) → Buf (Elt Ideal) ℓ)

/-- The input of the projections and the gradients of the gate and of the up projection of a device, as arrays of numbers. -/
abbrev aA (c : Dev nD) : S4096x1024.Idx → EReal := m ((c : Thread nD τ).loc main_arg0)
abbrev gA (c : Dev nD) : S4096x4096.Idx → EReal := m ((c : Thread nD τ).loc main_arg1)
abbrev uA (c : Dev nD) : S4096x4096.Idx → EReal := m ((c : Thread nD τ).loc main_arg2)

/-- A column of the first four blocks, and of the last four. -/
def colG (b : Fin 8) (j : Fin 1024) : Fin 4096 := ⟨min (1024 * b.val + j.val) 4095, by omega⟩
def colU (b : Fin 8) (j : Fin 1024) : Fin 4096 := ⟨min (1024 * (b.val - 4) + j.val) 4095, by omega⟩

/-- The two gradients next to each other. -/
def both (g u : S4096x4096.Idx → EReal) (k : Fin 4096) (b : Fin 8) (j : Fin 1024) : EReal :=
  if b.val < 4 then g (ix2 k (colG b j)) else u (ix2 k (colU b j))

/-- The whole product. -/
def whole (a : S4096x1024.Idx → EReal) (g u : S4096x4096.Idx → EReal) : S8x1024x1024.Idx → EReal :=
  fun y => ∑ k : Fin 4096, a (ix2 k (y 1)) * both g u k (y 0) (y 2)

theorem idx0 : ∀ t : Fin cfg0.N, win0_0.index t = ![t.val % 2, 0] := (by decide +kernel : ∀ t : Fin grid0.N, _)
theorem idx1 : ∀ t : Fin cfg0.N, win0_1.index t = ![t.val % 2, min (t.val / 2) 3] := (by decide +kernel : ∀ t : Fin grid0.N, _)
theorem idx2 : ∀ t : Fin cfg0.N, win0_2.index t = ![t.val % 2, t.val / 2 - 4] := (by decide +kernel : ∀ t : Fin grid0.N, _)
theorem idx3 : ∀ t : Fin cfg0.N, win0_3.index t = ![t.val / 2, 0, 0] := (by decide +kernel : ∀ t : Fin grid0.N, _)

theorem lt16 (t : Fin cfg0.N) : t.val < 16 := Nat.lt_of_lt_of_eq t.isLt N_0

/-- The block of rows and the block of columns of a point. -/
def kb (t : Fin cfg0.N) : Fin 2 := ⟨t.val % 2, by omega⟩
def jb (t : Fin cfg0.N) : Fin 8 := ⟨t.val / 2, by have := lt16 t; omega⟩

theorem iblk0 (c : Dev nD) (t : Fin cfg0.N) :
    iblk m c 0 t = fun y : S2048x1024.Idx => aA m c (ix2 (at_ (by decide) (kb t) (y 0)) (y 1)) := by
  funext y
  blk_simp [iblk]
  rw [V_main_arg0]
  refine congrArg (aA m c) ?_
  blk_ext [idx0, at_, kb]

theorem iblk1 (c : Dev nD) (t : Fin cfg0.N) (ht : t.val < 8) :
    iblk m c 1 t = fun y : S2048x1024.Idx => gA m c (ix2 (at_ (by decide) (kb t) (y 0)) (colG (jb t) (y 1))) := by
  funext y
  have e : win0_1.index t = ![t.val % 2, t.val / 2] := (idx1 t).trans (by rw [Nat.min_eq_left (by omega)])
  have e' : colG (jb t) (y 1) = ⟨1024 * (t.val / 2) + (y 1).val, by have h : (y 1).val < 1024 := (y 1).isLt; omega⟩ :=
    Fin.ext (Nat.min_eq_left (by have h : (y 1).val < 1024 := (y 1).isLt; show 1024 * (t.val / 2) + (y 1).val ≤ 4095; omega))
  rw [e']
  blk_simp [iblk]
  rw [V_main_arg1]
  refine congrArg (gA m c) ?_
  blk_ext [e, at_, kb]

theorem iblk2 (c : Dev nD) (t : Fin cfg0.N) (ht : ¬ t.val < 8) :
    iblk m c 2 t = fun y : S2048x1024.Idx => uA m c (ix2 (at_ (by decide) (kb t) (y 0)) (colU (jb t) (y 1))) := by
  funext y
  have h16 := lt16 t
  have e' : colU (jb t) (y 1) = ⟨1024 * (t.val / 2 - 4) + (y 1).val, by have h : (y 1).val < 1024 := (y 1).isLt; omega⟩ :=
    Fin.ext (Nat.min_eq_left (by have h : (y 1).val < 1024 := (y 1).isLt; show 1024 * (t.val / 2 - 4) + (y 1).val ≤ 4095; omega))
  rw [e']
  blk_simp [iblk]
  rw [V_main_arg2]
  refine congrArg (uA m c) ?_
  blk_ext [idx2, at_, kb]

/-- One block's product as a part of the whole sum. -/
def term (c : Dev nD) (t : Fin cfg0.N) : S1024x1024.Idx → EReal :=
  if t.val < 8 then prod (iblk m c 0 t) (iblk m c 1 t) else prod (iblk m c 0 t) (iblk m c 2 t)

theorem term_sum (c : Dev nD) (t : Fin cfg0.N) :
    term m c t = fun y => ∑ s : Fin 2048, (fun k : Fin 4096 =>
      aA m c (ix2 k (y 0)) * both (gA m c) (uA m c) k (jb t) (y 1)) (at_ (by decide : 2 * 2048 = 4096) (kb t) s) := by
  unfold term
  by_cases ht : t.val < 8
  · rw [if_pos ht, iblk0, iblk1 m c t ht]
    funext y
    refine Finset.sum_congr rfl fun s _ => congrArg (fun x : EReal => aA m c (ix2 (at_ (by decide) (kb t) s) (y 0)) * x) ?_
    have h : (jb t).val < 4 := by show t.val / 2 < 4; omega
    exact (if_pos h).symm
  · rw [if_neg ht, iblk0, iblk2 m c t ht]
    funext y
    refine Finset.sum_congr rfl fun s _ => congrArg (fun x : EReal => aA m c (ix2 (at_ (by decide) (kb t) s) (y 0)) * x) ?_
    have h : ¬ (jb t).val < 4 := by show ¬ t.val / 2 < 4; omega
    exact (if_neg h).symm

/-- What the scratch holds after a block of columns is done. -/
theorem scratch_last (c : Dev nD) (t : Fin cfg0.N) (ht : t.val % 2 = 1) :
    (outsAt0 m c t.val t.isLt).2 = fun y : S1024x1024.Idx => whole (aA m c) (gA m c) (uA m c) (ix3 (jb t) (y 0) (y 1)) := by
  have key := Pipeline.eq_sum_fin_of_reset_step_of_flush (fun n hn => (outsAt0 m c n hn).2) 2 (0 : S1024x1024.Idx → EReal)
    (fun t => term m c t) (fun t h0 => ?_) (fun t h0 => ?_) t ht
  · refine key.trans ?_
    rw [zero_add]
    funext y
    rw [Finset.sum_apply]
    refine Eq.trans (Finset.sum_congr rfl fun s _ => ?_)
      (sum_blocks (by decide : 2 * 2048 = 4096) fun k : Fin 4096 =>
        aA m c (ix2 k (y 0)) * both (gA m c) (uA m c) k (jb t) (y 1))
    refine (congrFun (term_sum m c _) y).trans ?_
    have e1 : kb ⟨2 * (t.val / 2) + s.val, Pipeline.run_point_lt_of_flush t ht s⟩ = s := by
      apply Fin.ext; show (2 * (t.val / 2) + s.val) % 2 = s.val; omega
    have e2 : jb ⟨2 * (t.val / 2) + s.val, Pipeline.run_point_lt_of_flush t ht s⟩ = jb t := by
      apply Fin.ext; show (2 * (t.val / 2) + s.val) / 2 = t.val / 2; omega
    rw [e1, e2]
  · show (outsAt0 m c t.val t.isLt).2 = _
    have h3 : ¬ t.val % 2 = 1 := by omega
    by_cases h1 : t.val < 8
    · have h2 : ¬ 8 ≤ t.val := by omega
      refine (congrArg Prod.snd (outsAt0_A m c t h0 h1 h2 h3)).trans ?_
      dsimp only
      exact (scratch_A c t (iblk m c 0 t) (iblk m c 1 t) (iblk m c 2 t) ((hcond0_0 t).mpr h0) ((hcond0_1 t).mpr h1) (fun h => h2 ((hcond0_2 t).mp h)) (fun h => h3 ((hcond0_3 t).mp h))).trans (congrArg (0 + ·) (if_pos h1).symm)
    · have h2 : 8 ≤ t.val := by omega
      refine (congrArg Prod.snd (outsAt0_C m c t h0 h1 h2 h3)).trans ?_
      dsimp only
      exact (scratch_C c t (iblk m c 0 t) (iblk m c 1 t) (iblk m c 2 t) ((hcond0_0 t).mpr h0) (fun h => h1 ((hcond0_1 t).mp h)) ((hcond0_2 t).mpr h2) (fun h => h3 ((hcond0_3 t).mp h))).trans (congrArg (0 + ·) (if_neg h1).symm)
  · show (outsAt0 m c t.val t.isLt).2 = _
    have h3 : t.val % 2 = 1 := by omega
    by_cases h1 : t.val < 8
    · have h2 : ¬ 8 ≤ t.val := by omega
      refine (congrArg Prod.snd (outsAt0_B m c t h0 h1 h2 h3)).trans ?_
      dsimp only
      exact (scratch_B c t (iblk m c 0 t) (iblk m c 1 t) (iblk m c 2 t) (fun h => h0 ((hcond0_0 t).mp h)) ((hcond0_1 t).mpr h1) (fun h => h2 ((hcond0_2 t).mp h)) ((hcond0_3 t).mpr h3) (outsAt0 m c (t.val - 1) (Nat.lt_of_le_of_lt (Nat.sub_le _ _) t.isLt)).2).trans (congrArg ((outsAt0 m c (t.val - 1) (Nat.lt_of_le_of_lt (Nat.sub_le _ _) t.isLt)).2 + ·) (if_pos h1).symm)
    · have h2 : 8 ≤ t.val := by omega
      refine (congrArg Prod.snd (outsAt0_D m c t h0 h1 h2 h3)).trans ?_
      dsimp only
      exact (scratch_D c t (iblk m c 0 t) (iblk m c 1 t) (iblk m c 2 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2).trans (congrArg ((outsAt0 m c (t.val - 1) (Nat.lt_of_le_of_lt (Nat.sub_le _ _) t.isLt)).2 + ·) (if_neg h1).symm)

theorem out_last (c : Dev nD) (t : Fin cfg0.N) (h3 : t.val % 2 = 1) :
    (outsAt0 m c t.val t.isLt).1 = fun y : S1x1024x1024.Idx => whole (aA m c) (gA m c) (uA m c) (ix3 (jb t) (y 1) (y 2)) := by
  have h0 : ¬ t.val % 2 = 0 := by omega
  by_cases h1 : t.val < 8
  · have h2 : ¬ 8 ≤ t.val := by omega
    refine (congrArg Prod.fst (outsAt0_B m c t h0 h1 h2 h3)).trans ?_
    dsimp only
    refine (block_B c t (iblk m c 0 t) (iblk m c 1 t) (iblk m c 2 t) (fun h => h0 ((hcond0_0 t).mp h)) ((hcond0_1 t).mpr h1) (fun h => h2 ((hcond0_2 t).mp h)) ((hcond0_3 t).mpr h3) (outsAt0 m c (t.val - 1) (Nat.lt_of_le_of_lt (Nat.sub_le _ _) t.isLt)).2).trans ?_
    rw [← scratch_B c t (iblk m c 0 t) (iblk m c 1 t) (iblk m c 2 t) (fun h => h0 ((hcond0_0 t).mp h)) ((hcond0_1 t).mpr h1) (fun h => h2 ((hcond0_2 t).mp h)) ((hcond0_3 t).mpr h3) (outsAt0 m c (t.val - 1) (Nat.lt_of_le_of_lt (Nat.sub_le _ _) t.isLt)).2]
    have key := scratch_last m c t h3
    rw [outsAt0_B m c t h0 h1 h2 h3] at key
    dsimp only at key
    rw [key]
    rfl
  · have h2 : 8 ≤ t.val := by omega
    refine (congrArg Prod.fst (outsAt0_D m c t h0 h1 h2 h3)).trans ?_
    dsimp only
    refine (block_D c t (iblk m c 0 t) (iblk m c 1 t) (iblk m c 2 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2).trans ?_
    rw [← scratch_D c t (iblk m c 0 t) (iblk m c 1 t) (iblk m c 2 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2]
    have key := scratch_last m c t h3
    rw [outsAt0_D m c t h0 h1 h2 h3] at key
    dsimp only at key
    rw [key]
    rfl

theorem final (c : Dev nD) : (dats m 0 c).arrAt 3 cfg0.N = whole (aA m c) (gA m c) (uA m c) := by
  refine (dats m 0 c).arrAt_eq_of_covers 3 _ (by decide +kernel) fun t hf y => ?_
  blk_simp
  rw [after0_3, out_last m c t ((flush0_3 t).mp hf)]
  refine congrArg (whole (aA m c) (gA m c) (uA m c)) ?_
  blk_ext [idx3, jb]

open Cert.Reference4Ideal.Read in
/-- The reference's result is the same sum. -/
theorem ref_eq (a : S4096x1024.Idx → EReal) (g u : S4096x4096.Idx → EReal) : val_main_v9 (F := Ideal) a g u = whole a g u := by
  funext y
  refine (val_main_v9_apply (F := Ideal) a g u y).trans ((val_main_v8_apply (F := Ideal) a g u y).trans ((val_main_v7_apply (F := Ideal) a g u _).trans
    ((val_main_v6_apply (F := Ideal) a g u _).trans ((val_main_v5_apply a g u _).trans (Finset.sum_congr rfl fun k _ => ?_)))))
  rw [mul_comm]
  have h0 : (y 0).val < 8 := (y 0).isLt
  have h1 : (y 1).val < 1024 := (y 1).isLt
  have h2 : (y 2).val < 1024 := (y 2).isLt
  refine congrArg₂ (fun x y : EReal => x * y) (congrArg a (funext fun i => ?_)) ?_
  · match i with
    | ⟨0, _⟩ => rfl
    | ⟨1, _⟩ => apply Fin.ext; show (((y 1).val * 8 + (y 0).val) * 1024 + (y 2).val) / 8192 = (y 1).val; omega
  · refine (val_main_v2_apply (F := Ideal) g u _).trans ?_
    show val_main_v1 (F := Ideal) g u _ = both g u k (y 0) (y 2)
    unfold both val_main_v1
    by_cases h : (y 0).val < 4
    · rw [if_pos h]
      refine concatenate_pair_apply_left (t := Cert.Reference4Ideal.S4096x8192) (s₁ := Cert.Reference4Ideal.S4096x4096) (s₂ := Cert.Reference4Ideal.S4096x4096) (1 : Fin 2) g u _ _ rfl _ fun i => ?_
      match i with
      | ⟨0, _⟩ => rfl
      | ⟨1, _⟩ => show min (1024 * (y 0).val + (y 2).val) 4095 = (((y 1).val * 8 + (y 0).val) * 1024 + (y 2).val) % 8192; omega
    · rw [if_neg h]
      refine concatenate_pair_apply_right (t := Cert.Reference4Ideal.S4096x8192) (s₁ := Cert.Reference4Ideal.S4096x4096) (s₂ := Cert.Reference4Ideal.S4096x4096) (1 : Fin 2) g u _ _ rfl rfl _ (fun i hi => ?_) ?_
      · match i with
        | ⟨0, _⟩ => rfl
        | ⟨1, _⟩ => exact absurd rfl hi
      · show min (1024 * ((y 0).val - 4) + (y 2).val) 4095 + 4096 = (((y 1).val * 8 + (y 0).val) * 1024 + (y 2).val) % 8192
        omega

end Cert.Proof.Up
end
-- ==== Proof.Dh.lean ====
/- The gradient of the input of the two projections: the kernel sums eight blocks of columns, the first four of the gate, the last four of the up projection. -/
module

public import proofs.«01_k».proof.Proof.Sums
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Dh

open Idealize.ShloMosaic Idealize.ShloMosaic.TcCoe Cert.Kernel5Ideal Cert.Kernel5Ideal.Gen Cert.Kernel5Ideal.Value
open Idealize.SL Idealize.SL.Sem

/-- One block's product. -/
def prod (x0 : S2048x1024.Idx → EReal) (x1 : S1x1024x1024.Idx → EReal) : S2048x1024.Idx → EReal :=
  fun y => ∑ k : Fin 1024, x0 (ix2 (y 0) k) * x1 (ix3 0 (y 1) k)

theorem pay2_apply (v3 : Vec Ideal S2048x1024 .f32) (x0 : Vec Ideal S2048x1024 .bf16) (x1 : Vec Ideal S1x1024x1024 .bf16) :
    k0_pay2 v3 x0 x1 = fun y => v3 y + prod x0 x1 y := by
  suffices H : ∀ (i : Fin 2048) (j : Fin 1024), k0_pay2 v3 x0 x1 (ix2 i j) = v3 (ix2 i j) + prod x0 x1 (ix2 i j) from
    funext fun y => by rw [eq_ix2 (n0 := 2048) (n1 := 1024) y]; exact H _ _
  intro i j
  pointwise [k0_pay2]
  rfl

theorem pay3_apply (v3 : Vec Ideal S2048x1024 .f32) (x0 : Vec Ideal S2048x1024 .bf16) (x1 : Vec Ideal S1x1024x1024 .bf16) :
    k0_pay3 v3 x0 x1 = fun y => v3 y + prod x0 x1 y := pay2_apply v3 x0 x1

section
variable (c : Dev nD) (t : Fin cfg0.N) (x0 : Vec Ideal S2048x1024 .bf16) (x1 : Vec Ideal S2048x1024 .bf16) (x2 : Vec Ideal S1x1024x1024 .bf16)

theorem scratch_A (h0 : cond0_0 (grid0.coords t)) (h1 : cond0_1 (grid0.coords t)) (h2 : ¬ cond0_2 (grid0.coords t)) (h3 : ¬ cond0_3 (grid0.coords t)) :
    sout0_A_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2
      = 0 + prod x0 x2 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  rw [pay2_apply]
  funext y
  exact congrArg (· + _) Ideal.ofBits_zero_f32

theorem scratch_B (h0 : ¬ cond0_0 (grid0.coords t)) (h1 : cond0_1 (grid0.coords t)) (h2 : ¬ cond0_2 (grid0.coords t)) (h3 : ¬ cond0_3 (grid0.coords t)) (xs : Vec Ideal S2048x1024 .f32) :
    sout0_B_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = xs + prod x0 x2 := by
  unfold sout0_B_0
  rw [View.read_writes_eq_canon _ _ _ (scover0_B_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_B
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  exact pay2_apply _ _ _

theorem scratch_C (h0 : ¬ cond0_0 (grid0.coords t)) (h1 : ¬ cond0_1 (grid0.coords t)) (h2 : cond0_2 (grid0.coords t)) (h3 : ¬ cond0_3 (grid0.coords t)) (xs : Vec Ideal S2048x1024 .f32) :
    sout0_C_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = xs + prod x1 x2 := by
  unfold sout0_C_0
  rw [View.read_writes_eq_canon _ _ _ (scover0_C_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_C
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  exact pay3_apply _ _ _

theorem scratch_D (h0 : ¬ cond0_0 (grid0.coords t)) (h1 : ¬ cond0_1 (grid0.coords t)) (h2 : cond0_2 (grid0.coords t)) (h3 : cond0_3 (grid0.coords t)) (xs : Vec Ideal S2048x1024 .f32) :
    sout0_D_0 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = xs + prod x1 x2 := by
  unfold sout0_D_0
  rw [View.read_writes_eq_canon _ _ _ (scover0_D_0 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_D
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  exact pay3_apply _ _ _

theorem block_D (h0 : ¬ cond0_0 (grid0.coords t)) (h1 : ¬ cond0_1 (grid0.coords t)) (h2 : cond0_2 (grid0.coords t)) (h3 : cond0_3 (grid0.coords t)) (xs : Vec Ideal S2048x1024 .f32) :
    out0_D_3 (F := Ideal) c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs
      = xs + prod x1 x2 := by
  unfold out0_D_3
  rw [View.read_writes_eq_canon _ _ _ (cover0_D_3 c (grid0.coords t) (ms0_0 t) (hs0_0 t) (ms0_1 t) (hs0_1 t) (ms0_2 t) (hs0_2 t) (ms0_3 t) (hs0_3 t) scM0_0 (Memref.isWhole_whole _) h0 h1 h2 h3 x0 x1 x2 xs)]
  unfold kernelRun0_D
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (hs0_2 t).read_unread, (Memref.isWhole_whole _).read_unread, View.ld_unit_lit]
  exact pay3_apply _ _ _
end

variable (m : (ℓ : Loc nD τ sig) → Buf (Elt Ideal) ℓ)

/-- The gradients of the gate and of the up projection and the weights of a device, as arrays of numbers. -/
abbrev gA (c : Dev nD) : S4096x4096.Idx → EReal := m ((c : Thread nD τ).loc main_arg0)
abbrev uA (c : Dev nD) : S4096x4096.Idx → EReal := m ((c : Thread nD τ).loc main_arg1)
abbrev wA (c : Dev nD) : S8x1024x1024.Idx → EReal := m ((c : Thread nD τ).loc main_arg2)

/-- The block of columns a column lies in, and its place there. -/
def hi (k : Fin 8192) : Fin 8 := ⟨k.val / 1024, by omega⟩
def lo (k : Fin 8192) : Fin 1024 := ⟨k.val % 1024, by omega⟩

/-- A column among the gate's, and among the up projection's. -/
def colG (k : Fin 8192) : Fin 4096 := ⟨min k.val 4095, by omega⟩
def colU (k : Fin 8192) : Fin 4096 := ⟨k.val - 4096, by omega⟩

/-- The two gradients next to each other. -/
def both (g u : S4096x4096.Idx → EReal) (i : Fin 4096) (k : Fin 8192) : EReal :=
  if k.val < 4096 then g (ix2 i (colG k)) else u (ix2 i (colU k))

/-- The whole product. -/
def whole (g u : S4096x4096.Idx → EReal) (w : S8x1024x1024.Idx → EReal) : S4096x1024.Idx → EReal :=
  fun y => ∑ k : Fin 8192, both g u (y 0) k * w (ix3 (hi k) (y 1) (lo k))

theorem idx0 : ∀ t : Fin cfg0.N, win0_0.index t = ![t.val / 8, min (t.val % 8) 3] := (by decide +kernel : ∀ t : Fin grid0.N, _)
theorem idx1 : ∀ t : Fin cfg0.N, win0_1.index t = ![t.val / 8, t.val % 8 - 4] := (by decide +kernel : ∀ t : Fin grid0.N, _)
theorem idx2 : ∀ t : Fin cfg0.N, win0_2.index t = ![t.val % 8, 0, 0] := (by decide +kernel : ∀ t : Fin grid0.N, _)
theorem idx3 : ∀ t : Fin cfg0.N, win0_3.index t = ![t.val / 8, 0] := (by decide +kernel : ∀ t : Fin grid0.N, _)

theorem lt16 (t : Fin cfg0.N) : t.val < 16 := Nat.lt_of_lt_of_eq t.isLt N_0

/-- The block of columns and the block of rows of a point. -/
def kb (t : Fin cfg0.N) : Fin 8 := ⟨t.val % 8, by omega⟩
def ib (t : Fin cfg0.N) : Fin 2 := ⟨t.val / 8, by have := lt16 t; omega⟩

theorem iblk0 (c : Dev nD) (t : Fin cfg0.N) (ht : t.val % 8 ≤ 3) :
    iblk m c 0 t = fun y : S2048x1024.Idx => gA m c (ix2 (at_ (by decide : 2 * 2048 = 4096) (ib t) (y 0)) (colG (at_ (by decide : 8 * 1024 = 8192) (kb t) (y 1)))) := by
  funext y
  have e : win0_0.index t = ![t.val / 8, t.val % 8] := (idx0 t).trans (by rw [Nat.min_eq_left ht])
  have e' : colG (at_ (by decide : 8 * 1024 = 8192) (kb t) (y 1)) = ⟨1024 * (t.val % 8) + (y 1).val, by have h : (y 1).val < 1024 := (y 1).isLt; omega⟩ :=
    Fin.ext (Nat.min_eq_left (by have h : (y 1).val < 1024 := (y 1).isLt; show 1024 * (t.val % 8) + (y 1).val ≤ 4095; omega))
  rw [e']
  blk_simp [iblk]
  rw [V_main_arg0]
  refine congrArg (gA m c) ?_
  blk_ext [e, at_, ib]

theorem iblk1 (c : Dev nD) (t : Fin cfg0.N) (ht : ¬ t.val % 8 ≤ 3) :
    iblk m c 1 t = fun y : S2048x1024.Idx => uA m c (ix2 (at_ (by decide : 2 * 2048 = 4096) (ib t) (y 0)) (colU (at_ (by decide : 8 * 1024 = 8192) (kb t) (y 1)))) := by
  funext y
  have e' : colU (at_ (by decide : 8 * 1024 = 8192) (kb t) (y 1)) = ⟨1024 * (t.val % 8 - 4) + (y 1).val, by have h : (y 1).val < 1024 := (y 1).isLt; omega⟩ :=
    Fin.ext (by have h : (y 1).val < 1024 := (y 1).isLt; show 1024 * (t.val % 8) + (y 1).val - 4096 = 1024 * (t.val % 8 - 4) + (y 1).val; omega)
  rw [e']
  blk_simp [iblk]
  rw [V_main_arg1]
  refine congrArg (uA m c) ?_
  blk_ext [idx1, at_, ib]

theorem iblk2 (c : Dev nD) (t : Fin cfg0.N) :
    iblk m c 2 t = fun y : S1x1024x1024.Idx => wA m c (ix3 (kb t) (y 1) (y 2)) := by
  funext y
  blk_simp [iblk]
  rw [V_main_arg2]
  refine congrArg (wA m c) ?_
  blk_ext [idx2, kb]

/-- One block's product as a part of the whole sum. -/
def term (c : Dev nD) (t : Fin cfg0.N) : S2048x1024.Idx → EReal :=
  if t.val % 8 ≤ 3 then prod (iblk m c 0 t) (iblk m c 2 t) else prod (iblk m c 1 t) (iblk m c 2 t)

theorem hi_at (b : Fin 8) (s : Fin 1024) : hi (at_ (by decide : 8 * 1024 = 8192) b s) = b := by
  apply Fin.ext; show (1024 * b.val + s.val) / 1024 = b.val; omega
theorem lo_at (b : Fin 8) (s : Fin 1024) : lo (at_ (by decide : 8 * 1024 = 8192) b s) = s := by
  apply Fin.ext; show (1024 * b.val + s.val) % 1024 = s.val; omega

theorem term_sum (c : Dev nD) (t : Fin cfg0.N) :
    term m c t = fun y => ∑ s : Fin 1024, (fun k : Fin 8192 =>
      both (gA m c) (uA m c) (at_ (by decide : 2 * 2048 = 4096) (ib t) (y 0)) k * wA m c (ix3 (hi k) (y 1) (lo k))) (at_ (by decide : 8 * 1024 = 8192) (kb t) s) := by
  unfold term
  by_cases ht : t.val % 8 ≤ 3
  · rw [if_pos ht, iblk0 m c t ht, iblk2]
    funext y
    refine Finset.sum_congr rfl fun s _ => congrArg₂ (fun x y : EReal => x * y) ?_ (congrArg (wA m c) ?_)
    · have h : (at_ (by decide : 8 * 1024 = 8192) (kb t) s).val < 4096 := by show 1024 * (t.val % 8) + s.val < 4096; omega
      exact (if_pos h).symm
    · show ix3 (kb t) (y 1) s = ix3 (hi (at_ (by decide : 8 * 1024 = 8192) (kb t) s)) (y 1) (lo (at_ (by decide : 8 * 1024 = 8192) (kb t) s))
      rw [hi_at, lo_at]
  · rw [if_neg ht, iblk1 m c t ht, iblk2]
    funext y
    refine Finset.sum_congr rfl fun s _ => congrArg₂ (fun x y : EReal => x * y) ?_ (congrArg (wA m c) ?_)
    · have h : ¬ (at_ (by decide : 8 * 1024 = 8192) (kb t) s).val < 4096 := by show ¬ 1024 * (t.val % 8) + s.val < 4096; omega
      exact (if_neg h).symm
    · show ix3 (kb t) (y 1) s = ix3 (hi (at_ (by decide : 8 * 1024 = 8192) (kb t) s)) (y 1) (lo (at_ (by decide : 8 * 1024 = 8192) (kb t) s))
      rw [hi_at, lo_at]

/-- What the scratch holds after a block of rows is done. -/
theorem scratch_last (c : Dev nD) (t : Fin cfg0.N) (ht : t.val % 8 = 7) :
    (outsAt0 m c t.val t.isLt).2 = fun y : S2048x1024.Idx => whole (gA m c) (uA m c) (wA m c) (ix2 (at_ (by decide : 2 * 2048 = 4096) (ib t) (y 0)) (y 1)) := by
  have key := Pipeline.eq_sum_fin_of_reset_step_of_flush (fun n hn => (outsAt0 m c n hn).2) 8 (0 : S2048x1024.Idx → EReal)
    (fun t => term m c t) (fun t h0 => ?_) (fun t h0 => ?_) t ht
  · refine key.trans ?_
    rw [zero_add]
    funext y
    rw [Finset.sum_apply]
    refine Eq.trans (Finset.sum_congr rfl fun s _ => ?_)
      (sum_blocks (by decide : 8 * 1024 = 8192) fun k : Fin 8192 =>
        both (gA m c) (uA m c) (at_ (by decide : 2 * 2048 = 4096) (ib t) (y 0)) k * wA m c (ix3 (hi k) (y 1) (lo k)))
    refine (congrFun (term_sum m c _) y).trans ?_
    have e1 : kb ⟨8 * (t.val / 8) + s.val, Pipeline.run_point_lt_of_flush t ht s⟩ = s := by
      apply Fin.ext; show (8 * (t.val / 8) + s.val) % 8 = s.val; omega
    have e2 : ib ⟨8 * (t.val / 8) + s.val, Pipeline.run_point_lt_of_flush t ht s⟩ = ib t := by
      apply Fin.ext; show (8 * (t.val / 8) + s.val) / 8 = t.val / 8; omega
    rw [e1, e2]
  · show (outsAt0 m c t.val t.isLt).2 = _
    have h1 : t.val % 8 ≤ 3 := by omega
    have h2 : ¬ 4 ≤ t.val % 8 := by omega
    have h3 : ¬ t.val % 8 = 7 := by omega
    refine (congrArg Prod.snd (outsAt0_A m c t h0 h1 h2 h3)).trans ?_
    dsimp only
    exact (scratch_A c t (iblk m c 0 t) (iblk m c 1 t) (iblk m c 2 t) ((hcond0_0 t).mpr h0) ((hcond0_1 t).mpr h1) (fun h => h2 ((hcond0_2 t).mp h)) (fun h => h3 ((hcond0_3 t).mp h))).trans (congrArg (0 + ·) (if_pos h1).symm)
  · show (outsAt0 m c t.val t.isLt).2 = _
    by_cases h1 : t.val % 8 ≤ 3
    · have h2 : ¬ 4 ≤ t.val % 8 := by omega
      have h3 : ¬ t.val % 8 = 7 := by omega
      refine (congrArg Prod.snd (outsAt0_B m c t h0 h1 h2 h3)).trans ?_
      dsimp only
      exact (scratch_B c t (iblk m c 0 t) (iblk m c 1 t) (iblk m c 2 t) (fun h => h0 ((hcond0_0 t).mp h)) ((hcond0_1 t).mpr h1) (fun h => h2 ((hcond0_2 t).mp h)) (fun h => h3 ((hcond0_3 t).mp h)) (outsAt0 m c (t.val - 1) (Nat.lt_of_le_of_lt (Nat.sub_le _ _) t.isLt)).2).trans (congrArg ((outsAt0 m c (t.val - 1) (Nat.lt_of_le_of_lt (Nat.sub_le _ _) t.isLt)).2 + ·) (if_pos h1).symm)
    · have h2 : 4 ≤ t.val % 8 := by omega
      by_cases h3 : t.val % 8 = 7
      · refine (congrArg Prod.snd (outsAt0_D m c t h0 h1 h2 h3)).trans ?_
        dsimp only
        exact (scratch_D c t (iblk m c 0 t) (iblk m c 1 t) (iblk m c 2 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2).trans (congrArg ((outsAt0 m c (t.val - 1) (Nat.lt_of_le_of_lt (Nat.sub_le _ _) t.isLt)).2 + ·) (if_neg h1).symm)
      · refine (congrArg Prod.snd (outsAt0_C m c t h0 h1 h2 h3)).trans ?_
        dsimp only
        exact (scratch_C c t (iblk m c 0 t) (iblk m c 1 t) (iblk m c 2 t) (fun h => h0 ((hcond0_0 t).mp h)) (fun h => h1 ((hcond0_1 t).mp h)) ((hcond0_2 t).mpr h2) (fun h => h3 ((hcond0_3 t).mp h)) (outsAt0 m c (t.val - 1) (Nat.lt_of_le_of_lt (Nat.sub_le _ _) t.isLt)).2).trans (congrArg ((outsAt0 m c (t.val - 1) (Nat.lt_of_le_of_lt (Nat.sub_le _ _) t.isLt)).2 + ·) (if_neg h1).symm)

theorem out_last (c : Dev nD) (t : Fin cfg0.N) (h3 : t.val % 8 = 7) :
    (outsAt0 m c t.val t.isLt).1 = fun y : S2048x1024.Idx => whole (gA m c) (uA m c) (wA m c) (ix2 (at_ (by decide : 2 * 2048 = 4096) (ib t) (y 0)) (y 1)) := by
  have h0 : ¬ t.val % 8 = 0 := by omega
  have h1 : ¬ t.val % 8 ≤ 3 := by omega
  have h2 : 4 ≤ t.val % 8 := by omega
  rw [← scratch_last m c t h3]
  refine (congrArg Prod.fst (outsAt0_D m c t h0 h1 h2 h3)).trans (Eq.trans ?_ (congrArg Prod.snd (outsAt0_D m c t h0 h1 h2 h3)).symm)
  dsimp only
  refine (block_D c t (iblk m c 0 t) (iblk m c 1 t) (iblk m c 2 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2).trans ?_
  exact (scratch_D c t (iblk m c 0 t) (iblk m c 1 t) (iblk m c 2 t) (fun h => h0 ((hcond0_0 t).mp h)) (fun h => h1 ((hcond0_1 t).mp h)) ((hcond0_2 t).mpr h2) ((hcond0_3 t).mpr h3) (outsAt0 m c (t.val - 1) (Nat.lt_of_le_of_lt (Nat.sub_le _ _) t.isLt)).2).symm

theorem final (c : Dev nD) : (dats m 0 c).arrAt 3 cfg0.N = whole (gA m c) (uA m c) (wA m c) := by
  refine (dats m 0 c).arrAt_eq_of_covers 3 _ (by decide +kernel) fun t hf y => ?_
  blk_simp
  rw [after0_3, out_last m c t ((flush0_3 t).mp hf)]
  refine congrArg (whole (gA m c) (uA m c) (wA m c)) ?_
  blk_ext [idx3, at_, ib]

open Cert.Reference5Ideal.Read in
/-- The reference's result is the same sum. -/
theorem ref_eq (g u : S4096x4096.Idx → EReal) (w : S8x1024x1024.Idx → EReal) : val_main_v7 (F := Ideal) g u w = whole g u w := by
  funext y
  refine (val_main_v7_apply g u w y).trans (Finset.sum_congr rfl fun k _ => ?_)
  have h1 : (y 1).val < 1024 := (y 1).isLt
  have hk : k.val < 8192 := k.isLt
  refine congrArg₂ (fun x y : EReal => x * y) ?_
    ((val_main_v2_apply (F := Ideal) w _).trans ((val_main_v1_apply (F := Ideal) w _).trans (congrArg w (funext fun i => ?_))))
  · refine (val_main_v4_apply (F := Ideal) g u _).trans ?_
    show val_main_v3 (F := Ideal) g u _ = both g u (y 0) k
    unfold both val_main_v3
    by_cases h : k.val < 4096
    · rw [if_pos h]
      refine concatenate_pair_apply_left (t := Cert.Reference5Ideal.S4096x8192) (s₁ := Cert.Reference5Ideal.S4096x4096) (s₂ := Cert.Reference5Ideal.S4096x4096) (1 : Fin 2) g u _ _ rfl _ fun i => ?_
      match i with
      | ⟨0, _⟩ => rfl
      | ⟨1, _⟩ => show min k.val 4095 = k.val; omega
    · rw [if_neg h]
      refine concatenate_pair_apply_right (t := Cert.Reference5Ideal.S4096x8192) (s₁ := Cert.Reference5Ideal.S4096x4096) (s₂ := Cert.Reference5Ideal.S4096x4096) (1 : Fin 2) g u _ _ rfl rfl _ (fun i hi => ?_) ?_
      · match i with
        | ⟨0, _⟩ => rfl
        | ⟨1, _⟩ => exact absurd rfl hi
      · show k.val - 4096 + 4096 = k.val
        omega
  · match i with
    | ⟨0, _⟩ => apply Fin.ext; show ((y 1).val * 8192 + k.val) / 1024 % 8 = k.val / 1024; omega
    | ⟨1, _⟩ => apply Fin.ext; show ((y 1).val * 8192 + k.val) / 8192 = (y 1).val; omega
    | ⟨2, _⟩ => apply Fin.ext; show ((y 1).val * 8192 + k.val) % 1024 = k.val % 1024; omega

end Cert.Proof.Dh
end
-- ==== Proof.Dw.lean ====
/- The gradient of square weights: the blocks of rows the kernel sums one after another in its scratch are all 4096 rows. -/
module

public import proofs.«01_k».proof.Proof.Sums
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Dw

open Idealize.ShloMosaic Idealize.ShloMosaic.TcCoe Cert.Kernel6Ideal Cert.Kernel6Ideal.Gen Cert.Kernel6Ideal.Value
open Idealize.SL Idealize.SL.Sem

/-- One block's product. -/
def prod (x0 : S1024x1024.Idx → EReal) (x1 : S1024x1024.Idx → EReal) : S1024x1024.Idx → EReal :=
  fun y => ∑ k : Fin 1024, x0 (ix2 k (y 0)) * x1 (ix2 k (y 1))

theorem pay2_apply (v3 : Vec Ideal S1024x1024 .f32) (x0 : Vec Ideal S1024x1024 .bf16) (x1 : Vec Ideal S1024x1024 .bf16) :
    k0_pay2 v3 x0 x1 = fun y => v3 y + prod x0 x1 y := by
  suffices H : ∀ (i : Fin 1024) (j : Fin 1024), k0_pay2 v3 x0 x1 (ix2 i j) = v3 (ix2 i j) + prod x0 x1 (ix2 i j) from
    funext fun y => by rw [eq_ix2 (n0 := 1024) (n1 := 1024) y]; exact H _ _
  intro i j
  pointwise [k0_pay2]
  rfl

section
variable (c : Dev nD) (t : Fin cfg0.N) (x0 : Vec Ideal S1024x1024 .bf16) (x1 : Vec Ideal S1024x1024 .bf16)

theorem scratch_A (h0 : cond0_0 (grid0.coords t)) (h1 : ¬ cond0_1 (grid0.coords t)) :
    sout0_A_0 (F := Ideal) c (grid0.coords t) (ms0_0 t) (hs0_0 t) (ms0_1 t) (hs0_1 t) (ms0_2 t) (hs0_2 t) scM0_0 (Memref.isWhole_whole _) h0 h1 x0 x1
      = 0 + prod x0 x1 := by
  unfold sout0_A_0
  rw [View.read_writes_eq_canon _ _ _ (scover0_A_0 c (grid0.coords t) (ms0_0 t) (hs0_0 t) (ms0_1 t) (hs0_1 t) (ms0_2 t) (hs0_2 t) scM0_0 (Memref.isWhole_whole _) h0 h1 x0 x1)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, View.ld_unit_lit]
  rw [pay2_apply]
  funext y
  exact congrArg (· + _) (Ideal.ofBits_zero_f32)

theorem scratch_B (h0 : ¬ cond0_0 (grid0.coords t)) (h1 : ¬ cond0_1 (grid0.coords t)) (xs : Vec Ideal S1024x1024 .f32) :
    sout0_B_0 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold sout0_B_0
  rw [View.read_writes_eq_canon _ _ _ (scover0_B_0 c (grid0.coords t) (ms0_0 t) (hs0_0 t) (ms0_1 t) (hs0_1 t) (ms0_2 t) (hs0_2 t) scM0_0 (Memref.isWhole_whole _) h0 h1 x0 x1 xs)]
  unfold kernelRun0_B
  dsimp only
  sl_unfold_words
  refine (View.canon_cons_unit_lit _ _ _ (by decide)).trans ?_
  simp (disch := first | rfl | decide | (intro a; fin_cases a <;> rfl)) only [View.readAt_eq_ld, (hs0_0 t).read_unread, (hs0_1 t).read_unread, (Memref.isWhole_whole _).read_unread, View.ld_unit_lit]
  exact pay2_apply _ _ _

theorem scratch_C (h0 : ¬ cond0_0 (grid0.coords t)) (h1 : cond0_1 (grid0.coords t)) (xs : Vec Ideal S1024x1024 .f32) :
    sout0_C_0 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold sout0_C_0
  rw [View.read_writes_eq_canon _ _ _ (scover0_C_0 c (grid0.coords t) (ms0_0 t) (hs0_0 t) (ms0_1 t) (hs0_1 t) (ms0_2 t) (hs0_2 t) scM0_0 (Memref.isWhole_whole _) h0 h1 x0 x1 xs)]
  unfold kernelRun0_C
  dsimp only
  sl_unfold_words
  refine (View.canon_cons_unit_lit _ _ _ (by decide)).trans ?_
  simp (disch := first | rfl | decide | (intro a; fin_cases a <;> rfl)) only [View.readAt_eq_ld, (hs0_0 t).read_unread, (hs0_1 t).read_unread, (Memref.isWhole_whole _).read_unread, View.ld_unit_lit]
  exact pay2_apply _ _ _

theorem block_C (h0 : ¬ cond0_0 (grid0.coords t)) (h1 : cond0_1 (grid0.coords t)) (xs : Vec Ideal S1024x1024 .f32) :
    out0_C_2 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold out0_C_2
  rw [View.read_writes_eq_canon _ _ _ (cover0_C_2 c (grid0.coords t) (ms0_0 t) (hs0_0 t) (ms0_1 t) (hs0_1 t) (ms0_2 t) (hs0_2 t) scM0_0 (Memref.isWhole_whole _) h0 h1 x0 x1 xs)]
  unfold kernelRun0_C
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (Memref.isWhole_whole _).read_unread, View.ld_unit_lit]
  exact pay2_apply _ _ _
end

variable (m : (ℓ : Loc nD τ sig) → Buf (Elt Ideal) ℓ)

/-- The input and the incoming gradient of a device, as arrays of numbers. -/
abbrev aA (c : Dev nD) : S4096x1024.Idx → EReal := m ((c : Thread nD τ).loc main_arg0)
abbrev bA (c : Dev nD) : S4096x1024.Idx → EReal := m ((c : Thread nD τ).loc main_arg1)

/-- The whole product. -/
def whole (a : S4096x1024.Idx → EReal) (b : S4096x1024.Idx → EReal) : S1024x1024.Idx → EReal :=
  fun y => ∑ k : Fin 4096, a (ix2 k (y 0)) * b (ix2 k (y 1))

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- The block of rows of a point. -/
def kb (t : Fin cfg0.N) : Fin 4 := ⟨t.val % 4, by omega⟩

theorem iblk0 (c : Dev nD) (t : Fin cfg0.N) :
    iblk m c 0 t = fun y : S1024x1024.Idx => aA m c (ix2 (at_ (by decide) (kb t) (y 0)) (y 1)) := by
  funext y
  blk_simp [iblk]
  rw [V_main_arg0]
  refine congrArg (aA m c) ?_
  blk_ext [idx0, at_, kb]

theorem iblk1 (c : Dev nD) (t : Fin cfg0.N) :
    iblk m c 1 t = fun y : S1024x1024.Idx => bA m c (ix2 (at_ (by decide) (kb t) (y 0)) (y 1)) := by
  funext y
  blk_simp [iblk]
  rw [V_main_arg1]
  refine congrArg (bA m c) ?_
  blk_ext [idx1, at_, kb]

theorem prod_sum (c : Dev nD) (t : Fin cfg0.N) :
    prod (iblk m c 0 t) (iblk m c 1 t) = fun y => ∑ s : Fin 1024, (fun k : Fin 4096 =>
      aA m c (ix2 k (y 0)) * bA m c (ix2 k (y 1))) (at_ (by decide : 4 * 1024 = 4096) (kb t) s) := by
  rw [iblk0, iblk1]
  rfl

/-- What the scratch holds after a point. -/
theorem scratch_last (c : Dev nD) (t : Fin cfg0.N) (ht : t.val % 4 = 3) :
    (outsAt0 m c t.val t.isLt).2 = fun y : S1024x1024.Idx => whole (aA m c) (bA m c) (ix2 (y 0) (y 1)) := by
  have key := Pipeline.eq_sum_fin_of_reset_step_of_flush (fun n hn => (outsAt0 m c n hn).2) 4 (0 : S1024x1024.Idx → EReal)
    (fun t => prod (iblk m c 0 t) (iblk m c 1 t)) (fun t h0 => ?_) (fun t h0 => ?_) t ht
  · refine key.trans ?_
    rw [zero_add]
    funext y
    rw [Finset.sum_apply]
    refine Eq.trans (Finset.sum_congr rfl fun s _ => ?_)
      (sum_blocks (by decide : 4 * 1024 = 4096) fun k : Fin 4096 =>
        aA m c (ix2 k (y 0)) * bA m c (ix2 k (y 1)))
    refine (congrFun (prod_sum m c _) y).trans ?_
    have e1 : kb ⟨4 * (t.val / 4) + s.val, Pipeline.run_point_lt_of_flush t ht s⟩ = s := by
      apply Fin.ext; show (4 * (t.val / 4) + s.val) % 4 = s.val; omega
    rw [e1]
  · show (outsAt0 m c t.val t.isLt).2 = _
    have h1 : ¬ t.val % 4 = 3 := by omega
    refine (congrArg Prod.snd (outsAt0_A m c t h0 h1)).trans ?_
    dsimp only
    exact scratch_A c t (iblk m c 0 t) (iblk m c 1 t) ((hcond0_0 t).mpr h0) (fun h => h1 ((hcond0_1 t).mp h))
  · show (outsAt0 m c t.val t.isLt).2 = _
    by_cases h1 : t.val % 4 = 3
    · refine (congrArg Prod.snd (outsAt0_C m c t h0 h1)).trans ?_
      dsimp only
      exact scratch_C c t (iblk m c 0 t) (iblk m c 1 t) (fun h => h0 ((hcond0_0 t).mp h)) ((hcond0_1 t).mpr h1) (outsAt0 m c (t.val - 1) (Nat.lt_of_le_of_lt (Nat.sub_le _ _) t.isLt)).2
    · refine (congrArg Prod.snd (outsAt0_B m c t h0 h1)).trans ?_
      dsimp only
      exact scratch_B c t (iblk m c 0 t) (iblk m c 1 t) (fun h => h0 ((hcond0_0 t).mp h)) (fun h => h1 ((hcond0_1 t).mp h)) (outsAt0 m c (t.val - 1) (Nat.lt_of_le_of_lt (Nat.sub_le _ _) t.isLt)).2

theorem out_last (c : Dev nD) (t : Fin cfg0.N) (ht : t.val % 4 = 3) :
    (outsAt0 m c t.val t.isLt).1 = fun y : S1024x1024.Idx => whole (aA m c) (bA m c) (ix2 (y 0) (y 1)) := by
  have h0 : ¬ t.val % 4 = 0 := by omega
  rw [← scratch_last m c t ht]
  refine (congrArg Prod.fst (outsAt0_C m c t h0 ht)).trans (Eq.trans ?_ (congrArg Prod.snd (outsAt0_C m c t h0 ht)).symm)
  dsimp only
  refine (block_C c t (iblk m c 0 t) (iblk m c 1 t) (fun h => h0 ((hcond0_0 t).mp h)) ((hcond0_1 t).mpr ht) (outsAt0 m c (t.val - 1) (Nat.lt_of_le_of_lt (Nat.sub_le _ _) t.isLt)).2).trans ?_
  exact (scratch_C c t (iblk m c 0 t) (iblk m c 1 t) (fun h => h0 ((hcond0_0 t).mp h)) ((hcond0_1 t).mpr ht) (outsAt0 m c (t.val - 1) (Nat.lt_of_le_of_lt (Nat.sub_le _ _) t.isLt)).2).symm

theorem final (c : Dev nD) : (dats m 0 c).arrAt 2 cfg0.N = whole (aA m c) (bA m c) := by
  refine (dats m 0 c).arrAt_eq_of_covers 2 _ (by decide +kernel) fun t hf y => ?_
  blk_simp
  rw [after0_2, out_last m c t ((flush0_2 t).mp hf)]
  refine congrArg (whole (aA m c) (bA m c)) ?_
  blk_ext [idx2, at_]

open Cert.Reference6Ideal.Read in
/-- The reference's result is the same sum. -/
theorem ref_eq (a : S4096x1024.Idx → EReal) (b : S4096x1024.Idx → EReal) : val_main_v6 (F := Ideal) a b = whole a b := by
  funext y
  refine (val_main_v6_apply (F := Ideal) a b y).trans ((val_main_v5_apply (F := Ideal) a b _).trans ((val_main_v4_apply a b _).trans
    (Finset.sum_congr rfl fun k _ => ?_)))
  rw [mul_comm]
  refine congrArg₂ (fun x y : EReal => x * y) (congrArg a (funext fun i => ?_)) (congrArg b (funext fun i => ?_)) <;>
  match i with
  | ⟨0, _⟩ => rfl
  | ⟨1, _⟩ => rfl

end Cert.Proof.Dw
end
-- ==== Proof.Dx.lean ====
/- The gradient of an input of a square product: at every point one block of rows times the transposed weights. -/
module

public import proofs.«01_k».proof.Proof.Sums
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Dx

open Idealize.ShloMosaic Idealize.ShloMosaic.TcCoe Cert.Kernel7Ideal Cert.Kernel7Ideal.Gen Cert.Kernel7Ideal.Value
open Idealize.SL Idealize.SL.Sem

/-- One block's product. -/
def prod (x0 : S2048x1024.Idx → EReal) (x1 : S1024x1024.Idx → EReal) : S2048x1024.Idx → EReal :=
  fun y => ∑ k : Fin 1024, x0 (ix2 (y 0) k) * x1 (ix2 (y 1) k)

theorem pay2_apply (v3 : Vec Ideal S2048x1024 .f32) (x0 : Vec Ideal S2048x1024 .bf16) (x1 : Vec Ideal S1024x1024 .bf16) :
    k0_pay2 v3 x0 x1 = fun y => v3 y + prod x0 x1 y := by
  suffices H : ∀ (i : Fin 2048) (j : Fin 1024), k0_pay2 v3 x0 x1 (ix2 i j) = v3 (ix2 i j) + prod x0 x1 (ix2 i j) from
    funext fun y => by rw [eq_ix2 (n0 := 2048) (n1 := 1024) y]; exact H _ _
  intro i j
  pointwise [k0_pay2]
  rfl

theorem block_A (c : Dev nD) (t : Fin cfg0.N) (x0 : Vec Ideal S2048x1024 .bf16) (x1 : Vec Ideal S1024x1024 .bf16)
    (h0 : cond0_0 (grid0.coords t)) (h1 : cond0_1 (grid0.coords t)) :
    out0_A_2 (F := Ideal) c (grid0.coords t) (ms0_0 t) (hs0_0 t) (ms0_1 t) (hs0_1 t) (ms0_2 t) (hs0_2 t) scM0_0 (Memref.isWhole_whole _) h0 h1 x0 x1
      = prod x0 x1 := by
  unfold out0_A_2
  rw [View.read_writes_eq_canon _ _ _ (cover0_A_2 c (grid0.coords t) (ms0_0 t) (hs0_0 t) (ms0_1 t) (hs0_1 t) (ms0_2 t) (hs0_2 t) scM0_0 (Memref.isWhole_whole _) h0 h1 x0 x1)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, View.ld_unit_lit]
  rw [pay2_apply]
  funext y
  refine Eq.trans (congrArg (· + _) Ideal.ofBits_zero_f32) (zero_add _)

variable (m : (ℓ : Loc nD τ sig) → Buf (Elt Ideal) ℓ)

/-- The two factors of a device, as arrays of numbers. -/
abbrev aA (c : Dev nD) : S4096x1024.Idx → EReal := m ((c : Thread nD τ).loc main_arg0)
abbrev bA (c : Dev nD) : S1024x1024.Idx → EReal := m ((c : Thread nD τ).loc main_arg1)

/-- The whole product. -/
def whole (a : S4096x1024.Idx → EReal) (b : S1024x1024.Idx → EReal) : S4096x1024.Idx → EReal :=
  fun y => ∑ k : Fin 1024, a (ix2 (y 0) k) * b (ix2 (y 1) k)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The block of results of a point. -/
def ib (t : Fin cfg0.N) : Fin 2 := ⟨t.val, Nat.lt_of_lt_of_eq t.isLt N_0⟩

theorem iblk0 (c : Dev nD) (t : Fin cfg0.N) :
    iblk m c 0 t = fun y : S2048x1024.Idx => aA m c (ix2 (at_ (by decide : 2 * 2048 = 4096) (ib t) (y 0)) (y 1)) := by
  funext y
  blk_simp [iblk]
  rw [V_main_arg0]
  refine congrArg (aA m c) ?_
  blk_ext [idx0, at_, ib]

theorem iblk1 (c : Dev nD) (t : Fin cfg0.N) :
    iblk m c 1 t = fun y : S1024x1024.Idx => bA m c (ix2 (y 0) (y 1)) := by
  funext y
  blk_simp [iblk]
  rw [V_main_arg1]
  refine congrArg (bA m c) ?_
  blk_ext [idx1, at_, ib]

theorem out_last (c : Dev nD) (t : Fin cfg0.N) :
    outsAt0 m c t = fun y : S2048x1024.Idx => whole (aA m c) (bA m c) (ix2 (at_ (by decide : 2 * 2048 = 4096) (ib t) (y 0)) (y 1)) := by
  refine Eq.trans (block_A c t (iblk m c 0 t) (iblk m c 1 t) (hcond0_0 t) (hcond0_1 t)) ?_
  rw [iblk0, iblk1]
  rfl

theorem final (c : Dev nD) : (dats m 0 c).arrAt 2 cfg0.N = whole (aA m c) (bA m c) := by
  refine (dats m 0 c).arrAt_eq_of_covers 2 _ (by decide +kernel) fun t hf y => ?_
  blk_simp
  rw [after0_2, out_last m c t]
  refine congrArg (whole (aA m c) (bA m c)) ?_
  blk_ext [idx2, at_, ib]

open Cert.Reference7Ideal.Read in
/-- The reference's result is the same sum. -/
theorem ref_eq (a : S4096x1024.Idx → EReal) (b : S1024x1024.Idx → EReal) : val_main_v5 (F := Ideal) a b = whole a b := by
  funext y
  refine ((val_main_v5_apply (F := Ideal) a b y).trans ((val_main_v4_apply a b _).trans
    (Finset.sum_congr rfl fun k _ => ?_)))
  refine congrArg₂ (fun x y : EReal => x * y) ((congrArg a (funext fun i => ?_))) ((congrArg b (funext fun i => ?_))) <;>
  match i with
  | ⟨0, _⟩ => rfl
  | ⟨1, _⟩ => rfl

end Cert.Proof.Dx
end
-- ==== Proof.Dmem.lean ====
/- The gradient of the memory: the blocks of columns the kernel sums one after another in its scratch are all 2048 columns. -/
module

public import proofs.«01_k».proof.Proof.Sums
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Dmem

open Idealize.ShloMosaic Idealize.ShloMosaic.TcCoe Cert.Kernel8Ideal Cert.Kernel8Ideal.Gen Cert.Kernel8Ideal.Value
open Idealize.SL Idealize.SL.Sem

/-- One block's product. -/
def prod (x0 : S256x256.Idx → EReal) (x1 : S1x1024x256.Idx → EReal) : S256x1024.Idx → EReal :=
  fun y => ∑ k : Fin 256, x0 (ix2 (y 0) k) * x1 (ix3 0 (y 1) k)

theorem pay2_apply (v3 : Vec Ideal S256x1024 .f32) (x0 : Vec Ideal S256x256 .bf16) (x1 : Vec Ideal S1x1024x256 .bf16) :
    k0_pay2 v3 x0 x1 = fun y => v3 y + prod x0 x1 y := by
  suffices H : ∀ (i : Fin 256) (j : Fin 1024), k0_pay2 v3 x0 x1 (ix2 i j) = v3 (ix2 i j) + prod x0 x1 (ix2 i j) from
    funext fun y => by rw [eq_ix2 (n0 := 256) (n1 := 1024) y]; exact H _ _
  intro i j
  pointwise [k0_pay2]
  rfl

section
variable (c : Dev nD) (t : Fin cfg0.N) (x0 : Vec Ideal S256x256 .bf16) (x1 : Vec Ideal S1x1024x256 .bf16)

theorem scratch_A (h0 : cond0_0 (grid0.coords t)) (h1 : ¬ cond0_1 (grid0.coords t)) :
    sout0_A_0 (F := Ideal) c (grid0.coords t) (ms0_0 t) (hs0_0 t) (ms0_1 t) (hs0_1 t) (ms0_2 t) (hs0_2 t) scM0_0 (Memref.isWhole_whole _) h0 h1 x0 x1
      = 0 + prod x0 x1 := by
  unfold sout0_A_0
  rw [View.read_writes_eq_canon _ _ _ (scover0_A_0 c (grid0.coords t) (ms0_0 t) (hs0_0 t) (ms0_1 t) (hs0_1 t) (ms0_2 t) (hs0_2 t) scM0_0 (Memref.isWhole_whole _) h0 h1 x0 x1)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, View.ld_unit_lit]
  rw [pay2_apply]
  funext y
  exact congrArg (· + _) (Ideal.ofBits_zero_f32)

theorem scratch_B (h0 : ¬ cond0_0 (grid0.coords t)) (h1 : ¬ cond0_1 (grid0.coords t)) (xs : Vec Ideal S256x1024 .f32) :
    sout0_B_0 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold sout0_B_0
  rw [View.read_writes_eq_canon _ _ _ (scover0_B_0 c (grid0.coords t) (ms0_0 t) (hs0_0 t) (ms0_1 t) (hs0_1 t) (ms0_2 t) (hs0_2 t) scM0_0 (Memref.isWhole_whole _) h0 h1 x0 x1 xs)]
  unfold kernelRun0_B
  dsimp only
  sl_unfold_words
  refine (View.canon_cons_unit_lit _ _ _ (by decide)).trans ?_
  simp (disch := first | rfl | decide | (intro a; fin_cases a <;> rfl)) only [View.readAt_eq_ld, (hs0_0 t).read_unread, (hs0_1 t).read_unread, (Memref.isWhole_whole _).read_unread, View.ld_unit_lit]
  exact pay2_apply _ _ _

theorem scratch_C (h0 : ¬ cond0_0 (grid0.coords t)) (h1 : cond0_1 (grid0.coords t)) (xs : Vec Ideal S256x1024 .f32) :
    sout0_C_0 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold sout0_C_0
  rw [View.read_writes_eq_canon _ _ _ (scover0_C_0 c (grid0.coords t) (ms0_0 t) (hs0_0 t) (ms0_1 t) (hs0_1 t) (ms0_2 t) (hs0_2 t) scM0_0 (Memref.isWhole_whole _) h0 h1 x0 x1 xs)]
  unfold kernelRun0_C
  dsimp only
  sl_unfold_words
  refine (View.canon_cons_unit_lit _ _ _ (by decide)).trans ?_
  simp (disch := first | rfl | decide | (intro a; fin_cases a <;> rfl)) only [View.readAt_eq_ld, (hs0_0 t).read_unread, (hs0_1 t).read_unread, (Memref.isWhole_whole _).read_unread, View.ld_unit_lit]
  exact pay2_apply _ _ _

theorem block_C (h0 : ¬ cond0_0 (grid0.coords t)) (h1 : cond0_1 (grid0.coords t)) (xs : Vec Ideal S256x1024 .f32) :
    out0_C_2 (F := Ideal) c (grid0.coords t) (ms0_0 t) (hs0_0 t) (ms0_1 t) (hs0_1 t) (ms0_2 t) (hs0_2 t) scM0_0 (Memref.isWhole_whole _) h0 h1 x0 x1 xs
      = xs + prod x0 x1 := by
  unfold out0_C_2
  rw [View.read_writes_eq_canon _ _ _ (cover0_C_2 c (grid0.coords t) (ms0_0 t) (hs0_0 t) (ms0_1 t) (hs0_1 t) (ms0_2 t) (hs0_2 t) scM0_0 (Memref.isWhole_whole _) h0 h1 x0 x1 xs)]
  unfold kernelRun0_C
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, (Memref.isWhole_whole _).read_unread, View.ld_unit_lit]
  exact pay2_apply _ _ _
end

variable (m : (ℓ : Loc nD τ sig) → Buf (Elt Ideal) ℓ)

/-- The incoming gradient and the weights of a device, as arrays of numbers. -/
abbrev aA (c : Dev nD) : S256x2048.Idx → EReal := m ((c : Thread nD τ).loc main_arg0)
abbrev bA (c : Dev nD) : S8x1024x256.Idx → EReal := m ((c : Thread nD τ).loc main_arg1)

/-- The block of columns a column lies in, and its place there. -/
def hi (k : Fin 2048) : Fin 8 := ⟨k.val / 256, by omega⟩
def lo (k : Fin 2048) : Fin 256 := ⟨k.val % 256, by omega⟩

/-- The whole product. -/
def whole (a : S256x2048.Idx → EReal) (b : S8x1024x256.Idx → EReal) : S256x1024.Idx → EReal :=
  fun y => ∑ k : Fin 2048, a (ix2 (y 0) k) * b (ix3 (hi k) (y 1) (lo k))

theorem idx0 : ∀ t : Fin cfg0.N, win0_0.index t = ![0, t.val] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)

/-- The block of columns of a point. -/
def kb (t : Fin cfg0.N) : Fin 8 := ⟨t.val, Nat.lt_of_lt_of_eq t.isLt N_0⟩

theorem iblk0 (c : Dev nD) (t : Fin cfg0.N) :
    iblk m c 0 t = fun y : S256x256.Idx => aA m c (ix2 (y 0) (at_ (by decide) (kb t) (y 1))) := by
  funext y
  blk_simp [iblk]
  rw [V_main_arg0]
  refine congrArg (aA m c) ?_
  blk_ext [idx0, at_, kb]

theorem iblk1 (c : Dev nD) (t : Fin cfg0.N) :
    iblk m c 1 t = fun y : S1x1024x256.Idx => bA m c (ix3 (kb t) (y 1) (y 2)) := by
  funext y
  blk_simp [iblk]
  rw [V_main_arg1]
  refine congrArg (bA m c) ?_
  blk_ext [idx1, at_, kb]

theorem prod_sum (c : Dev nD) (t : Fin cfg0.N) :
    prod (iblk m c 0 t) (iblk m c 1 t) = fun y => ∑ s : Fin 256, (fun k : Fin 2048 =>
      aA m c (ix2 (y 0) k) * bA m c (ix3 (hi k) (y 1) (lo k))) (at_ (by decide : 8 * 256 = 2048) (kb t) s) := by
  rw [iblk0, iblk1]
  funext y
  refine Finset.sum_congr rfl fun s _ => congrArg (fun x : EReal => aA m c (ix2 (y 0) (at_ (by decide) (kb t) s)) * x) (congrArg (bA m c) ?_)
  have e1 : hi (at_ (by decide : 8 * 256 = 2048) (kb t) s) = kb t := by
    apply Fin.ext; show (256 * (kb t).val + s.val) / 256 = (kb t).val; omega
  have e2 : lo (at_ (by decide : 8 * 256 = 2048) (kb t) s) = s := by
    apply Fin.ext; show (256 * (kb t).val + s.val) % 256 = s.val; omega
  rw [e1, e2]
  rfl

/-- What the scratch holds after a point. -/
theorem scratch_last (c : Dev nD) (t : Fin cfg0.N) (ht : t.val % 8 = 7) :
    (outsAt0 m c t.val t.isLt).2 = fun y : S256x1024.Idx => whole (aA m c) (bA m c) (ix2 (y 0) (y 1)) := by
  have key := Pipeline.eq_sum_fin_of_reset_step_of_flush (fun n hn => (outsAt0 m c n hn).2) 8 (0 : S256x1024.Idx → EReal)
    (fun t => prod (iblk m c 0 t) (iblk m c 1 t)) (fun t h0 => ?_) (fun t h0 => ?_) t ht
  · refine key.trans ?_
    rw [zero_add]
    funext y
    rw [Finset.sum_apply]
    refine Eq.trans (Finset.sum_congr rfl fun s _ => ?_)
      (sum_blocks (by decide : 8 * 256 = 2048) fun k : Fin 2048 =>
        aA m c (ix2 (y 0) k) * bA m c (ix3 (hi k) (y 1) (lo k)))
    refine (congrFun (prod_sum m c _) y).trans ?_
    have e1 : kb ⟨8 * (t.val / 8) + s.val, Pipeline.run_point_lt_of_flush t ht s⟩ = s := by
      apply Fin.ext; show 8 * (t.val / 8) + s.val = s.val; have : t.val < 8 := Nat.lt_of_lt_of_eq t.isLt N_0; omega
    rw [e1]
  · show (outsAt0 m c t.val t.isLt).2 = _
    have h1 : ¬ t.val % 8 = 7 := by omega
    refine (congrArg Prod.snd (outsAt0_A m c t h0 h1)).trans ?_
    dsimp only
    exact scratch_A c t (iblk m c 0 t) (iblk m c 1 t) ((hcond0_0 t).mpr h0) (fun h => h1 ((hcond0_1 t).mp h))
  · show (outsAt0 m c t.val t.isLt).2 = _
    by_cases h1 : t.val % 8 = 7
    · refine (congrArg Prod.snd (outsAt0_C m c t h0 h1)).trans ?_
      dsimp only
      exact scratch_C c t (iblk m c 0 t) (iblk m c 1 t) (fun h => h0 ((hcond0_0 t).mp h)) ((hcond0_1 t).mpr h1) (outsAt0 m c (t.val - 1) (Nat.lt_of_le_of_lt (Nat.sub_le _ _) t.isLt)).2
    · refine (congrArg Prod.snd (outsAt0_B m c t h0 h1)).trans ?_
      dsimp only
      exact scratch_B c t (iblk m c 0 t) (iblk m c 1 t) (fun h => h0 ((hcond0_0 t).mp h)) (fun h => h1 ((hcond0_1 t).mp h)) (outsAt0 m c (t.val - 1) (Nat.lt_of_le_of_lt (Nat.sub_le _ _) t.isLt)).2

theorem out_last (c : Dev nD) (t : Fin cfg0.N) (ht : t.val % 8 = 7) :
    (outsAt0 m c t.val t.isLt).1 = fun y : S256x1024.Idx => whole (aA m c) (bA m c) (ix2 (y 0) (y 1)) := by
  have h0 : ¬ t.val % 8 = 0 := by omega
  rw [← scratch_last m c t ht]
  refine (congrArg Prod.fst (outsAt0_C m c t h0 ht)).trans (Eq.trans ?_ (congrArg Prod.snd (outsAt0_C m c t h0 ht)).symm)
  dsimp only
  refine (block_C c t (iblk m c 0 t) (iblk m c 1 t) (fun h => h0 ((hcond0_0 t).mp h)) ((hcond0_1 t).mpr ht) (outsAt0 m c (t.val - 1) (Nat.lt_of_le_of_lt (Nat.sub_le _ _) t.isLt)).2).trans ?_
  exact (scratch_C c t (iblk m c 0 t) (iblk m c 1 t) (fun h => h0 ((hcond0_0 t).mp h)) ((hcond0_1 t).mpr ht) (outsAt0 m c (t.val - 1) (Nat.lt_of_le_of_lt (Nat.sub_le _ _) t.isLt)).2).symm

theorem final (c : Dev nD) : (dats m 0 c).arrAt 2 cfg0.N = whole (aA m c) (bA m c) := by
  refine (dats m 0 c).arrAt_eq_of_covers 2 _ (by decide +kernel) fun t hf y => ?_
  blk_simp
  rw [after0_2, out_last m c t ((flush0_2 t).mp hf)]
  refine congrArg (whole (aA m c) (bA m c)) ?_
  blk_ext [idx2, at_]

open Cert.Reference8Ideal.Read in
/-- The reference's result is the same sum. -/
theorem ref_eq (a : S256x2048.Idx → EReal) (b : S8x1024x256.Idx → EReal) : val_main_v6 (F := Ideal) a b = whole a b := by
  funext y
  refine (val_main_v6_apply a b y).trans (Finset.sum_congr rfl fun k _ => ?_)
  refine congrArg₂ (fun x y : EReal => x * y) (congrArg a (funext fun i => ?_))
    ((val_main_v2_apply (F := Ideal) b _).trans ((val_main_v1_apply (F := Ideal) b _).trans (congrArg b (funext fun i => ?_))))
  · match i with
    | ⟨0, _⟩ => rfl
    | ⟨1, _⟩ => rfl
  · have h0 : (y 1).val < 1024 := (y 1).isLt
    have h1 : k.val < 2048 := k.isLt
    match i with
    | ⟨0, _⟩ => apply Fin.ext; show ((y 1).val * 2048 + k.val) / 256 % 8 = k.val / 256; omega
    | ⟨1, _⟩ => apply Fin.ext; show ((y 1).val * 2048 + k.val) / 2048 = (y 1).val; omega
    | ⟨2, _⟩ => apply Fin.ext; show ((y 1).val * 2048 + k.val) % 256 = k.val % 256; omega

end Cert.Proof.Dmem
end
-- ==== Proof.Dxkv.lean ====
/- The gradient of the memory weights: at every point the memory transposed times one block of columns. -/
module

public import proofs.«01_k».proof.Proof.Sums
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Dxkv

open Idealize.ShloMosaic Idealize.ShloMosaic.TcCoe Cert.Kernel9Ideal Cert.Kernel9Ideal.Gen Cert.Kernel9Ideal.Value
open Idealize.SL Idealize.SL.Sem

/-- One block's product. -/
def prod (x0 : S256x1024.Idx → EReal) (x1 : S256x256.Idx → EReal) : S1024x256.Idx → EReal :=
  fun y => ∑ k : Fin 256, x0 (ix2 k (y 0)) * x1 (ix2 k (y 1))

theorem pay2_apply (v3 : Vec Ideal S1024x256 .f32) (x0 : Vec Ideal S256x1024 .bf16) (x1 : Vec Ideal S256x256 .bf16) :
    k0_pay2 v3 x0 x1 = fun y => v3 y + prod x0 x1 y := by
  suffices H : ∀ (i : Fin 1024) (j : Fin 256), k0_pay2 v3 x0 x1 (ix2 i j) = v3 (ix2 i j) + prod x0 x1 (ix2 i j) from
    funext fun y => by rw [eq_ix2 (n0 := 1024) (n1 := 256) y]; exact H _ _
  intro i j
  pointwise [k0_pay2]
  rfl

theorem pay3_apply (v : Vec Ideal S1024x256 .f32) : k0_pay3 v = fun y : S1x1024x256.Idx => v (ix2 (y 1) (y 2)) := by
  suffices H : ∀ (b : Fin 1) (i : Fin 1024) (j : Fin 256), k0_pay3 v (ix3 b i j) = v (ix2 i j) from
    funext fun y => by rw [eq_ix3 (n0 := 1) (n1 := 1024) (n2 := 256) y]; exact H _ _ _
  intro b i j
  pointwise [k0_pay3]

theorem block_A (c : Dev nD) (t : Fin cfg0.N) (x0 : Vec Ideal S256x1024 .bf16) (x1 : Vec Ideal S256x256 .bf16)
    (h0 : cond0_0 (grid0.coords t)) (h1 : cond0_1 (grid0.coords t)) :
    out0_A_2 (F := Ideal) c (grid0.coords t) (ms0_0 t) (hs0_0 t) (ms0_1 t) (hs0_1 t) (ms0_2 t) (hs0_2 t) scM0_0 (Memref.isWhole_whole _) h0 h1 x0 x1
      = fun y => prod x0 x1 (ix2 (y 1) (y 2)) := by
  unfold out0_A_2
  rw [View.read_writes_eq_canon _ _ _ (cover0_A_2 c (grid0.coords t) (ms0_0 t) (hs0_0 t) (ms0_1 t) (hs0_1 t) (ms0_2 t) (hs0_2 t) scM0_0 (Memref.isWhole_whole _) h0 h1 x0 x1)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, View.ld_unit_lit]
  rw [pay2_apply]
  rw [pay3_apply]
  funext y
  refine Eq.trans (congrArg (· + _) Ideal.ofBits_zero_f32) (zero_add _)

variable (m : (ℓ : Loc nD τ sig) → Buf (Elt Ideal) ℓ)

/-- The two factors of a device, as arrays of numbers. -/
abbrev aA (c : Dev nD) : S256x1024.Idx → EReal := m ((c : Thread nD τ).loc main_arg0)
abbrev bA (c : Dev nD) : S256x2048.Idx → EReal := m ((c : Thread nD τ).loc main_arg1)

/-- The whole product. -/
def whole (a : S256x1024.Idx → EReal) (b : S256x2048.Idx → EReal) : S8x1024x256.Idx → EReal :=
  fun y => ∑ k : Fin 256, a (ix2 k (y 1)) * b (ix2 k (at_ (by decide : 8 * 256 = 2048) (y 0) (y 2)))

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)

/-- The block of results of a point. -/
def ib (t : Fin cfg0.N) : Fin 8 := ⟨t.val, Nat.lt_of_lt_of_eq t.isLt N_0⟩

theorem iblk0 (c : Dev nD) (t : Fin cfg0.N) :
    iblk m c 0 t = fun y : S256x1024.Idx => aA m c (ix2 (y 0) (y 1)) := by
  funext y
  blk_simp [iblk]
  rw [V_main_arg0]
  refine congrArg (aA m c) ?_
  blk_ext [idx0, at_, ib]

theorem iblk1 (c : Dev nD) (t : Fin cfg0.N) :
    iblk m c 1 t = fun y : S256x256.Idx => bA m c (ix2 (y 0) (at_ (by decide : 8 * 256 = 2048) (ib t) (y 1))) := by
  funext y
  blk_simp [iblk]
  rw [V_main_arg1]
  refine congrArg (bA m c) ?_
  blk_ext [idx1, at_, ib]

theorem out_last (c : Dev nD) (t : Fin cfg0.N) :
    outsAt0 m c t = fun y : S1x1024x256.Idx => whole (aA m c) (bA m c) (ix3 (ib t) (y 1) (y 2)) := by
  refine Eq.trans (block_A c t (iblk m c 0 t) (iblk m c 1 t) (hcond0_0 t) (hcond0_1 t)) ?_
  rw [iblk0, iblk1]
  rfl

theorem final (c : Dev nD) : (dats m 0 c).arrAt 2 cfg0.N = whole (aA m c) (bA m c) := by
  refine (dats m 0 c).arrAt_eq_of_covers 2 _ (by decide +kernel) fun t hf y => ?_
  blk_simp
  rw [after0_2, out_last m c t]
  refine congrArg (whole (aA m c) (bA m c)) ?_
  blk_ext [idx2, at_, ib]

open Cert.Reference9Ideal.Read in
/-- The reference's result is the same sum. -/
theorem ref_eq (a : S256x1024.Idx → EReal) (b : S256x2048.Idx → EReal) : val_main_v8 (F := Ideal) a b = whole a b := by
  funext y
  refine (val_main_v8_apply (F := Ideal) a b y).trans ((val_main_v7_apply (F := Ideal) a b y).trans ((val_main_v6_apply (F := Ideal) a b _).trans
    ((val_main_v5_apply (F := Ideal) a b _).trans ((val_main_v4_apply a b _).trans (Finset.sum_congr rfl fun k _ => ?_)))))
  rw [mul_comm]
  have h0 : (y 0).val < 8 := (y 0).isLt
  have h1 : (y 1).val < 1024 := (y 1).isLt
  have h2 : (y 2).val < 256 := (y 2).isLt
  refine congrArg₂ (fun x y : EReal => x * y) (congrArg a (funext fun i => ?_)) (congrArg b (funext fun i => ?_))
  · match i with
    | ⟨0, _⟩ => rfl
    | ⟨1, _⟩ => apply Fin.ext; show (((y 1).val * 8 + (y 0).val) * 256 + (y 2).val) / 2048 = (y 1).val; omega
  · match i with
    | ⟨0, _⟩ => rfl
    | ⟨1, _⟩ => apply Fin.ext; show (((y 1).val * 8 + (y 0).val) * 256 + (y 2).val) % 2048 = 256 * (y 0).val + (y 2).val; omega

end Cert.Proof.Dxkv
end
-- ==== Proof.Fwd.lean ====
/- A square product of the forward pass: at every point one block of rows times the weights. -/
module

public import proofs.«01_k».proof.Proof.Sums
public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Fwd

open Idealize.ShloMosaic Idealize.ShloMosaic.TcCoe Cert.Kernel10Ideal Cert.Kernel10Ideal.Gen Cert.Kernel10Ideal.Value
open Idealize.SL Idealize.SL.Sem

/-- One block's product. -/
def prod (x0 : S2048x1024.Idx → EReal) (x1 : S1024x1024.Idx → EReal) : S2048x1024.Idx → EReal :=
  fun y => ∑ k : Fin 1024, x0 (ix2 (y 0) k) * x1 (ix2 k (y 1))

theorem pay2_apply (v3 : Vec Ideal S2048x1024 .f32) (x0 : Vec Ideal S2048x1024 .bf16) (x1 : Vec Ideal S1024x1024 .bf16) :
    k0_pay2 v3 x0 x1 = fun y => v3 y + prod x0 x1 y := by
  suffices H : ∀ (i : Fin 2048) (j : Fin 1024), k0_pay2 v3 x0 x1 (ix2 i j) = v3 (ix2 i j) + prod x0 x1 (ix2 i j) from
    funext fun y => by rw [eq_ix2 (n0 := 2048) (n1 := 1024) y]; exact H _ _
  intro i j
  pointwise [k0_pay2]
  rfl

theorem block_A (c : Dev nD) (t : Fin cfg0.N) (x0 : Vec Ideal S2048x1024 .bf16) (x1 : Vec Ideal S1024x1024 .bf16)
    (h0 : cond0_0 (grid0.coords t)) (h1 : cond0_1 (grid0.coords t)) :
    out0_A_2 (F := Ideal) c (grid0.coords t) (ms0_0 t) (hs0_0 t) (ms0_1 t) (hs0_1 t) (ms0_2 t) (hs0_2 t) scM0_0 (Memref.isWhole_whole _) h0 h1 x0 x1
      = prod x0 x1 := by
  unfold out0_A_2
  rw [View.read_writes_eq_canon _ _ _ (cover0_A_2 c (grid0.coords t) (ms0_0 t) (hs0_0 t) (ms0_1 t) (hs0_1 t) (ms0_2 t) (hs0_2 t) scM0_0 (Memref.isWhole_whole _) h0 h1 x0 x1)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, View.ld_unit_lit]
  rw [pay2_apply]
  funext y
  refine Eq.trans (congrArg (· + _) Ideal.ofBits_zero_f32) (zero_add _)

variable (m : (ℓ : Loc nD τ sig) → Buf (Elt Ideal) ℓ)

/-- The two factors of a device, as arrays of numbers. -/
abbrev aA (c : Dev nD) : S4096x1024.Idx → EReal := m ((c : Thread nD τ).loc main_arg0)
abbrev bA (c : Dev nD) : S1024x1024.Idx → EReal := m ((c : Thread nD τ).loc main_arg1)

/-- The whole product. -/
def whole (a : S4096x1024.Idx → EReal) (b : S1024x1024.Idx → EReal) : S4096x1024.Idx → EReal :=
  fun y => ∑ k : Fin 1024, a (ix2 (y 0) k) * b (ix2 k (y 1))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The block of results of a point. -/
def ib (t : Fin cfg0.N) : Fin 2 := ⟨t.val, Nat.lt_of_lt_of_eq t.isLt N_0⟩

theorem iblk0 (c : Dev nD) (t : Fin cfg0.N) :
    iblk m c 0 t = fun y : S2048x1024.Idx => aA m c (ix2 (at_ (by decide : 2 * 2048 = 4096) (ib t) (y 0)) (y 1)) := by
  funext y
  blk_simp [iblk]
  rw [V_main_arg0]
  refine congrArg (aA m c) ?_
  blk_ext [idx0, at_, ib]

theorem iblk1 (c : Dev nD) (t : Fin cfg0.N) :
    iblk m c 1 t = fun y : S1024x1024.Idx => bA m c (ix2 (y 0) (y 1)) := by
  funext y
  blk_simp [iblk]
  rw [V_main_arg1]
  refine congrArg (bA m c) ?_
  blk_ext [idx1, at_, ib]

theorem out_last (c : Dev nD) (t : Fin cfg0.N) :
    outsAt0 m c t = fun y : S2048x1024.Idx => whole (aA m c) (bA m c) (ix2 (at_ (by decide : 2 * 2048 = 4096) (ib t) (y 0)) (y 1)) := by
  refine Eq.trans (block_A c t (iblk m c 0 t) (iblk m c 1 t) (hcond0_0 t) (hcond0_1 t)) ?_
  rw [iblk0, iblk1]
  rfl

theorem final (c : Dev nD) : (dats m 0 c).arrAt 2 cfg0.N = whole (aA m c) (bA m c) := by
  refine (dats m 0 c).arrAt_eq_of_covers 2 _ (by decide +kernel) fun t hf y => ?_
  blk_simp
  rw [after0_2, out_last m c t]
  refine congrArg (whole (aA m c) (bA m c)) ?_
  blk_ext [idx2, at_, ib]

open Cert.Reference10Ideal.Read in
/-- The reference's result is the same sum. -/
theorem ref_eq (a : S4096x1024.Idx → EReal) (b : S1024x1024.Idx → EReal) : val_main_v1 (F := Ideal) a b = whole a b := by
  funext y
  refine ((val_main_v1_apply (F := Ideal) a b y).trans ((val_main_v0_apply a b _).trans
    (Finset.sum_congr rfl fun k _ => ?_)))
  refine congrArg₂ (fun x y : EReal => x * y) ((congrArg a (funext fun i => ?_))) ((congrArg b (funext fun i => ?_))) <;>
  match i with
  | ⟨0, _⟩ => rfl
  | ⟨1, _⟩ => rfl

end Cert.Proof.Fwd
end
-- ==== Proof.Kv.lean ====
/- The keys and values of the memory: at every point the memory times one block of the weights. -/
module

public import proofs.«01_k».proof.Proof.Sums
public import proofs.«01_k».proof.Proof.Gen.Kernel11Ideal.Value
public import proofs.«01_k».proof.Proof.Gen.Reference11Ideal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Kv

open Idealize.ShloMosaic Idealize.ShloMosaic.TcCoe Cert.Kernel11Ideal Cert.Kernel11Ideal.Gen Cert.Kernel11Ideal.Value
open Idealize.SL Idealize.SL.Sem

/-- One block's product. -/
def prod (x0 : S256x1024.Idx → EReal) (x1 : S1x1024x256.Idx → EReal) : S256x256.Idx → EReal :=
  fun y => ∑ k : Fin 1024, x0 (ix2 (y 0) k) * x1 (ix3 0 k (y 1))

theorem pay2_apply (v3 : Vec Ideal S256x256 .f32) (x0 : Vec Ideal S256x1024 .bf16) (x1 : Vec Ideal S1x1024x256 .bf16) :
    k0_pay2 v3 x0 x1 = fun y => v3 y + prod x0 x1 y := by
  suffices H : ∀ (i : Fin 256) (j : Fin 256), k0_pay2 v3 x0 x1 (ix2 i j) = v3 (ix2 i j) + prod x0 x1 (ix2 i j) from
    funext fun y => by rw [eq_ix2 (n0 := 256) (n1 := 256) y]; exact H _ _
  intro i j
  pointwise [k0_pay2]
  rfl

theorem block_A (c : Dev nD) (t : Fin cfg0.N) (x0 : Vec Ideal S256x1024 .bf16) (x1 : Vec Ideal S1x1024x256 .bf16)
    (h0 : cond0_0 (grid0.coords t)) (h1 : cond0_1 (grid0.coords t)) :
    out0_A_2 (F := Ideal) c (grid0.coords t) (ms0_0 t) (hs0_0 t) (ms0_1 t) (hs0_1 t) (ms0_2 t) (hs0_2 t) scM0_0 (Memref.isWhole_whole _) h0 h1 x0 x1
      = prod x0 x1 := by
  unfold out0_A_2
  rw [View.read_writes_eq_canon _ _ _ (cover0_A_2 c (grid0.coords t) (ms0_0 t) (hs0_0 t) (ms0_1 t) (hs0_1 t) (ms0_2 t) (hs0_2 t) scM0_0 (Memref.isWhole_whole _) h0 h1 x0 x1)]
  unfold kernelRun0_A
  dsimp only
  sl_unfold_words
  refine (View.canon_cons_unit_lit _ _ _ (by decide)).trans ?_
  simp (disch := first | rfl | decide | (intro a; fin_cases a <;> rfl)) only [View.readCov_fill, View.readAt_eq_ld, (hs0_0 t).read_unread, (hs0_1 t).read_unread, View.ld_unit_lit]
  rw [pay2_apply]
  funext y
  refine Eq.trans (congrArg (· + _) Ideal.ofBits_zero_f32) (zero_add _)

variable (m : (ℓ : Loc nD τ sig) → Buf (Elt Ideal) ℓ)

/-- The two factors of a device, as arrays of numbers. -/
abbrev aA (c : Dev nD) : S256x1024.Idx → EReal := m ((c : Thread nD τ).loc main_arg0)
abbrev bA (c : Dev nD) : S8x1024x256.Idx → EReal := m ((c : Thread nD τ).loc main_arg1)

/-- The block of columns a column lies in, and its place there. -/
def hi (k : Fin 2048) : Fin 8 := ⟨k.val / 256, by omega⟩
def lo (k : Fin 2048) : Fin 256 := ⟨k.val % 256, by omega⟩

/-- The whole product. -/
def whole (a : S256x1024.Idx → EReal) (b : S8x1024x256.Idx → EReal) : S256x2048.Idx → EReal :=
  fun y => ∑ k : Fin 1024, a (ix2 (y 0) k) * b (ix3 (hi (y 1)) k (lo (y 1)))

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, t.val] := (by decide +kernel : ∀ t : Fin grid0.N, _)

/-- The block of results of a point. -/
def ib (t : Fin cfg0.N) : Fin 8 := ⟨t.val, Nat.lt_of_lt_of_eq t.isLt N_0⟩

theorem iblk0 (c : Dev nD) (t : Fin cfg0.N) :
    iblk m c 0 t = fun y : S256x1024.Idx => aA m c (ix2 (y 0) (y 1)) := by
  funext y
  blk_simp [iblk]
  rw [V_main_arg0]
  refine congrArg (aA m c) ?_
  blk_ext [idx0, at_, ib]

theorem iblk1 (c : Dev nD) (t : Fin cfg0.N) :
    iblk m c 1 t = fun y : S1x1024x256.Idx => bA m c (ix3 (ib t) (y 1) (y 2)) := by
  funext y
  blk_simp [iblk]
  rw [V_main_arg1]
  refine congrArg (bA m c) ?_
  blk_ext [idx1, at_, ib]

theorem out_last (c : Dev nD) (t : Fin cfg0.N) :
    outsAt0 m c t = fun y : S256x256.Idx => whole (aA m c) (bA m c) (ix2 (y 0) (at_ (by decide : 8 * 256 = 2048) (ib t) (y 1))) := by
  refine Eq.trans (block_A c t (iblk m c 0 t) (iblk m c 1 t) (hcond0_0 t) (hcond0_1 t)) ?_
  rw [iblk0, iblk1]
  funext y
  refine Finset.sum_congr rfl fun k _ => congrArg (fun x : EReal => aA m c (ix2 (y 0) k) * x) (congrArg (bA m c) ?_)
  have e1 : hi (at_ (by decide : 8 * 256 = 2048) (ib t) (y 1)) = ib t := by
    have h : (y 1).val < 256 := (y 1).isLt
    apply Fin.ext; show (256 * (ib t).val + (y 1).val) / 256 = (ib t).val; omega
  have e2 : lo (at_ (by decide : 8 * 256 = 2048) (ib t) (y 1)) = y 1 := by
    have h : (y 1).val < 256 := (y 1).isLt
    apply Fin.ext; show (256 * (ib t).val + (y 1).val) % 256 = (y 1).val; omega
  show ix3 (ib t) k (y 1) = ix3 (hi (at_ (by decide : 8 * 256 = 2048) (ib t) (y 1))) k (lo (at_ (by decide : 8 * 256 = 2048) (ib t) (y 1)))
  rw [e1, e2]
  rfl

theorem final (c : Dev nD) : (dats m 0 c).arrAt 2 cfg0.N = whole (aA m c) (bA m c) := by
  refine (dats m 0 c).arrAt_eq_of_covers 2 _ (by decide +kernel) fun t hf y => ?_
  blk_simp
  rw [after0_2, out_last m c t]
  refine congrArg (whole (aA m c) (bA m c)) ?_
  blk_ext [idx2, at_, ib]

open Cert.Reference11Ideal.Read in
/-- The reference's result is the same sum. -/
theorem ref_eq (a : S256x1024.Idx → EReal) (b : S8x1024x256.Idx → EReal) : val_main_v3 (F := Ideal) a b = whole a b := by
  funext y
  refine (val_main_v3_apply (F := Ideal) a b y).trans ((val_main_v2_apply a b y).trans (Finset.sum_congr rfl fun k _ => ?_))
  refine congrArg₂ (fun x y : EReal => x * y) (congrArg a (funext fun i => ?_))
    ((val_main_v1_apply (F := Ideal) b _).trans ((val_main_v0_apply (F := Ideal) b _).trans (congrArg b (funext fun i => ?_))))
  · match i with
    | ⟨0, _⟩ => rfl
    | ⟨1, _⟩ => rfl
  · have h0 : (y 1).val < 2048 := (y 1).isLt
    have h1 : k.val < 1024 := k.isLt
    match i with
    | ⟨0, _⟩ => apply Fin.ext; show (k.val * 2048 + (y 1).val) / 256 % 8 = (y 1).val / 256; omega
    | ⟨1, _⟩ => apply Fin.ext; show (k.val * 2048 + (y 1).val) / 2048 = k.val; omega
    | ⟨2, _⟩ => apply Fin.ext; show (k.val * 2048 + (y 1).val) % 256 = (y 1).val % 256; omega

end Cert.Proof.Kv
end
-- ==== Proof.Products.lean ====
/- The value claims of the plain products: each program and its reference end with the same array. -/
module

public import proofs.«01_k».proof.Defs
public import proofs.«01_k».proof.Proof.Down
public import proofs.«01_k».proof.Proof.Gen.Reference3Ideal.Run
public import proofs.«01_k».proof.Proof.Up
public import proofs.«01_k».proof.Proof.Gen.Reference4Ideal.Run
public import proofs.«01_k».proof.Proof.Dh
public import proofs.«01_k».proof.Proof.Gen.Reference5Ideal.Run
public import proofs.«01_k».proof.Proof.Dw
public import proofs.«01_k».proof.Proof.Gen.Reference6Ideal.Run
public import proofs.«01_k».proof.Proof.Dx
public import proofs.«01_k».proof.Proof.Gen.Reference7Ideal.Run
public import proofs.«01_k».proof.Proof.Dmem
public import proofs.«01_k».proof.Proof.Gen.Reference8Ideal.Run
public import proofs.«01_k».proof.Proof.Dxkv
public import proofs.«01_k».proof.Proof.Gen.Reference9Ideal.Run
public import proofs.«01_k».proof.Proof.Fwd
public import proofs.«01_k».proof.Proof.Gen.Reference10Ideal.Run
public import proofs.«01_k».proof.Proof.Kv
public import proofs.«01_k».proof.Proof.Gen.Reference11Ideal.Run

@[expose] public section

set_option maxRecDepth 16384

noncomputable section

open Idealize.ShloMosaic Idealize.ShloMosaic.TcCoe Idealize.SL.Sem

namespace Cert.Proof.Down

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The gradient of `w_down`. -/
theorem algebraic : Cert.algebraic_Kernel3Ideal_Reference3Ideal := by
  intro m g m' g' hpre hagree
  refine ⟨fun c => whole (aA m c) (bA m c), ?_, ?_⟩
  · refine (θ_run Cert.Kernel3Ideal.defs _ _).mono (fun r h c => ?_) (Cert.Kernel3Ideal.Value.run_blocks (F := Ideal) m g)
    exact ⟨(h c).1.trans (final m c), (h c).2⟩
  · refine (θ_run Cert.Reference3Ideal.defs _ _).mono (fun r h c => ?_) (Cert.Reference3Ideal.Value.run (F := Ideal) m' g')
    refine ⟨(h c).1.trans ?_, (h c).2⟩
    rw [Cert.Reference3Ideal.Read.val_main_v6_eq, (hagree c).1, (hagree c).2]
    exact ref_eq (aA m c) (bA m c)

end Cert.Proof.Down

namespace Cert.Proof.Up

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gradient of `w_up`. -/
theorem algebraic : Cert.algebraic_Kernel4Ideal_Reference4Ideal := by
  intro m g m' g' hpre hagree
  refine ⟨fun c => whole (aA m c) (gA m c) (uA m c), ?_, ?_⟩
  · refine (θ_run Cert.Kernel4Ideal.defs _ _).mono (fun r h c => ?_) (Cert.Kernel4Ideal.Value.run_blocks (F := Ideal) m g)
    exact ⟨(h c).1.trans (final m c), (h c).2⟩
  · refine (θ_run Cert.Reference4Ideal.defs _ _).mono (fun r h c => ?_) (Cert.Reference4Ideal.Value.run (F := Ideal) m' g')
    refine ⟨(h c).1.trans ?_, (h c).2⟩
    rw [Cert.Reference4Ideal.Read.val_main_v9_eq, (hagree c).1, (hagree c).2.1, (hagree c).2.2]
    exact ref_eq (aA m c) (gA m c) (uA m c)

end Cert.Proof.Up

namespace Cert.Proof.Dh

theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gradient of the input of the two projections. -/
theorem algebraic : Cert.algebraic_Kernel5Ideal_Reference5Ideal := by
  intro m g m' g' hpre hagree
  refine ⟨fun c => whole (gA m c) (uA m c) (wA m c), ?_, ?_⟩
  · refine (θ_run Cert.Kernel5Ideal.defs _ _).mono (fun r h c => ?_) (Cert.Kernel5Ideal.Value.run_blocks (F := Ideal) m g)
    exact ⟨(h c).1.trans (final m c), (h c).2⟩
  · refine (θ_run Cert.Reference5Ideal.defs _ _).mono (fun r h c => ?_) (Cert.Reference5Ideal.Value.run (F := Ideal) m' g')
    refine ⟨(h c).1.trans ?_, (h c).2⟩
    rw [Cert.Reference5Ideal.Read.val_main_v7_eq, (hagree c).1, (hagree c).2.1, (hagree c).2.2]
    exact ref_eq (gA m c) (uA m c) (wA m c)

end Cert.Proof.Dh

namespace Cert.Proof.Dw

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient of square weights. -/
theorem algebraic : Cert.algebraic_Kernel6Ideal_Reference6Ideal := by
  intro m g m' g' hpre hagree
  refine ⟨fun c => whole (aA m c) (bA m c), ?_, ?_⟩
  · refine (θ_run Cert.Kernel6Ideal.defs _ _).mono (fun r h c => ?_) (Cert.Kernel6Ideal.Value.run_blocks (F := Ideal) m g)
    exact ⟨(h c).1.trans (final m c), (h c).2⟩
  · refine (θ_run Cert.Reference6Ideal.defs _ _).mono (fun r h c => ?_) (Cert.Reference6Ideal.Value.run (F := Ideal) m' g')
    refine ⟨(h c).1.trans ?_, (h c).2⟩
    rw [Cert.Reference6Ideal.Read.val_main_v6_eq, (hagree c).1, (hagree c).2]
    exact ref_eq (aA m c) (bA m c)

end Cert.Proof.Dw

namespace Cert.Proof.Dx

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The gradient of an input of a square product. -/
theorem algebraic : Cert.algebraic_Kernel7Ideal_Reference7Ideal := by
  intro m g m' g' hpre hagree
  refine ⟨fun c => whole (aA m c) (bA m c), ?_, ?_⟩
  · refine (θ_run Cert.Kernel7Ideal.defs _ _).mono (fun r h c => ?_) (Cert.Kernel7Ideal.Value.run_blocks (F := Ideal) m g)
    exact ⟨(h c).1.trans (final m c), (h c).2⟩
  · refine (θ_run Cert.Reference7Ideal.defs _ _).mono (fun r h c => ?_) (Cert.Reference7Ideal.Value.run (F := Ideal) m' g')
    refine ⟨(h c).1.trans ?_, (h c).2⟩
    rw [Cert.Reference7Ideal.Read.val_main_v5_eq, (hagree c).1, (hagree c).2]
    exact ref_eq (aA m c) (bA m c)

end Cert.Proof.Dx

namespace Cert.Proof.Dmem

theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The gradient of the memory. -/
theorem algebraic : Cert.algebraic_Kernel8Ideal_Reference8Ideal := by
  intro m g m' g' hpre hagree
  refine ⟨fun c => whole (aA m c) (bA m c), ?_, ?_⟩
  · refine (θ_run Cert.Kernel8Ideal.defs _ _).mono (fun r h c => ?_) (Cert.Kernel8Ideal.Value.run_blocks (F := Ideal) m g)
    exact ⟨(h c).1.trans (final m c), (h c).2⟩
  · refine (θ_run Cert.Reference8Ideal.defs _ _).mono (fun r h c => ?_) (Cert.Reference8Ideal.Value.run (F := Ideal) m' g')
    refine ⟨(h c).1.trans ?_, (h c).2⟩
    rw [Cert.Reference8Ideal.Read.val_main_v6_eq, (hagree c).1, (hagree c).2]
    exact ref_eq (aA m c) (bA m c)

end Cert.Proof.Dmem

namespace Cert.Proof.Dxkv

theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The gradient of the memory weights. -/
theorem algebraic : Cert.algebraic_Kernel9Ideal_Reference9Ideal := by
  intro m g m' g' hpre hagree
  refine ⟨fun c => whole (aA m c) (bA m c), ?_, ?_⟩
  · refine (θ_run Cert.Kernel9Ideal.defs _ _).mono (fun r h c => ?_) (Cert.Kernel9Ideal.Value.run_blocks (F := Ideal) m g)
    exact ⟨(h c).1.trans (final m c), (h c).2⟩
  · refine (θ_run Cert.Reference9Ideal.defs _ _).mono (fun r h c => ?_) (Cert.Reference9Ideal.Value.run (F := Ideal) m' g')
    refine ⟨(h c).1.trans ?_, (h c).2⟩
    rw [Cert.Reference9Ideal.Read.val_main_v8_eq, (hagree c).1, (hagree c).2]
    exact ref_eq (aA m c) (bA m c)

end Cert.Proof.Dxkv

namespace Cert.Proof.Fwd

theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- A square product of the forward pass. -/
theorem algebraic : Cert.algebraic_Kernel10Ideal_Reference10Ideal := by
  intro m g m' g' hpre hagree
  refine ⟨fun c => whole (aA m c) (bA m c), ?_, ?_⟩
  · refine (θ_run Cert.Kernel10Ideal.defs _ _).mono (fun r h c => ?_) (Cert.Kernel10Ideal.Value.run_blocks (F := Ideal) m g)
    exact ⟨(h c).1.trans (final m c), (h c).2⟩
  · refine (θ_run Cert.Reference10Ideal.defs _ _).mono (fun r h c => ?_) (Cert.Reference10Ideal.Value.run (F := Ideal) m' g')
    refine ⟨(h c).1.trans ?_, (h c).2⟩
    rw [Cert.Reference10Ideal.Read.val_main_v1_eq, (hagree c).1, (hagree c).2]
    exact ref_eq (aA m c) (bA m c)

end Cert.Proof.Fwd

namespace Cert.Proof.Kv

theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The keys and values of the memory. -/
theorem algebraic : Cert.algebraic_Kernel11Ideal_Reference11Ideal := by
  intro m g m' g' hpre hagree
  refine ⟨fun c => whole (aA m c) (bA m c), ?_, ?_⟩
  · refine (θ_run Cert.Kernel11Ideal.defs _ _).mono (fun r h c => ?_) (Cert.Kernel11Ideal.Value.run_blocks (F := Ideal) m g)
    exact ⟨(h c).1.trans (final m c), (h c).2⟩
  · refine (θ_run Cert.Reference11Ideal.defs _ _).mono (fun r h c => ?_) (Cert.Reference11Ideal.Value.run (F := Ideal) m' g')
    refine ⟨(h c).1.trans ?_, (h c).2⟩
    rw [Cert.Reference11Ideal.Read.val_main_v3_eq, (hagree c).1, (hagree c).2]
    exact ref_eq (aA m c) (bA m c)

end Cert.Proof.Kv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite_scores
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.XaClaim
public import proofs.«01_k».proof.Proof.FfnFrame
public import proofs.«01_k».proof.Proof.FfnClaim
public import proofs.«01_k».proof.Proof.FwdClaim
public import proofs.«01_k».proof.Proof.Products
public import Idealize.ShloMosaic.Adequacy
public import Idealize.ShloMosaic.Init
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read

@[expose] public section

noncomputable section

namespace Cert.Proof

open Idealize.ShloMosaic Idealize.SL.Sem Cert.Kernel

/-- The frames, that the idealizations keep the kernels, and the value claims of the cross-attention's gradient, of the
    feed-forward gradient, of the plain products and of the feed-forward pass up to its second product. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Pre_finite_scores.Gen.facts, Cert.Pre_finite.Gen.facts,
   fun m ρ _ => Cert.Kernel.Gen.frame m ρ, fun m ρ _ => Cert.KernelIdeal.Gen.frame m ρ, fun m ρ _ => Cert.KernelIdeal.Gen.frame m ρ, Xa.frame_ri, Xa.frame_ri_pre,
   fun m ρ _ => Cert.Kernel2.Gen.frame m ρ, fun m ρ _ => Cert.Kernel2Ideal.Gen.frame m ρ, Ffn.frame_ki_pre, Ffn.frame_ri, Ffn.frame_ri_pre,
   fun m ρ _ => Cert.Kernel3.Gen.frame m ρ, fun m ρ _ => Cert.Kernel3Ideal.Gen.frame m ρ, Down.frame_ri,
   fun m ρ _ => Cert.Kernel4.Gen.frame m ρ, fun m ρ _ => Cert.Kernel4Ideal.Gen.frame m ρ, Up.frame_ri,
   fun m ρ _ => Cert.Kernel5.Gen.frame m ρ, fun m ρ _ => Cert.Kernel5Ideal.Gen.frame m ρ, Dh.frame_ri,
   fun m ρ _ => Cert.Kernel6.Gen.frame m ρ, fun m ρ _ => Cert.Kernel6Ideal.Gen.frame m ρ, Dw.frame_ri,
   fun m ρ _ => Cert.Kernel7.Gen.frame m ρ, fun m ρ _ => Cert.Kernel7Ideal.Gen.frame m ρ, Dx.frame_ri,
   fun m ρ _ => Cert.Kernel8.Gen.frame m ρ, fun m ρ _ => Cert.Kernel8Ideal.Gen.frame m ρ, Dmem.frame_ri,
   fun m ρ _ => Cert.Kernel9.Gen.frame m ρ, fun m ρ _ => Cert.Kernel9Ideal.Gen.frame m ρ, Dxkv.frame_ri,
   fun m ρ _ => Cert.Kernel10.Gen.frame m ρ, fun m ρ _ => Cert.Kernel10Ideal.Gen.frame m ρ, Fwd.frame_ri,
   fun m ρ _ => Cert.Kernel11.Gen.frame m ρ, fun m ρ _ => Cert.Kernel11Ideal.Gen.frame m ρ, Kv.frame_ri,
   fun m ρ _ => Cert.Kernel12.Gen.frame m ρ, fun m ρ _ => Cert.Kernel12Ideal.Gen.frame m ρ, FfnFwd.frame_ri,
   trivial, Xa.algebraic, Ffn.preserves, Ffn.algebraic,
   trivial, Down.algebraic,
   trivial, Up.algebraic,
   trivial, Dh.algebraic,
   trivial, Dw.algebraic,
   trivial, Dx.algebraic,
   trivial, Dmem.algebraic,
   trivial, Dxkv.algebraic,
   trivial, Fwd.algebraic,
   trivial, Kv.algebraic,
   FfnFwd.preserves, FfnFwd.algebraic⟩

end Cert.Proof

end
